-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)) →
    ∃ (v0 : (c : Dev Cert.TailIdeal.nD) → Buf (Elt Ideal) ((c.tc : Thread Cert.TailIdeal.nD Cert.TailIdeal.τ).loc Cert.TailIdeal.main_v2)) (v1 : (c : Dev Cert.TailIdeal.nD) → Buf (Elt Ideal) ((c.tc : Thread Cert.TailIdeal.nD Cert.TailIdeal.τ).loc Cert.TailIdeal.main_v3)) (v2 : (c : Dev Cert.TailIdeal.nD) → Buf (Elt Ideal) ((c.tc : Thread Cert.TailIdeal.nD Cert.TailIdeal.τ).loc Cert.TailIdeal.main_v4)) (v3 : (c : Dev Cert.TailIdeal.nD) → Buf (Elt Ideal) ((c.tc : Thread Cert.TailIdeal.nD Cert.TailIdeal.τ).loc Cert.TailIdeal.main_v5)) (v4 : (c : Dev Cert.TailIdeal.nD) → Buf (Elt Ideal) ((c.tc : Thread Cert.TailIdeal.nD Cert.TailIdeal.τ).loc Cert.TailIdeal.main_v6)) (v5 : (c : Dev Cert.TailIdeal.nD) → Buf (Elt Ideal) ((c.tc : Thread Cert.TailIdeal.nD Cert.TailIdeal.τ).loc Cert.TailIdeal.main_v7)) (v6 : (c : Dev Cert.TailIdeal.nD) → Buf (Elt Ideal) ((c.tc : Thread Cert.TailIdeal.nD Cert.TailIdeal.τ).loc Cert.TailIdeal.main_v8)) (v7 : (c : Dev Cert.TailIdeal.nD) → Buf (Elt Ideal) ((c.tc : Thread Cert.TailIdeal.nD Cert.TailIdeal.τ).loc Cert.TailIdeal.main_v9)) (v8 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2) = v0 c
          ∧ r.2.mem ((c.tc : Thread Cert.TailIdeal.nD Cert.TailIdeal.τ).loc Cert.TailIdeal.main_v3) = v1 c
          ∧ r.2.mem ((c.tc : Thread Cert.TailIdeal.nD Cert.TailIdeal.τ).loc Cert.TailIdeal.main_v4) = v2 c
          ∧ r.2.mem ((c.tc : Thread Cert.TailIdeal.nD Cert.TailIdeal.τ).loc Cert.TailIdeal.main_v5) = v3 c
          ∧ r.2.mem ((c.tc : Thread Cert.TailIdeal.nD Cert.TailIdeal.τ).loc Cert.TailIdeal.main_v6) = v4 c
          ∧ r.2.mem ((c.tc : Thread Cert.TailIdeal.nD Cert.TailIdeal.τ).loc Cert.TailIdeal.main_v7) = v5 c
          ∧ r.2.mem ((c.tc : Thread Cert.TailIdeal.nD Cert.TailIdeal.τ).loc Cert.TailIdeal.main_v8) = v6 c
          ∧ r.2.mem ((c.tc : Thread Cert.TailIdeal.nD Cert.TailIdeal.τ).loc Cert.TailIdeal.main_v9) = v7 c
          ∧ r.2.mem ((c.tc : Thread Cert.TailIdeal.nD Cert.TailIdeal.τ).loc Cert.TailIdeal.main_v10) = v8 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v1_0) = v0 c
          ∧ r.2.mem ((c.tc : Thread Cert.TailReferenceIdeal.nD Cert.TailReferenceIdeal.τ).loc Cert.TailReferenceIdeal.main_v1_1) = v1 c
          ∧ r.2.mem ((c.tc : Thread Cert.TailReferenceIdeal.nD Cert.TailReferenceIdeal.τ).loc Cert.TailReferenceIdeal.main_v1_2) = v2 c
          ∧ r.2.mem ((c.tc : Thread Cert.TailReferenceIdeal.nD Cert.TailReferenceIdeal.τ).loc Cert.TailReferenceIdeal.main_v1_3) = v3 c
          ∧ r.2.mem ((c.tc : Thread Cert.TailReferenceIdeal.nD Cert.TailReferenceIdeal.τ).loc Cert.TailReferenceIdeal.main_v1_4) = v4 c
          ∧ r.2.mem ((c.tc : Thread Cert.TailReferenceIdeal.nD Cert.TailReferenceIdeal.τ).loc Cert.TailReferenceIdeal.main_v1_5) = v5 c
          ∧ r.2.mem ((c.tc : Thread Cert.TailReferenceIdeal.nD Cert.TailReferenceIdeal.τ).loc Cert.TailReferenceIdeal.main_v1_6) = v6 c
          ∧ r.2.mem ((c.tc : Thread Cert.TailReferenceIdeal.nD Cert.TailReferenceIdeal.τ).loc Cert.TailReferenceIdeal.main_v1_7) = v7 c
          ∧ r.2.mem ((c.tc : Thread Cert.TailReferenceIdeal.nD Cert.TailReferenceIdeal.τ).loc Cert.TailReferenceIdeal.main_v1_8) = v8 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v10) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hAttn : Cert.Attn.Facts) (hAttnIdeal : Cert.AttnIdeal.Facts) (hAttnReferenceIdeal : Cert.AttnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Tail (hTail := hTail)
    ∧ quiescent_TailIdeal (hTailIdeal := hTailIdeal)
    ∧ quiescent_TailReferenceIdeal (hTailReferenceIdeal := hTailReferenceIdeal)
    ∧ quiescent_Attn (hAttn := hAttn)
    ∧ quiescent_AttnIdeal (hAttnIdeal := hAttnIdeal)
    ∧ quiescent_AttnReferenceIdeal (hAttnReferenceIdeal := hAttnReferenceIdeal)
    ∧ preserves_Kernel_KernelIdeal
    ∧ algebraic_KernelIdeal_ReferenceIdeal (hKernelIdeal := hKernelIdeal) (hReferenceIdeal := hReferenceIdeal)
    ∧ preserves_Tail_TailIdeal
    ∧ algebraic_TailIdeal_TailReferenceIdeal (hTailIdeal := hTailIdeal) (hTailReferenceIdeal := hTailReferenceIdeal)
    ∧ preserves_Attn_AttnIdeal
    ∧ algebraic_AttnIdeal_AttnReferenceIdeal (hAttnIdeal := hAttnIdeal) (hAttnReferenceIdeal := hAttnReferenceIdeal)
-- ==== Kernel.lean ====
abbrev S32x2048x1024 : Shape := ⟨3, ![32, 2048, 1024]⟩
abbrev S1024x16x64 : Shape := ⟨3, ![1024, 16, 64]⟩
abbrev S16 : Shape := ⟨1, ![16]⟩
abbrev S16x64 : Shape := ⟨2, ![16, 64]⟩
abbrev S16x64x1024 : Shape := ⟨3, ![16, 64, 1024]⟩
abbrev S1024x1024 : Shape := ⟨2, ![1024, 1024]⟩
abbrev S1024 : Shape := ⟨1, ![1024]⟩
abbrev S1024x1 : Shape := ⟨2, ![1024, 1]⟩
abbrev S32x1x2048 : Shape := ⟨3, ![32, 1, 2048]⟩
abbrev S32x1024x2048 : Shape := ⟨3, ![32, 1024, 2048]⟩
abbrev S32x16x2048 : Shape := ⟨3, ![32, 16, 2048]⟩
abbrev S1x512x1024 : Shape := ⟨3, ![1, 512, 1024]⟩
abbrev S1x1x512 : Shape := ⟨3, ![1, 1, 512]⟩
abbrev S1x1024x512 : Shape := ⟨3, ![1, 1024, 512]⟩
abbrev S1x16x512 : Shape := ⟨3, ![1, 16, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S128 : Shape := ⟨1, ![128]⟩
abbrev S1x128 : Shape := ⟨2, ![1, 128]⟩
abbrev S1x512 : Shape := ⟨2, ![1, 512]⟩
abbrev S64x1024 : Shape := ⟨2, ![64, 1024]⟩
abbrev S64x512 : Shape := ⟨2, ![64, 512]⟩
abbrev S64x1 : Shape := ⟨2, ![64, 1]⟩
abbrev S1x64x512 : Shape := ⟨3, ![1, 64, 512]⟩
abbrev S32x2048 : Shape := ⟨2, ![32, 2048]⟩
abbrev S32x16x64x2048 : Shape := ⟨4, ![32, 16, 64, 2048]⟩
abbrev S32x2048x16x64 : Shape := ⟨4, ![32, 2048, 16, 64]⟩
abbrev S32x2048x16 : Shape := ⟨3, ![32, 2048, 16]⟩

abbrev nBuf : Space → Nat
  | .hbm => 30
  | .vmem => 19
  | .smem => 0
  | _ => 0

abbrev bufTy : (tb : Table) → Fin (tcTables nBuf tb) → BufTy
  | .hbm, ⟨0, _⟩ => ⟨S32x2048x1024, .bf16⟩
  | .hbm, ⟨1, _⟩ => ⟨S1024x16x64, .fp8e4m3⟩
  | .hbm, ⟨2, _⟩ => ⟨S16, .f32⟩
  | .hbm, ⟨3, _⟩ => ⟨S1024x16x64, .fp8e4m3⟩
  | .hbm, ⟨4, _⟩ => ⟨S16, .f32⟩
  | .hbm, ⟨5, _⟩ => ⟨S16x64, .f32⟩
  | .hbm, ⟨6, _⟩ => ⟨S16x64x1024, .fp8e4m3⟩
  | .hbm, ⟨7, _⟩ => ⟨S1024x1024, .fp8e4m3⟩
  | .hbm, ⟨8, _⟩ => ⟨S16x64x1024, .fp8e4m3⟩
  | .hbm, ⟨9, _⟩ => ⟨S1024x1024, .fp8e4m3⟩
  | .hbm, ⟨10, _⟩ => ⟨S16x64, .f32⟩
  | .hbm, ⟨11, _⟩ => ⟨S1024, .f32⟩
  | .hbm, ⟨12, _⟩ => ⟨S1024x1, .f32⟩
  | .hbm, ⟨13, _⟩ => ⟨S16x64, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S32x2048x1024, .fp8e4m3⟩
  | .hbm, ⟨18, _⟩ => ⟨S32x1x2048, .f32⟩
  | .hbm, ⟨19, _⟩ => ⟨S32x1024x2048, .fp8e4m3⟩
  | .hbm, ⟨20, _⟩ => ⟨S32x16x2048, .f32⟩
  | .hbm, ⟨21, _⟩ => ⟨S32x1024x2048, .fp8e4m3⟩
  | .hbm, ⟨22, _⟩ => ⟨S32x16x2048, .f32⟩
  | .hbm, ⟨23, _⟩ => ⟨S32x2048, .f32⟩
  | .hbm, ⟨24, _⟩ => ⟨S32x16x64x2048, .fp8e4m3⟩
  | .hbm, ⟨25, _⟩ => ⟨S32x2048x16x64, .fp8e4m3⟩
  | .hbm, ⟨26, _⟩ => ⟨S32x2048x16, .f32⟩
  | .hbm, ⟨27, _⟩ => ⟨S32x16x64x2048, .fp8e4m3⟩
  | .hbm, ⟨28, _⟩ => ⟨S32x2048x16x64, .fp8e4m3⟩
  | .hbm, ⟨29, _⟩ => ⟨S32x2048x16, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .fp8e4m3⟩
  | .local _ .vmem, ⟨3, _⟩ => ⟨S1024x1, .f32⟩
  | .local _ .vmem, ⟨4, _⟩ => ⟨S1024x1024, .fp8e4m3⟩
  | .local _ .vmem, ⟨5, _⟩ => ⟨S1024x1, .f32⟩
  | .local _ .vmem, ⟨6, _⟩ => ⟨S1024x1, .f32⟩
  | .local _ .vmem, ⟨7, _⟩ => ⟨S1x512x1024, .fp8e4m3⟩
  | .local _ .vmem, ⟨8, _⟩ => ⟨S1x512x1024, .fp8e4m3⟩
  | .local _ .vmem, ⟨9, _⟩ => ⟨S1x1x512, .f32⟩
  | .local _ .vmem, ⟨10, _⟩ => ⟨S1x1x512, .f32⟩
  | .local _ .vmem, ⟨11, _⟩ => ⟨S1x1024x512, .fp8e4m3⟩
  | .local _ .vmem, ⟨12, _⟩ => ⟨S1x1024x512, .fp8e4m3⟩
  | .local _ .vmem, ⟨13, _⟩ => ⟨S1x16x512, .f32⟩
  | .local _ .vmem, ⟨14, _⟩ => ⟨S1x16x512, .f32⟩
  | .local _ .vmem, ⟨15, _⟩ => ⟨S1x1024x512, .fp8e4m3⟩
  | .local _ .vmem, ⟨16, _⟩ => ⟨S1x1024x512, .fp8e4m3⟩
  | .local _ .vmem, ⟨17, _⟩ => ⟨S1x16x512, .f32⟩
  | .local _ .vmem, ⟨18, _⟩ => ⟨S1x16x512, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32x2048x1024 : Shape := ⟨3, ![32, 2048, 1024]⟩
abbrev S1024x16x64 : Shape := ⟨3, ![1024, 16, 64]⟩
abbrev S16 : Shape := ⟨1, ![16]⟩
abbrev S16x64 : Shape := ⟨2, ![16, 64]⟩
abbrev S1024x1024 : Shape := ⟨2, ![1024, 1024]⟩
abbrev S32x2048 : Shape := ⟨2, ![32, 2048]⟩
abbrev S32x2048x16x64 : Shape := ⟨4, ![32, 2048, 16, 64]⟩
abbrev S32x2048x16 : Shape := ⟨3, ![32, 2048, 16]⟩
abbrev S32x2048x252 : Shape := ⟨3, ![32, 2048, 252]⟩
abbrev S32x2048x1 : Shape := ⟨3, ![32, 2048, 1]⟩
abbrev S65536x1024 : Shape := ⟨2, ![65536, 1024]⟩
abbrev S32x2048x1x1 : Shape := ⟨4, ![32, 2048, 1, 1]⟩
abbrev S1x1x16x1 : Shape := ⟨4, ![1, 1, 16, 1]⟩
abbrev S32x2048x16x252 : Shape := ⟨4, ![32, 2048, 16, 252]⟩
abbrev S32x2048x16x1 : Shape := ⟨4, ![32, 2048, 16, 1]⟩
abbrev S1x1x16x64 : Shape := ⟨4, ![1, 1, 16, 64]⟩

abbrev nBuf : Space → Nat
  | .hbm => 14
  | .vmem => 12
  | .smem => 0
  | _ => 0

abbrev bufTy : (tb : Table) → Fin (tcTables nBuf tb) → BufTy
  | .hbm, ⟨0, _⟩ => ⟨S32x2048x1024, .bf16⟩
  | .hbm, ⟨1, _⟩ => ⟨S1024x16x64, .fp8e4m3⟩
  | .hbm, ⟨2, _⟩ => ⟨S16, .f32⟩
  | .hbm, ⟨3, _⟩ => ⟨S1024x16x64, .fp8e4m3⟩
  | .hbm, ⟨4, _⟩ => ⟨S16, .f32⟩
  | .hbm, ⟨5, _⟩ => ⟨S16x64, .f32⟩
  | .hbm, ⟨6, _⟩ => ⟨S1024x1024, .fp8e4m3⟩
  | .hbm, ⟨7, _⟩ => ⟨S1024x1024, .fp8e4m3⟩
  | .hbm, ⟨8, _⟩ => ⟨S32x2048x1024, .fp8e4m3⟩
  | .hbm, ⟨9, _⟩ => ⟨S32x2048, .f32⟩
  | .hbm, ⟨10, _⟩ => ⟨S32x2048x16x64, .fp8e4m3⟩
  | .hbm, ⟨11, _⟩ => ⟨S32x2048x16, .f32⟩
  | .hbm, ⟨12, _⟩ => ⟨S32x2048x16x64, .fp8e4m3⟩
  | .hbm, ⟨13, _⟩ => ⟨S32x2048x16, .f32⟩
  | .local _ .vmem, ⟨0, _⟩ => ⟨S32x2048x1024, .bf16⟩
  | .local _ .vmem, ⟨1, _⟩ => ⟨S1024x1024, .fp8e4m3⟩
  | .local _ .vmem, ⟨2, _⟩ => ⟨S16, .f32⟩
  | .local _ .vmem, ⟨3, _⟩ => ⟨S1024x1024, .fp8e4m3⟩
  | .local _ .vmem, ⟨4, _⟩ => ⟨S16, .f32⟩
  | .local _ .vmem, ⟨5, _⟩ => ⟨S16x64, .f32⟩
  | .local _ .vmem, ⟨6, _⟩ => ⟨S32x2048x1024, .fp8e4m3⟩
  | .local _ .vmem, ⟨7, _⟩ => ⟨S32x2048, .f32⟩
  | .local _ .vmem, ⟨8, _⟩ => ⟨S32x2048x16x64, .fp8e4m3⟩
  | .local _ .vmem, ⟨9, _⟩ => ⟨S32x2048x16, .f32⟩
  | .local _ .vmem, ⟨10, _⟩ => ⟨S32x2048x16x64, .fp8e4m3⟩
  | .local _ .vmem, ⟨11, _⟩ => ⟨S32x2048x16, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2048x16x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2048x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x2048x16x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x2048x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Tail.lean ====
abbrev S32x8x1024 : Shape := ⟨3, ![32, 8, 1024]⟩
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1 : Shape := ⟨1, ![1]⟩
abbrev S256x1 : Shape := ⟨2, ![256, 1]⟩
abbrev S256x4096 : Shape := ⟨2, ![256, 4096]⟩
abbrev S256 : Shape := ⟨1, ![256]⟩
abbrev S1x1024 : Shape := ⟨2, ![1, 1024]⟩
abbrev S1x4096 : Shape := ⟨2, ![1, 4096]⟩
abbrev S1x1 : Shape := ⟨2, ![1, 1]⟩
abbrev S32x8 : Shape := ⟨2, ![32, 8]⟩
abbrev S32x8x4096 : Shape := ⟨3, ![32, 8, 4096]⟩

abbrev nBuf : Space → Nat
  | .hbm => 38
  | .vmem => 28
  | .smem => 0
  | _ => 0

abbrev bufTy : (tb : Table) → Fin (tcTables nBuf tb) → BufTy
  | .hbm, ⟨0, _⟩ => ⟨S32x8x1024, .f32⟩
  | .hbm, ⟨1, _⟩ => ⟨S256x1024, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .fp8e4m3⟩
  | .hbm, ⟨8, _⟩ => ⟨S4096, .f32⟩
  | .hbm, ⟨9, _⟩ => ⟨S4096, .f32⟩
  | .hbm, ⟨10, _⟩ => ⟨S4096x1024, .fp8e4m3⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1, .f32⟩
  | .hbm, ⟨19, _⟩ => ⟨S256x1024, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S256x1024, .fp8e4m3⟩
  | .hbm, ⟨24, _⟩ => ⟨S256x1, .f32⟩
  | .hbm, ⟨25, _⟩ => ⟨S256x1024, .fp8e4m3⟩
  | .hbm, ⟨26, _⟩ => ⟨S256x1, .f32⟩
  | .hbm, ⟨27, _⟩ => ⟨S256x4096, .fp8e4m3⟩
  | .hbm, ⟨28, _⟩ => ⟨S256x1, .f32⟩
  | .hbm, ⟨29, _⟩ => ⟨S32x8, .f32⟩
  | .hbm, ⟨30, _⟩ => ⟨S32x8x1024, .f32⟩
  | .hbm, ⟨31, _⟩ => ⟨S32x8x1024, .f32⟩
  | .hbm, ⟨32, _⟩ => ⟨S32x8x1024, .fp8e4m3⟩
  | .hbm, ⟨33, _⟩ => ⟨S32x8, .f32⟩
  | .hbm, ⟨34, _⟩ => ⟨S32x8x1024, .fp8e4m3⟩
  | .hbm, ⟨35, _⟩ => ⟨S32x8, .f32⟩
  | .hbm, ⟨36, _⟩ => ⟨S32x8x4096, .fp8e4m3⟩
  | .hbm, ⟨37, _⟩ => ⟨S32x8, .f32⟩
  | .local _ .vmem, ⟨0, _⟩ => ⟨S256x1024, .f32⟩
  | .local _ .vmem, ⟨1, _⟩ => ⟨S256x1024, .f32⟩
  | .local _ .vmem, ⟨2, _⟩ => ⟨S1024x1024, .fp8e4m3⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024x4096, .fp8e4m3⟩
  | .local _ .vmem, ⟨8, _⟩ => ⟨S4096, .f32⟩
  | .local _ .vmem, ⟨9, _⟩ => ⟨S4096, .f32⟩
  | .local _ .vmem, ⟨10, _⟩ => ⟨S4096x1024, .fp8e4m3⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024x1024, .f32⟩
  | .local _ .vmem, ⟨16, _⟩ => ⟨S1024, .f32⟩
  | .local _ .vmem, ⟨17, _⟩ => ⟨S1024, .f32⟩
  | .local _ .vmem, ⟨18, _⟩ => ⟨S1, .f32⟩
  | .local _ .vmem, ⟨19, _⟩ => ⟨S256x1, .f32⟩
  | .local _ .vmem, ⟨20, _⟩ => ⟨S256x1024, .f32⟩
  | .local _ .vmem, ⟨21, _⟩ => ⟨S256x1024, .f32⟩
  | .local _ .vmem, ⟨22, _⟩ => ⟨S256x1024, .fp8e4m3⟩
  | .local _ .vmem, ⟨23, _⟩ => ⟨S256x1, .f32⟩
  | .local _ .vmem, ⟨24, _⟩ => ⟨S256x1024, .fp8e4m3⟩
  | .local _ .vmem, ⟨25, _⟩ => ⟨S256x1, .f32⟩
  | .local _ .vmem, ⟨26, _⟩ => ⟨S256x4096, .fp8e4m3⟩
  | .local _ .vmem, ⟨27, _⟩ => ⟨S256x1, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v1_4 : Ref sig .tc := ⟨.hbm, 24, rfl⟩
abbrev main_v1_5 : Ref sig .tc := ⟨.hbm, 25, rfl⟩
abbrev main_v1_6 : Ref sig .tc := ⟨.hbm, 26, rfl⟩
abbrev main_v1_7 : Ref sig .tc := ⟨.hbm, 27, rfl⟩
abbrev main_v1_8 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x1024 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S256x4096 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S256x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== TailReferenceIdeal.lean ====
abbrev S32x8x1024 : Shape := ⟨3, ![32, 8, 1024]⟩
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1 : Shape := ⟨1, ![1]⟩
abbrev S32x8 : Shape := ⟨2, ![32, 8]⟩
abbrev S32x8x4096 : Shape := ⟨3, ![32, 8, 4096]⟩
abbrev S32x8x252 : Shape := ⟨3, ![32, 8, 252]⟩
abbrev S32x8x1 : Shape := ⟨3, ![32, 8, 1]⟩
abbrev S1x1x1024 : Shape := ⟨3, ![1, 1, 1024]⟩
abbrev S256x4096 : Shape := ⟨2, ![256, 4096]⟩
abbrev S1x1x4096 : Shape := ⟨3, ![1, 1, 4096]⟩
abbrev S1x1 : Shape := ⟨2, ![1, 1]⟩

abbrev nBuf : Space → Nat
  | .hbm => 29
  | .vmem => 28
  | .smem => 0
  | _ => 0

abbrev bufTy : (tb : Table) → Fin (tcTables nBuf tb) → BufTy
  | .hbm, ⟨0, _⟩ => ⟨S32x8x1024, .f32⟩
  | .hbm, ⟨1, _⟩ => ⟨S256x1024, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .fp8e4m3⟩
  | .hbm, ⟨8, _⟩ => ⟨S4096, .f32⟩
  | .hbm, ⟨9, _⟩ => ⟨S4096, .f32⟩
  | .hbm, ⟨10, _⟩ => ⟨S4096x1024, .fp8e4m3⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1, .f32⟩
  | .hbm, ⟨19, _⟩ => ⟨S32x8x1024, .f32⟩
  | .hbm, ⟨20, _⟩ => ⟨S32x8, .f32⟩
  | .hbm, ⟨21, _⟩ => ⟨S32x8x1024, .f32⟩
  | .hbm, ⟨22, _⟩ => ⟨S32x8x1024, .f32⟩
  | .hbm, ⟨23, _⟩ => ⟨S32x8x1024, .fp8e4m3⟩
  | .hbm, ⟨24, _⟩ => ⟨S32x8, .f32⟩
  | .hbm, ⟨25, _⟩ => ⟨S32x8x1024, .fp8e4m3⟩
  | .hbm, ⟨26, _⟩ => ⟨S32x8, .f32⟩
  | .hbm, ⟨27, _⟩ => ⟨S32x8x4096, .fp8e4m3⟩
  | .hbm, ⟨28, _⟩ => ⟨S32x8, .f32⟩
  | .local _ .vmem, ⟨0, _⟩ => ⟨S32x8x1024, .f32⟩
  | .local _ .vmem, ⟨1, _⟩ => ⟨S32x8x1024, .f32⟩
  | .local _ .vmem, ⟨2, _⟩ => ⟨S1024x1024, .fp8e4m3⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024x4096, .fp8e4m3⟩
  | .local _ .vmem, ⟨8, _⟩ => ⟨S4096, .f32⟩
  | .local _ .vmem, ⟨9, _⟩ => ⟨S4096, .f32⟩
  | .local _ .vmem, ⟨10, _⟩ => ⟨S4096x1024, .fp8e4m3⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024x1024, .f32⟩
  | .local _ .vmem, ⟨16, _⟩ => ⟨S1024, .f32⟩
  | .local _ .vmem, ⟨17, _⟩ => ⟨S1024, .f32⟩
  | .local _ .vmem, ⟨18, _⟩ => ⟨S1, .f32⟩
  | .local _ .vmem, ⟨19, _⟩ => ⟨S32x8, .f32⟩
  | .local _ .vmem, ⟨20, _⟩ => ⟨S32x8x1024, .f32⟩
  | .local _ .vmem, ⟨21, _⟩ => ⟨S32x8x1024, .f32⟩
  | .local _ .vmem, ⟨22, _⟩ => ⟨S32x8x1024, .fp8e4m3⟩
  | .local _ .vmem, ⟨23, _⟩ => ⟨S32x8, .f32⟩
  | .local _ .vmem, ⟨24, _⟩ => ⟨S32x8x1024, .fp8e4m3⟩
  | .local _ .vmem, ⟨25, _⟩ => ⟨S32x8, .f32⟩
  | .local _ .vmem, ⟨26, _⟩ => ⟨S32x8x4096, .fp8e4m3⟩
  | .local _ .vmem, ⟨27, _⟩ => ⟨S32x8, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v1_4 : Ref sig .tc := ⟨.hbm, 24, rfl⟩
abbrev main_v1_5 : Ref sig .tc := ⟨.hbm, 25, rfl⟩
abbrev main_v1_6 : Ref sig .tc := ⟨.hbm, 26, rfl⟩
abbrev main_v1_7 : Ref sig .tc := ⟨.hbm, 27, rfl⟩
abbrev main_v1_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S32x8x1024 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S32x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S32x8x1024 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S32x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S32x8x4096 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x8 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Attn.lean ====
abbrev S32x9 : Shape := ⟨2, ![32, 9]⟩
abbrev S256x1024 : Shape := ⟨2, ![256, 1024]⟩
abbrev S32x1024x2048 : Shape := ⟨3, ![32, 1024, 2048]⟩
abbrev S32x16x2048 : Shape := ⟨3, ![32, 16, 2048]⟩
abbrev S32x8x1024 : Shape := ⟨3, ![32, 8, 1024]⟩
abbrev S1x8x1024 : Shape := ⟨3, ![1, 8, 1024]⟩
abbrev S1x1024x2048 : Shape := ⟨3, ![1, 1024, 2048]⟩
abbrev S1x16x2048 : Shape := ⟨3, ![1, 16, 2048]⟩
abbrev S32x2048 : Shape := ⟨2, ![32, 2048]⟩
abbrev S1x1 : Shape := ⟨2, ![1, 1]⟩
abbrev S32x256 : Shape := ⟨2, ![32, 256]⟩
abbrev S8x1024 : Shape := ⟨2, ![8, 1024]⟩
abbrev S8x256 : Shape := ⟨2, ![8, 256]⟩
abbrev S1x256x2048 : Shape := ⟨3, ![1, 256, 2048]⟩
abbrev S256x2048 : Shape := ⟨2, ![256, 2048]⟩
abbrev S1x1x2048 : Shape := ⟨3, ![1, 1, 2048]⟩
abbrev S1x2048 : Shape := ⟨2, ![1, 2048]⟩
abbrev S8x2048 : Shape := ⟨2, ![8, 2048]⟩
abbrev S32 : Shape := ⟨1, ![32]⟩
abbrev S32x1 : Shape := ⟨2, ![32, 1]⟩
abbrev S1x8x256 : Shape := ⟨3, ![1, 8, 256]⟩

abbrev nBuf : Space → Nat
  | .hbm => 8
  | .vmem => 12
  | .smem => 1
  | _ => 0

abbrev bufTy : (tb : Table) → Fin (tcTables nBuf tb) → BufTy
  | .hbm, ⟨0, _⟩ => ⟨S32x9, .i32⟩
  | .hbm, ⟨1, _⟩ => ⟨S256x1024, .bf16⟩
  | .hbm, ⟨2, _⟩ => ⟨S32x1024x2048, .fp8e4m3⟩
  | .hbm, ⟨3, _⟩ => ⟨S32x16x2048, .f32⟩
  | .hbm, ⟨4, _⟩ => ⟨S32x1024x2048, .fp8e4m3⟩
  | .hbm, ⟨5, _⟩ => ⟨S32x16x2048, .f32⟩
  | .hbm, ⟨6, _⟩ => ⟨S32x8x1024, .bf16⟩
  | .hbm, ⟨7, _⟩ => ⟨S32x8x1024, .f32⟩
  | .local _ .vmem, ⟨0, _⟩ => ⟨S1x8x1024, .bf16⟩
  | .local _ .vmem, ⟨1, _⟩ => ⟨S1x8x1024, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x16x2048, .f32⟩
  | .local _ .vmem, ⟨5, _⟩ => ⟨S1x16x2048, .f32⟩
  | .local _ .vmem, ⟨6, _⟩ => ⟨S1x1024x2048, .fp8e4m3⟩
  | .local _ .vmem, ⟨7, _⟩ => ⟨S1x1024x2048, .fp8e4m3⟩
  | .local _ .vmem, ⟨8, _⟩ => ⟨S1x16x2048, .f32⟩
  | .local _ .vmem, ⟨9, _⟩ => ⟨S1x16x2048, .f32⟩
  | .local _ .vmem, ⟨10, _⟩ => ⟨S1x8x1024, .f32⟩
  | .local _ .vmem, ⟨11, _⟩ => ⟨S1x8x1024, .f32⟩
  | .local _ .smem, ⟨0, _⟩ => ⟨S32x9, .i32⟩
  | _, _ => ⟨S32x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v19 : Index := Scalar.indexCast arg0
  let c0 : Index := 0#32
  ![v19.toNat, 0]
def k0_off2 (i : grid0.Coords) : Fin 2 → Nat :=
  let arg0 : BitVec 32 := BitVec.ofNat 32 (i 0).val
  let v21 : Index := Scalar.indexCast arg0
  let c1 : Index := 1#32
  ![v21.toNat, 1]
def k0_off3 (i : grid0.Coords) : Fin 2 → Nat :=
  let arg0 : BitVec 32 := BitVec.ofNat 32 (i 0).val
  let v37 : Index := Scalar.indexCast arg0
  let c2 : Index := 2#32
  ![v37.toNat, 2]
def k0_off4 (i : grid0.Coords) : Fin 2 → Nat :=
  let arg0 : BitVec 32 := BitVec.ofNat 32 (i 0).val
  let v53 : Index := Scalar.indexCast arg0
  let c3 : Index := 3#32
  ![v53.toNat, 3]
def k0_off5 (i : grid0.Coords) : Fin 2 → Nat :=
  let arg0 : BitVec 32 := BitVec.ofNat 32 (i 0).val
  let v69 : Index := Scalar.indexCast arg0
  let c4 : Index := 4#32
  ![v69.toNat, 4]
def k0_off6 (i : grid0.Coords) : Fin 2 → Nat :=
  let arg0 : BitVec 32 := BitVec.ofNat 32 (i 0).val
  let v85 : Index := Scalar.indexCast arg0
  let c5 : Index := 5#32
  ![v85.toNat, 5]
def k0_off7 (i : grid0.Coords) : Fin 2 → Nat :=
  let arg0 : BitVec 32 := BitVec.ofNat 32 (i 0).val
  let v101 : Index := Scalar.indexCast arg0
  let c6 : Index := 6#32
  ![v101.toNat, 6]
def k0_off8 (i : grid0.Coords) : Fin 2 → Nat :=
  let arg0 : BitVec 32 := BitVec.ofNat 32 (i 0).val
  let v117 : Index := Scalar.indexCast arg0
  let c7 : Index := 7#32
  ![v117.toNat, 7]
def k0_off9 (i : grid0.Coords) : Fin 2 → Nat :=
  let arg0 : BitVec 32 := BitVec.ofNat 32 (i 0).val
  let v133 : Index := Scalar.indexCast arg0
  let c8 : Index := 8#32
  ![v133.toNat, 8]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnReferenceIdeal.lean ====
abbrev S32x9 : Shape := ⟨2, ![32, 9]⟩
abbrev S256x1024 : Shape := ⟨2, ![256, 1024]⟩
abbrev S32x1024x2048 : Shape := ⟨3, ![32, 1024, 2048]⟩
abbrev S32x16x2048 : Shape := ⟨3, ![32, 16, 2048]⟩
abbrev S32x8 : Shape := ⟨2, ![32, 8]⟩
abbrev S_ : Shape := ⟨0, ![]⟩
abbrev S32x8x16x64 : Shape := ⟨4, ![32, 8, 16, 64]⟩
abbrev S32x16x8x64 : Shape := ⟨4, ![32, 16, 8, 64]⟩
abbrev S32x16x64x2048 : Shape := ⟨4, ![32, 16, 64, 2048]⟩
abbrev S32x8x1024 : Shape := ⟨3, ![32, 8, 1024]⟩
abbrev S32x16x8x2048 : Shape := ⟨4, ![32, 16, 8, 2048]⟩
abbrev S32x1x8x1 : Shape := ⟨4, ![32, 1, 8, 1]⟩
abbrev S512x8x64 : Shape := ⟨3, ![512, 8, 64]⟩
abbrev S512x64x2048 : Shape := ⟨3, ![512, 64, 2048]⟩
abbrev S512x8x2048 : Shape := ⟨3, ![512, 8, 2048]⟩
abbrev S32x16x1x2048 : Shape := ⟨4, ![32, 16, 1, 2048]⟩
abbrev S32x16x8 : Shape := ⟨3, ![32, 16, 8]⟩
abbrev S32x16x8x1 : Shape := ⟨4, ![32, 16, 8, 1]⟩

abbrev nBuf : Space → Nat
  | .hbm => 18
  | .vmem => 8
  | .smem => 0
  | _ => 0

abbrev bufTy : (tb : Table) → Fin (tcTables nBuf tb) → BufTy
  | .hbm, ⟨0, _⟩ => ⟨S32x9, .i32⟩
  | .hbm, ⟨1, _⟩ => ⟨S256x1024, .bf16⟩
  | .hbm, ⟨2, _⟩ => ⟨S32x1024x2048, .fp8e4m3⟩
  | .hbm, ⟨3, _⟩ => ⟨S32x16x2048, .f32⟩
  | .hbm, ⟨4, _⟩ => ⟨S32x1024x2048, .fp8e4m3⟩
  | .hbm, ⟨5, _⟩ => ⟨S32x16x2048, .f32⟩
  | .hbm, ⟨6, _⟩ => ⟨S32x8, .i32⟩
  | .hbm, ⟨7, _⟩ => ⟨S32x8, .i32⟩
  | .hbm, ⟨8, _⟩ => ⟨S32x8, .i32⟩
  | .hbm, ⟨9, _⟩ => ⟨S_, .i32⟩
  | .hbm, ⟨10, _⟩ => ⟨S32x8, .i32⟩
  | .hbm, ⟨11, _⟩ => ⟨S32x8, .i32⟩
  | .hbm, ⟨12, _⟩ => ⟨S32x8, .i32⟩
  | .hbm, ⟨13, _⟩ => ⟨S32x8x16x64, .bf16⟩
  | .hbm, ⟨14, _⟩ => ⟨S32x16x8x64, .bf16⟩
  | .hbm, ⟨15, _⟩ => ⟨S32x16x64x2048, .fp8e4m3⟩
  | .hbm, ⟨16, _⟩ => ⟨S32x16x64x2048, .fp8e4m3⟩
  | .hbm, ⟨17, _⟩ => ⟨S32x8x1024, .f32⟩
  | .local _ .vmem, ⟨0, _⟩ => ⟨S32x8, .i32⟩
  | .local _ .vmem, ⟨1, _⟩ => ⟨S32x8, .i32⟩
  | .local _ .vmem, ⟨2, _⟩ => ⟨S32x16x8x64, .bf16⟩
  | .local _ .vmem, ⟨3, _⟩ => ⟨S32x16x64x2048, .fp8e4m3⟩
  | .local _ .vmem, ⟨4, _⟩ => ⟨S32x16x2048, .f32⟩
  | .local _ .vmem, ⟨5, _⟩ => ⟨S32x16x64x2048, .fp8e4m3⟩
  | .local _ .vmem, ⟨6, _⟩ => ⟨S32x16x2048, .f32⟩
  | .local _ .vmem, ⟨7, _⟩ => ⟨S32x8x1024, .f32⟩
  | _, _ => ⟨S32x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x64x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KV.Vocab.lean ====
/- THE KERNEL'S BODY IN ITS OWN WORDS, once for every head.

   The printed body spells the same quantiser out thirty-three times and the same head sixteen times for the keys and
   sixteen times for the values. Here each is ONE function: the quantiser's scale and reciprocal of any array of
   magnitudes (`scaleV`, `invV`), the block of quantised rows of `x` (`xqB`), its row of scales (`xsB`), and what one
   head computes from them, its 64 rows of the weight and its scale and bias columns (`headF`, `headFB`, `headCodes`,
   `headScales`). -/
module

public import proofs.«01_k».proof.Proof.Gen.KernelIdeal.Frame
public import Idealize.ShloMosaic.Lib.Pipeline.Value

@[expose] public section

noncomputable section

namespace Cert.KV

open Cert.KernelIdeal Cert.KernelIdeal.Gen Idealize.ShloMosaic

variable {F : FTy → Type} [FloatOps F]

/-! ## The quantiser over any array of magnitudes -/

/-- Each magnitude times 1/448, kept where it is below `2^126` and zero elsewhere. -/
def gateV {s : Shape} (a : FVec F s .f32) : FVec F s .f32 :=
  select (cmpf .olt (mulf a (broadcast s (Scalar.ofBits .f32 0x3B124925#32))) (broadcast s (Scalar.ofBits .f32 0x7E800000#32)))
    (mulf a (broadcast s (Scalar.ofBits .f32 0x3B124925#32))) (broadcast s (Scalar.ofBits .f32 0x00000000#32))

/-- One comparison of the search for the exponent, everywhere. -/
def stepV {s : Shape} (b : BitVec 32) (t : FVec F s .f32) (e : IVec s 32) : IVec s 32 :=
  select (cmpf .ole (bitcastToFloat .f32 (addi e (broadcast s b))) t) (addi e (broadcast s b)) e

/-- The exponent's pattern, everywhere. -/
def searchV {s : Shape} (t : FVec F s .f32) : IVec s 32 :=
  stepV 8388608#32 t (stepV 16777216#32 t (stepV 33554432#32 t (stepV 67108864#32 t
    (stepV 134217728#32 t (stepV 268435456#32 t (stepV 536870912#32 t (stepV 1073741824#32 t (broadcast s 0#32))))))))

/-- Where the exponent names no ordinary number. -/
def noneV {s : Shape} (e : IVec s 32) : IVec s 1 :=
  ori (cmpi .eq e (broadcast s 0#32)) (cmpi .eq e (broadcast s 2139095040#32))

/-- The scales. -/
def scaleV {s : Shape} (a : FVec F s .f32) : FVec F s .f32 :=
  bitcastToFloat .f32 (select (noneV (searchV (gateV a))) (broadcast s 1065353216#32)
    (addi (searchV (gateV a)) (broadcast s 8388608#32)))

/-- Their reciprocals. -/
def invV {s : Shape} (a : FVec F s .f32) : FVec F s .f32 :=
  bitcastToFloat .f32 (select (noneV (searchV (gateV a))) (broadcast s 1065353216#32)
    (subi (broadcast s 2122317824#32) (searchV (gateV a))))

/-- A product with the reciprocals, clipped to the format's range and rounded to it. -/
def codesV {s : Shape} (f inv : FVec F s .f32) : FVec F s .fp8e4m3 :=
  truncf .fp8e4m3 (minimumf (broadcast s (Scalar.ofBits .f32 0x43E00000#32))
    (maximumf (broadcast s (Scalar.ofBits .f32 0xC3E00000#32)) (mulf f inv))) bitsLt_fp8e4m3_f32

/-! ## One block of `x` -/

/-- The block of `x` as single-precision rows. -/
def xB (x : Vec F S1x512x1024 .bf16) : FVec F S512x1024 .f32 :=
  extf .f32 (shapeCast S512x1024 x shapeCasts_S1x512x1024_S512x1024) bitsLt_bf16_f32

/-- Each row's largest magnitude, along 128 lanes. -/
def xMaxB (x : Vec F S1x512x1024 .bf16) : FVec F S512x128 .f32 :=
  broadcastTo S512x128 (shapeCast S512x1 (shapeCast S512x1
    (multiReduction .maximumf [1] S512 (absf (xB x)) 0xFF800000#32 reduces_S512x1024_S512 (.inl rfl) rfl)
    shapeCasts_S512_S512x1) shapeCasts_S512x1_S512x1) broadcasts_S512x1_S512x128

/-- The quantised rows. -/
def xqB (x : Vec F S1x512x1024 .bf16) : FVec F S512x1024 .fp8e4m3 :=
  codesV (xB x) (broadcastTo S512x1024 (extractStridedSlice S512x1 ![0, 0] (invV (xMaxB x)) slices_S512x128_o0_0_S512x1)
    broadcasts_S512x1_S512x1024)

/-- The diagonal of a square of scales, as a row. -/
def diagB (v : FVec F S128x128 .f32) : FVec F S1x128 .f32 :=
  shapeCast S1x128 (multiReduction .add [0] S128
    (select (cmpi .eq (iota .tc S128x128 32 [0] iota_S128x128_d0_w32) (iota .tc S128x128 32 [1] iota_S128x128_d1_w32)) v
      (broadcast S128x128 (Scalar.ofBits .f32 0x00000000#32))) 0x00000000#32 reduces_S128x128_S128 (.inl rfl) rfl)
    shapeCasts_S128_S1x128

/-- The rows' scales, as one row: four squares' diagonals beside one another. -/
def xsB (x : Vec F S1x512x1024 .bf16) : FVec F S1x512 .f32 :=
  concatenate S1x512 1
    [⟨S1x128, diagB (extractStridedSlice S128x128 ![0, 0] (scaleV (xMaxB x)) slices_S512x128_o0_0_S128x128)⟩,
     ⟨S1x128, diagB (extractStridedSlice S128x128 ![128, 0] (scaleV (xMaxB x)) slices_S512x128_o128_0_S128x128)⟩,
     ⟨S1x128, diagB (extractStridedSlice S128x128 ![256, 0] (scaleV (xMaxB x)) slices_S512x128_o256_0_S128x128)⟩,
     ⟨S1x128, diagB (extractStridedSlice S128x128 ![384, 0] (scaleV (xMaxB x)) slices_S512x128_o384_0_S128x128)⟩]
    concatenates_S1x128_S1x128_S1x128_S1x128_S1x512_d1

/-! ## One head -/

/-- A head's projection, from its 64 rows of the weight, rescaled by the rows' scales and the head's own. -/
def headF (xq : FVec F S512x1024 .fp8e4m3) (xs : FVec F S1x512 .f32) (w : Vec F S64x1024 .fp8e4m3) (s : Vec F S64x1 .f32) :
    FVec F S64x512 .f32 :=
  mulf (mulf (matmul dot_S64x1024_S512x1024_S64x512_1_1_0_0_n_n none (shapeCast S64x1024 w shapeCasts_S64x1024_S64x1024) xq
      (constant S64x512 .f32 0x00000000#32))
    (broadcastTo S64x512 xs broadcasts_S1x512_S64x512))
    (broadcastTo S64x512 (shapeCast S64x1 s shapeCasts_S64x1_S64x1) broadcasts_S64x1_S64x512)

/-- The same with a bias column added. -/
def headFB (xq : FVec F S512x1024 .fp8e4m3) (xs : FVec F S1x512 .f32) (w : Vec F S64x1024 .fp8e4m3) (s b : Vec F S64x1 .f32) :
    FVec F S64x512 .f32 :=
  addf (headF xq xs w s) (broadcastTo S64x512 (shapeCast S64x1 b shapeCasts_S64x1_S64x1) broadcasts_S64x1_S64x512)

/-- The largest magnitude of each column of a head. -/
def headMax (f : FVec F S64x512 .f32) : FVec F S1x512 .f32 :=
  shapeCast S1x512 (multiReduction .maximumf [0] S512 (absf f) 0xFF800000#32 reduces_S64x512_S512 (.inl rfl) rfl)
    shapeCasts_S512_S1x512

/-- A head's codes. -/
def headCodes (f : FVec F S64x512 .f32) : FVec F S1x64x512 .fp8e4m3 :=
  shapeCast S1x64x512 (codesV f (broadcastTo S64x512 (invV (headMax f)) broadcasts_S1x512_S64x512)) shapeCasts_S64x512_S1x64x512

/-- A head's scales. -/
def headScales (f : FVec F S64x512 .f32) : FVec F S1x1x512 .f32 :=
  shapeCast S1x1x512 (scaleV (headMax f)) shapeCasts_S1x512_S1x1x512

end Cert.KV

end
-- ==== Proof.KV.Stores.lean ====
/- THE PRINTED BODY IS THE KERNEL'S OWN WORDS: what each output window's buffer holds after one grid point, as the
   stores of `Vocab`'s functions of the input blocks. Each statement holds by unfolding the printed payloads. -/
module

public import proofs.«01_k».proof.Proof.KV.Vocab

@[expose] public section

set_option maxRecDepth 16384

noncomputable section

namespace Cert.KV

open Cert.KernelIdeal Cert.KernelIdeal.Gen Idealize.ShloMosaic

variable {F : FTy → Type} [FloatOps F]
variable (x : Vec F S1x512x1024 .bf16) (wk : Vec F S1024x1024 .fp8e4m3) (sk : Vec F S1024x1 .f32) (wv : Vec F S1024x1024 .fp8e4m3) (sv bv : Vec F S1024x1 .f32)

/-- The quantised rows as the body carries them from part to part. -/
theorem pay312_eq : k0_pay312 x wk sk wv sv bv = xqB x := by
  unfold k0_pay312 k0_pay310 k0_pay309 k0_pay308 k0_pay307 k0_pay306
  simp only [View.ld_unit_zero (S := S1x512x1024) (off := ![0, 0, 0]) (by funext a; fin_cases a <;> rfl)]
  rfl

/-- The rows' scales as the body carries them from part to part. -/
theorem pay315_eq : k0_pay315 x wk sk wv sv bv = xsB x := by
  unfold k0_pay315 k0_pay314 k0_pay313 k0_pay311 k0_pay310 k0_pay309 k0_pay308 k0_pay307
  simp only [View.ld_unit_zero (S := S1x512x1024) (off := ![0, 0, 0]) (by funext a; fin_cases a <;> rfl)]
  rfl

/-- The buffer of the quantised rows: one store. -/
theorem out0_6_eq : out0_6 x wk sk wv sv bv = shapeCast S1x512x1024 (xqB x) shapeCasts_S512x1024_S1x512x1024 := by
  rw [← pay312_eq x wk sk wv sv bv]
  unfold out0_6
  rw [View.canon_unit_zero (S := S1x512x1024) (off := ![0, 0, 0]) (by funext a; fin_cases a <;> rfl)]
  rfl

/-- The buffer of the rows' scales: one store. -/
theorem out0_7_eq : out0_7 x wk sk wv sv bv = shapeCast S1x1x512 (xsB x) shapeCasts_S1x512_S1x1x512 := by
  rw [← pay315_eq x wk sk wv sv bv]
  unfold out0_7
  rw [View.canon_unit_zero (S := S1x1x512) (off := ![0, 0, 0]) (by funext a; fin_cases a <;> rfl)]
  rfl

/-- The buffer of the codes of the keys: sixteen stores, one per head. -/
theorem out0_8_eq : out0_8 x wk sk wv sv bv = View.canon
    [⟨r0_64, headCodes (headF (xqB x) (xsB x) (View.ld wk r0_62) (View.ld sk r0_63))⟩,
     ⟨r0_60, headCodes (headF (xqB x) (xsB x) (View.ld wk r0_58) (View.ld sk r0_59))⟩,
     ⟨r0_56, headCodes (headF (xqB x) (xsB x) (View.ld wk r0_54) (View.ld sk r0_55))⟩,
     ⟨r0_52, headCodes (headF (xqB x) (xsB x) (View.ld wk r0_50) (View.ld sk r0_51))⟩,
     ⟨r0_48, headCodes (headF (xqB x) (xsB x) (View.ld wk r0_46) (View.ld sk r0_47))⟩,
     ⟨r0_44, headCodes (headF (xqB x) (xsB x) (View.ld wk r0_42) (View.ld sk r0_43))⟩,
     ⟨r0_40, headCodes (headF (xqB x) (xsB x) (View.ld wk r0_38) (View.ld sk r0_39))⟩,
     ⟨r0_36, headCodes (headF (xqB x) (xsB x) (View.ld wk r0_34) (View.ld sk r0_35))⟩,
     ⟨r0_32, headCodes (headF (xqB x) (xsB x) (View.ld wk r0_30) (View.ld sk r0_31))⟩,
     ⟨r0_28, headCodes (headF (xqB x) (xsB x) (View.ld wk r0_26) (View.ld sk r0_27))⟩,
     ⟨r0_24, headCodes (headF (xqB x) (xsB x) (View.ld wk r0_22) (View.ld sk r0_23))⟩,
     ⟨r0_20, headCodes (headF (xqB x) (xsB x) (View.ld wk r0_18) (View.ld sk r0_19))⟩,
     ⟨r0_16, headCodes (headF (xqB x) (xsB x) (View.ld wk r0_14) (View.ld sk r0_15))⟩,
     ⟨r0_12, headCodes (headF (xqB x) (xsB x) (View.ld wk r0_10) (View.ld sk r0_11))⟩,
     ⟨r0_8, headCodes (headF (xqB x) (xsB x) (View.ld wk r0_6) (View.ld sk r0_7))⟩,
     ⟨r0_4, headCodes (headF (xqB x) (xsB x) (View.ld wk r0_2) (View.ld sk r0_3))⟩] := by
  rw [← pay312_eq x wk sk wv sv bv, ← pay315_eq x wk sk wv sv bv]
  rfl

/-- The buffer of the scales of the keys: sixteen stores, one per head. -/
theorem out0_9_eq : out0_9 x wk sk wv sv bv = View.canon
    [⟨r0_65, headScales (headF (xqB x) (xsB x) (View.ld wk r0_62) (View.ld sk r0_63))⟩,
     ⟨r0_61, headScales (headF (xqB x) (xsB x) (View.ld wk r0_58) (View.ld sk r0_59))⟩,
     ⟨r0_57, headScales (headF (xqB x) (xsB x) (View.ld wk r0_54) (View.ld sk r0_55))⟩,
     ⟨r0_53, headScales (headF (xqB x) (xsB x) (View.ld wk r0_50) (View.ld sk r0_51))⟩,
     ⟨r0_49, headScales (headF (xqB x) (xsB x) (View.ld wk r0_46) (View.ld sk r0_47))⟩,
     ⟨r0_45, headScales (headF (xqB x) (xsB x) (View.ld wk r0_42) (View.ld sk r0_43))⟩,
     ⟨r0_41, headScales (headF (xqB x) (xsB x) (View.ld wk r0_38) (View.ld sk r0_39))⟩,
     ⟨r0_37, headScales (headF (xqB x) (xsB x) (View.ld wk r0_34) (View.ld sk r0_35))⟩,
     ⟨r0_33, headScales (headF (xqB x) (xsB x) (View.ld wk r0_30) (View.ld sk r0_31))⟩,
     ⟨r0_29, headScales (headF (xqB x) (xsB x) (View.ld wk r0_26) (View.ld sk r0_27))⟩,
     ⟨r0_25, headScales (headF (xqB x) (xsB x) (View.ld wk r0_22) (View.ld sk r0_23))⟩,
     ⟨r0_21, headScales (headF (xqB x) (xsB x) (View.ld wk r0_18) (View.ld sk r0_19))⟩,
     ⟨r0_17, headScales (headF (xqB x) (xsB x) (View.ld wk r0_14) (View.ld sk r0_15))⟩,
     ⟨r0_13, headScales (headF (xqB x) (xsB x) (View.ld wk r0_10) (View.ld sk r0_11))⟩,
     ⟨r0_9, headScales (headF (xqB x) (xsB x) (View.ld wk r0_6) (View.ld sk r0_7))⟩,
     ⟨r0_5, headScales (headF (xqB x) (xsB x) (View.ld wk r0_2) (View.ld sk r0_3))⟩] := by
  rw [← pay312_eq x wk sk wv sv bv, ← pay315_eq x wk sk wv sv bv]
  rfl

/-- The buffer of the codes of the values: sixteen stores, one per head. -/
theorem out0_10_eq : out0_10 x wk sk wv sv bv = View.canon
    [⟨r0_64, headCodes (headFB (xqB x) (xsB x) (View.ld wv r0_62) (View.ld sv r0_63) (View.ld bv r0_63))⟩,
     ⟨r0_60, headCodes (headFB (xqB x) (xsB x) (View.ld wv r0_58) (View.ld sv r0_59) (View.ld bv r0_59))⟩,
     ⟨r0_56, headCodes (headFB (xqB x) (xsB x) (View.ld wv r0_54) (View.ld sv r0_55) (View.ld bv r0_55))⟩,
     ⟨r0_52, headCodes (headFB (xqB x) (xsB x) (View.ld wv r0_50) (View.ld sv r0_51) (View.ld bv r0_51))⟩,
     ⟨r0_48, headCodes (headFB (xqB x) (xsB x) (View.ld wv r0_46) (View.ld sv r0_47) (View.ld bv r0_47))⟩,
     ⟨r0_44, headCodes (headFB (xqB x) (xsB x) (View.ld wv r0_42) (View.ld sv r0_43) (View.ld bv r0_43))⟩,
     ⟨r0_40, headCodes (headFB (xqB x) (xsB x) (View.ld wv r0_38) (View.ld sv r0_39) (View.ld bv r0_39))⟩,
     ⟨r0_36, headCodes (headFB (xqB x) (xsB x) (View.ld wv r0_34) (View.ld sv r0_35) (View.ld bv r0_35))⟩,
     ⟨r0_32, headCodes (headFB (xqB x) (xsB x) (View.ld wv r0_30) (View.ld sv r0_31) (View.ld bv r0_31))⟩,
     ⟨r0_28, headCodes (headFB (xqB x) (xsB x) (View.ld wv r0_26) (View.ld sv r0_27) (View.ld bv r0_27))⟩,
     ⟨r0_24, headCodes (headFB (xqB x) (xsB x) (View.ld wv r0_22) (View.ld sv r0_23) (View.ld bv r0_23))⟩,
     ⟨r0_20, headCodes (headFB (xqB x) (xsB x) (View.ld wv r0_18) (View.ld sv r0_19) (View.ld bv r0_19))⟩,
     ⟨r0_16, headCodes (headFB (xqB x) (xsB x) (View.ld wv r0_14) (View.ld sv r0_15) (View.ld bv r0_15))⟩,
     ⟨r0_12, headCodes (headFB (xqB x) (xsB x) (View.ld wv r0_10) (View.ld sv r0_11) (View.ld bv r0_11))⟩,
     ⟨r0_8, headCodes (headFB (xqB x) (xsB x) (View.ld wv r0_6) (View.ld sv r0_7) (View.ld bv r0_7))⟩,
     ⟨r0_4, headCodes (headFB (xqB x) (xsB x) (View.ld wv r0_2) (View.ld sv r0_3) (View.ld bv r0_3))⟩] := by
  rw [← pay312_eq x wk sk wv sv bv, ← pay315_eq x wk sk wv sv bv]
  rfl

/-- The buffer of the scales of the values: sixteen stores, one per head. -/
theorem out0_11_eq : out0_11 x wk sk wv sv bv = View.canon
    [⟨r0_65, headScales (headFB (xqB x) (xsB x) (View.ld wv r0_62) (View.ld sv r0_63) (View.ld bv r0_63))⟩,
     ⟨r0_61, headScales (headFB (xqB x) (xsB x) (View.ld wv r0_58) (View.ld sv r0_59) (View.ld bv r0_59))⟩,
     ⟨r0_57, headScales (headFB (xqB x) (xsB x) (View.ld wv r0_54) (View.ld sv r0_55) (View.ld bv r0_55))⟩,
     ⟨r0_53, headScales (headFB (xqB x) (xsB x) (View.ld wv r0_50) (View.ld sv r0_51) (View.ld bv r0_51))⟩,
     ⟨r0_49, headScales (headFB (xqB x) (xsB x) (View.ld wv r0_46) (View.ld sv r0_47) (View.ld bv r0_47))⟩,
     ⟨r0_45, headScales (headFB (xqB x) (xsB x) (View.ld wv r0_42) (View.ld sv r0_43) (View.ld bv r0_43))⟩,
     ⟨r0_41, headScales (headFB (xqB x) (xsB x) (View.ld wv r0_38) (View.ld sv r0_39) (View.ld bv r0_39))⟩,
     ⟨r0_37, headScales (headFB (xqB x) (xsB x) (View.ld wv r0_34) (View.ld sv r0_35) (View.ld bv r0_35))⟩,
     ⟨r0_33, headScales (headFB (xqB x) (xsB x) (View.ld wv r0_30) (View.ld sv r0_31) (View.ld bv r0_31))⟩,
     ⟨r0_29, headScales (headFB (xqB x) (xsB x) (View.ld wv r0_26) (View.ld sv r0_27) (View.ld bv r0_27))⟩,
     ⟨r0_25, headScales (headFB (xqB x) (xsB x) (View.ld wv r0_22) (View.ld sv r0_23) (View.ld bv r0_23))⟩,
     ⟨r0_21, headScales (headFB (xqB x) (xsB x) (View.ld wv r0_18) (View.ld sv r0_19) (View.ld bv r0_19))⟩,
     ⟨r0_17, headScales (headFB (xqB x) (xsB x) (View.ld wv r0_14) (View.ld sv r0_15) (View.ld bv r0_15))⟩,
     ⟨r0_13, headScales (headFB (xqB x) (xsB x) (View.ld wv r0_10) (View.ld sv r0_11) (View.ld bv r0_11))⟩,
     ⟨r0_9, headScales (headFB (xqB x) (xsB x) (View.ld wv r0_6) (View.ld sv r0_7) (View.ld bv r0_7))⟩,
     ⟨r0_5, headScales (headFB (xqB x) (xsB x) (View.ld wv r0_2) (View.ld sv r0_3) (View.ld bv r0_3))⟩] := by
  rw [← pay312_eq x wk sk wv sv bv, ← pay315_eq x wk sk wv sv bv]
  rfl

end Cert.KV

end
-- ==== Proof.KV.Quant.lean ====
/- THE QUANTISER'S SCALE, one number at a time, over the extended reals.

   The kernel finds the exponent of `t` (the largest magnitude of a row times 1/448) by eight comparisons, one per
   exponent bit of the 32-bit pattern, and builds the scale and its reciprocal by integer arithmetic on that
   pattern. The reference takes the least whole `k` with `t < 2^k` and raises 2 to `k` and to `-k`. This module
   says both in words on ONE value and proves them equal (`kScale_eq`, `kInv_eq`). -/
module

public import Idealize.ShloMosaic.Lib.Pointwise
public import Idealize.ShloMosaic.Lib.IdealHost

@[expose] public section

noncomputable section

namespace Cert.KV

open Idealize.ShloMosaic

/-! ## The two texts -/

/-- `t` where it is below `2^126`, else zero. -/
def kGate (t : Ideal .f32) : Ideal .f32 :=
  Scalar.select (FloatOps.cmpf .olt t (Scalar.ofBits .f32 0x7E800000#32)) t (Scalar.ofBits .f32 0x00000000#32)

/-- One comparison of the search: the bit `b` joins the pattern `e` when the number it then spells is at most `t`. -/
def kStep (b : BitVec 32) (t : Ideal .f32) (e : BitVec 32) : BitVec 32 :=
  Scalar.select (FloatOps.cmpf .ole (FloatOps.ofBits .f32 (IntOp.addi e b)) t) (IntOp.addi e b) e

/-- The eight comparisons, from the highest exponent bit down. -/
def kSearch (t : Ideal .f32) : BitVec 32 :=
  kStep 8388608#32 t (kStep 16777216#32 t (kStep 33554432#32 t (kStep 67108864#32 t
    (kStep 134217728#32 t (kStep 268435456#32 t (kStep 536870912#32 t (kStep 1073741824#32 t 0#32)))))))

/-- Whether the exponent names no ordinary number. -/
def kNone (e : BitVec 32) : BitVec 1 := IntOp.ori (IntOp.cmpi .eq e 0#32) (IntOp.cmpi .eq e 2139095040#32)

/-- The kernel's scale. -/
def kScale (t : Ideal .f32) : Ideal .f32 :=
  FloatOps.ofBits .f32 (Scalar.select (kNone (kSearch (kGate t))) 1065353216#32 (IntOp.addi (kSearch (kGate t)) 8388608#32))

/-- The kernel's reciprocal of the scale. -/
def kInv (t : Ideal .f32) : Ideal .f32 :=
  FloatOps.ofBits .f32 (Scalar.select (kNone (kSearch (kGate t))) 1065353216#32 (IntOp.subi 2122317824#32 (kSearch (kGate t))))

/-- The candidates for the reference's exponent: -125, …, 126. -/
def rCand (k : Fin 252) : Ideal .f32 := FloatOps.sitofp .f32 (IntOp.subi (BitVec.ofNat 32 k.val) 125#32)

/-- The reference's exponent: the least candidate `k` with `t < 2^k` when `2^-126 ≤ t < 2^126`, else zero. -/
def rExp (t : Ideal .f32) : Ideal .f32 :=
  Scalar.select (IntOp.andi (FloatOps.cmpf .oge t (Scalar.ofBits .f32 0x00800000#32))
      (FloatOps.cmpf .olt t (Scalar.ofBits .f32 0x7E800000#32)))
    (Finset.univ.fold min (Ideal.ofBits .f32 0x7F800000#32 : EReal) fun k : Fin 252 =>
      Scalar.select (FloatOps.cmpf .olt t (FloatOps.exp2 (rCand k))) (rCand k) (Scalar.ofBits .f32 0x7F800000#32))
    (Scalar.ofBits .f32 0x00000000#32)

/-- The reference's scale. -/
def rScale (t : Ideal .f32) : Ideal .f32 := FloatOps.exp2 (rExp t)

/-- The reference's reciprocal of the scale. -/
def rInv (t : Ideal .f32) : Ideal .f32 := FloatOps.exp2 (FloatOps.subf (Scalar.ofBits .f32 0x00000000#32) (rExp t))

/-! ## The numbers whose pattern has only exponent bits -/

/-- The pattern with exponent field `n` and nothing else. -/
def W (n : ℕ) : BitVec 32 := BitVec.ofNat 32 (n * 8388608)

/-- Its value as a number. -/
theorem toNat_W (n : ℕ) (h : n ≤ 255) : (W n).toNat = n * 8388608 := by
  rw [W, BitVec.toNat_ofNat, Nat.mod_eq_of_lt (by omega)]

/-- Its exponent field. -/
theorem exponent_W (n : ℕ) (h : n ≤ 255) : ((W n).extractLsb' 23 8).toNat = n := by
  rw [BitVec.extractLsb'_toNat, toNat_W n h, Nat.shiftRight_eq_div_pow]
  generalize hk : (8388608 : ℕ) = k
  have : (2 : ℕ) ^ 23 = k := hk ▸ (by norm_num)
  rw [this, Nat.mul_div_cancel n (by omega)]
  omega

/-- Its fraction field. -/
theorem fraction_W (n : ℕ) (h : n ≤ 255) : ((W n).extractLsb' 0 23).toNat = 0 := by
  rw [BitVec.extractLsb'_toNat, toNat_W n h, Nat.shiftRight_zero]
  generalize hk : (8388608 : ℕ) = k
  have : (2 : ℕ) ^ 23 = k := hk ▸ (by norm_num)
  rw [this, Nat.mul_mod_left]

/-- Its sign. -/
theorem sign_W (n : ℕ) (h : n ≤ 255) : ((W n).extractLsb' (8 + 23) 1 == 1#1) = false := by
  have : ∀ k : Fin 256, ((W k.val).extractLsb' (8 + 23) 1 == 1#1) = false := by decide +kernel
  exact this ⟨n, by omega⟩

/-- For `n` from 1 to 254 it spells `2^(n-127)`. -/
theorem ofBits_W (n : ℕ) (h0 : 1 ≤ n) (h1 : n ≤ 254) :
    Ideal.ofBits .f32 (W n) = (((2 : ℝ) ^ ((n : ℤ) - 127) : ℝ) : EReal) := by
  have e1 := exponent_W n (by omega)
  have e2 := fraction_W n (by omega)
  have e3 := sign_W n (by omega)
  generalize W n = w at e1 e2 e3 ⊢
  have e4 : (2 : ℝ) ^ (n - 127 : ℤ) = ((2 ^ 23 + 0 : ℕ) : ℝ) * (2 : ℝ) ^ ((n : ℤ) - (2 ^ (8 - 1) - 1) - (23 : ℕ)) := by
    rw [show ((n : ℤ) - (2 ^ (8 - 1) - 1) - (23 : ℕ)) = ((n : ℤ) - 127) + (-23) by norm_num; ring,
      zpow_add₀ (by norm_num : (2 : ℝ) ≠ 0)]
    norm_num
    ring
  rw [e4]
  simp only [Ideal.ofBits, Ideal.ieee, e1, e2, e3]
  rw [if_neg (by omega), if_neg (by omega), if_neg (by decide), one_mul]

/-- With the exponent field at 255 it spells infinity. -/
theorem ofBits_W_255 : Ideal.ofBits .f32 (W 255) = ⊤ := by
  simp [Ideal.ofBits, Ideal.ieee, W]

/-- Below `2^(n-126)` and from `2^(n-127)` on, exactly the patterns up to `n` spell a number at most `t`. -/
theorem ofBits_W_le {t : EReal} {n : ℕ} (hn : n ≤ 252)
    (hlo : 1 ≤ n → (((2 : ℝ) ^ ((n : ℤ) - 127) : ℝ) : EReal) ≤ t) (hhi : t < (((2 : ℝ) ^ ((n : ℤ) - 126) : ℝ) : EReal))
    (m : ℕ) (hm : 1 ≤ m) (hm' : m ≤ 255) : Ideal.ofBits .f32 (W m) ≤ t ↔ m ≤ n := by
  rcases Nat.lt_or_ge m 255 with hlt | hge
  · rw [ofBits_W m hm (by omega)]
    constructor
    · intro h
      by_contra hc
      have : (((2 : ℝ) ^ ((n : ℤ) - 126) : ℝ) : EReal) ≤ (((2 : ℝ) ^ ((m : ℤ) - 127) : ℝ) : EReal) :=
        EReal.coe_le_coe_iff.2 (zpow_le_zpow_right₀ (by norm_num) (by omega))
      exact absurd (lt_of_lt_of_le hhi (this.trans h)) (lt_irrefl _)
    · intro h
      exact (EReal.coe_le_coe_iff.2 (zpow_le_zpow_right₀ (by norm_num) (by omega))).trans (hlo (by omega))
  · have : m = 255 := by omega
    subst this
    rw [ofBits_W_255]
    constructor
    · intro h; exact absurd (lt_of_lt_of_le hhi (le_top.trans h)) (lt_irrefl _)
    · intro h; omega

/-! ## The search -/

/-- A selection by a truth value written as a bit. -/
theorem select_ofBool {α : Type} (p : Prop) [Decidable p] (x y : α) :
    Scalar.select (BitVec.ofBool (decide p)) x y = if p then x else y := by
  by_cases h : p <;> simp [Scalar.select, h]

/-- One comparison halves the range `[a, a + 2d)` known to hold `n`. -/
theorem kStep_W {t : EReal} {n : ℕ} (H : ∀ m, 1 ≤ m → m ≤ 255 → (Ideal.ofBits .f32 (W m) ≤ t ↔ m ≤ n))
    {a d : ℕ} (hd : 1 ≤ d) (had : a + d ≤ 255) (b : BitVec 32) (hb : b = W d) (h0 : a ≤ n) (h1 : n < a + 2 * d) :
    kStep b t (W a) = W (if a + d ≤ n then a + d else a) := by
  have e : IntOp.addi (W a) b = W (a + d) := by
    subst hb
    show W a + W d = W (a + d)
    simp only [W, ← BitVec.ofNat_add, Nat.add_mul]
  have hle := H (a + d) (by omega) had
  show Scalar.select (Ideal.cmp .ole (Ideal.ofBits .f32 (IntOp.addi (W a) b)) t) (IntOp.addi (W a) b) (W a) = _
  rw [e]
  show Scalar.select (BitVec.ofBool (decide (Ideal.ofBits .f32 (W (a + d)) ≤ t))) _ _ = _
  rw [select_ofBool]
  by_cases h : a + d ≤ n
  · rw [if_pos (hle.2 h), if_pos h]
  · rw [if_neg (fun hc => h (hle.1 hc)), if_neg h]

/-- The eight comparisons find `n`. -/
theorem kSearch_eq {t : EReal} {n : ℕ} (hn : n ≤ 252)
    (H : ∀ m, 1 ≤ m → m ≤ 255 → (Ideal.ofBits .f32 (W m) ≤ t ↔ m ≤ n)) : kSearch t = W n := by
  have z : (0#32 : BitVec 32) = W 0 := rfl
  unfold kSearch
  rw [z, kStep_W H (a := 0) (d := 128) (by omega) (by omega) 1073741824#32 rfl (by omega) (by omega)]
  obtain ⟨a1, ha1⟩ : ∃ a, (if 0 + 128 ≤ n then 0 + 128 else 0) = a := ⟨_, rfl⟩
  rw [ha1, kStep_W H (a := a1) (d := 64) (by omega) (by split_ifs at ha1 <;> omega) 536870912#32 rfl (by split_ifs at ha1 <;> omega) (by split_ifs at ha1 <;> omega)]
  obtain ⟨a2, ha2⟩ : ∃ a, (if a1 + 64 ≤ n then a1 + 64 else a1) = a := ⟨_, rfl⟩
  have b2 : a2 % 64 = 0 ∧ a2 ≤ n ∧ n < a2 + 64 := by split_ifs at ha1 ha2 <;> omega
  rw [ha2, kStep_W H (a := a2) (d := 32) (by omega) (by omega) 268435456#32 rfl (by omega) (by omega)]
  obtain ⟨a3, ha3⟩ : ∃ a, (if a2 + 32 ≤ n then a2 + 32 else a2) = a := ⟨_, rfl⟩
  have b3 : a3 % 32 = 0 ∧ a3 ≤ n ∧ n < a3 + 32 := by split_ifs at ha3 <;> omega
  rw [ha3, kStep_W H (a := a3) (d := 16) (by omega) (by omega) 134217728#32 rfl (by omega) (by omega)]
  obtain ⟨a4, ha4⟩ : ∃ a, (if a3 + 16 ≤ n then a3 + 16 else a3) = a := ⟨_, rfl⟩
  have b4 : a4 % 16 = 0 ∧ a4 ≤ n ∧ n < a4 + 16 := by split_ifs at ha4 <;> omega
  rw [ha4, kStep_W H (a := a4) (d := 8) (by omega) (by omega) 67108864#32 rfl (by omega) (by omega)]
  obtain ⟨a5, ha5⟩ : ∃ a, (if a4 + 8 ≤ n then a4 + 8 else a4) = a := ⟨_, rfl⟩
  have b5 : a5 % 8 = 0 ∧ a5 ≤ n ∧ n < a5 + 8 := by split_ifs at ha5 <;> omega
  rw [ha5, kStep_W H (a := a5) (d := 4) (by omega) (by omega) 33554432#32 rfl (by omega) (by omega)]
  obtain ⟨a6, ha6⟩ : ∃ a, (if a5 + 4 ≤ n then a5 + 4 else a5) = a := ⟨_, rfl⟩
  have b6 : a6 % 4 = 0 ∧ a6 ≤ n ∧ n < a6 + 4 := by split_ifs at ha6 <;> omega
  rw [ha6, kStep_W H (a := a6) (d := 2) (by omega) (by omega) 16777216#32 rfl (by omega) (by omega)]
  obtain ⟨a7, ha7⟩ : ∃ a, (if a6 + 2 ≤ n then a6 + 2 else a6) = a := ⟨_, rfl⟩
  have b7 : a7 % 2 = 0 ∧ a7 ≤ n ∧ n < a7 + 2 := by split_ifs at ha7 <;> omega
  rw [ha7, kStep_W H (a := a7) (d := 1) (by omega) (by omega) 8388608#32 rfl (by omega) (by omega)]
  congr 1
  split_ifs <;> omega

/-! ## The three cases of `t` -/

/-- Two to the 126th, as its pattern spells it. -/
theorem two126 : Ideal.ofBits .f32 0x7E800000#32 = (((2 : ℝ) ^ (126 : ℤ) : ℝ) : EReal) :=
  (ofBits_W 253 (by omega) (by omega)).trans (by norm_num)

/-- Two to the -126th, as its pattern spells it. -/
theorem twoNeg126 : Ideal.ofBits .f32 0x00800000#32 = (((2 : ℝ) ^ (-126 : ℤ) : ℝ) : EReal) :=
  (ofBits_W 1 (by omega) (by omega)).trans (by norm_num)

/-- The gate as a case distinction. -/
theorem kGate_eq (t : EReal) : kGate t = if t < (((2 : ℝ) ^ (126 : ℤ) : ℝ) : EReal) then t else (0 : EReal) := by
  show Scalar.select (BitVec.ofBool (decide (t < Ideal.ofBits .f32 0x7E800000#32))) t (Ideal.ofBits .f32 0x00000000#32) = _
  rw [select_ofBool, two126, Ideal.ofBits_zero_f32]

/-- The reference's exponent as a case distinction. -/
theorem rExp_eq (t : EReal) : rExp t =
    if (((2 : ℝ) ^ (-126 : ℤ) : ℝ) : EReal) ≤ t ∧ t < (((2 : ℝ) ^ (126 : ℤ) : ℝ) : EReal) then
      (Finset.univ.fold min (⊤ : EReal) fun k : Fin 252 => if t < Ideal.exp2 (rCand k) then rCand k else (⊤ : EReal))
    else (0 : EReal) := by
  have htop : Ideal.ofBits .f32 0x7F800000#32 = (⊤ : EReal) := ofBits_W_255
  have hand : ∀ p q : Prop, [Decidable p] → [Decidable q] →
      IntOp.andi (BitVec.ofBool (decide p)) (BitVec.ofBool (decide q)) = BitVec.ofBool (decide (p ∧ q)) := by
    intro p q _ _
    by_cases hp : p <;> by_cases hq : q <;> simp [hp, hq, IntOp.andi]
  show Scalar.select (IntOp.andi (BitVec.ofBool (decide (Ideal.ofBits .f32 0x00800000#32 ≤ t)))
      (BitVec.ofBool (decide (t < Ideal.ofBits .f32 0x7E800000#32))))
    (Finset.univ.fold min (Ideal.ofBits .f32 0x7F800000#32 : EReal) fun k : Fin 252 =>
      Scalar.select (BitVec.ofBool (decide (t < Ideal.exp2 (rCand k)))) (rCand k) (Ideal.ofBits .f32 0x7F800000#32))
    (Ideal.ofBits .f32 0x00000000#32) = _
  rw [hand, select_ofBool, two126, twoNeg126, Ideal.ofBits_zero_f32, htop]
  simp only [select_ofBool]

/-- A candidate is the number it looks like. -/
theorem rCand_eq (k : Fin 252) : rCand k = ((((k.val : ℤ) - 125 : ℤ) : ℝ) : EReal) := by
  show (((IntOp.subi (BitVec.ofNat 32 k.val) 125#32).toInt : ℝ) : EReal) = _
  congr 2
  have : ∀ k : Fin 252, (IntOp.subi (BitVec.ofNat 32 k.val) 125#32).toInt = (k.val : ℤ) - 125 := by decide +kernel
  exact this k

/-- Two to a whole exponent. -/
theorem exp2_int (z : ℤ) : Ideal.exp2 (((z : ℤ) : ℝ) : EReal) = (((2 : ℝ) ^ z : ℝ) : EReal) := by
  rw [Ideal.exp2_coe]; congr 1; exact Real.rpow_intCast 2 z

/-- The reference's exponent of a `t` between `2^(n-127)` and `2^(n-126)` is `n - 126`. -/
theorem rExp_mid {t : EReal} {n : ℕ} (h1 : 1 ≤ n) (hn : n ≤ 252)
    (hlo : (((2 : ℝ) ^ ((n : ℤ) - 127) : ℝ) : EReal) ≤ t) (hhi : t < (((2 : ℝ) ^ ((n : ℤ) - 126) : ℝ) : EReal)) :
    rExp t = ((((n : ℤ) - 126 : ℤ) : ℝ) : EReal) := by
  rw [rExp_eq, if_pos ⟨(EReal.coe_le_coe_iff.2 (zpow_le_zpow_right₀ (by norm_num) (by omega))).trans hlo,
    hhi.trans_le (EReal.coe_le_coe_iff.2 (zpow_le_zpow_right₀ (by norm_num) (by omega)))⟩]
  apply le_antisymm
  · rw [Finset.fold_min_le]
    refine Or.inr ⟨⟨n - 1, by omega⟩, Finset.mem_univ _, ?_⟩
    have e : (((n - 1 : ℕ) : ℤ) - 125) = (n : ℤ) - 126 := by omega
    rw [rCand_eq, exp2_int]
    simp only [e]
    rw [if_pos hhi]
  · rw [Finset.le_fold_min]
    refine ⟨le_top, fun k _ => ?_⟩
    rw [rCand_eq, exp2_int]
    split_ifs with h
    · have hlt : ((n : ℤ) - 127) < (k.val : ℤ) - 125 := by
        have := EReal.coe_lt_coe_iff.1 (hlo.trans_lt h)
        exact (zpow_lt_zpow_iff_right₀ (by norm_num)).1 this
      exact EReal.coe_le_coe_iff.2 (by exact_mod_cast (by omega : (n : ℤ) - 126 ≤ (k.val : ℤ) - 125))
    · exact le_top

/-- Every extended real is below `2^-126`, or from `2^126` on, or between two neighbouring powers of two. -/
theorem cases_t (t : EReal) : t < (((2 : ℝ) ^ (-126 : ℤ) : ℝ) : EReal) ∨ (((2 : ℝ) ^ (126 : ℤ) : ℝ) : EReal) ≤ t ∨
    ∃ n : ℕ, 1 ≤ n ∧ n ≤ 252 ∧ (((2 : ℝ) ^ ((n : ℤ) - 127) : ℝ) : EReal) ≤ t ∧ t < (((2 : ℝ) ^ ((n : ℤ) - 126) : ℝ) : EReal) := by
  rcases lt_or_ge t (((2 : ℝ) ^ (-126 : ℤ) : ℝ) : EReal) with h | h
  · exact Or.inl h
  rcases le_or_gt (((2 : ℝ) ^ (126 : ℤ) : ℝ) : EReal) t with h' | h'
  · exact Or.inr (Or.inl h')
  refine Or.inr (Or.inr ?_)
  induction t with
  | bot => simp at h
  | top => simp at h'
  | coe r =>
    have h := EReal.coe_le_coe_iff.1 h
    have h' := EReal.coe_lt_coe_iff.1 h'
    have hpos : (0 : ℝ) < r := lt_of_lt_of_le (by positivity) h
    obtain ⟨z, hz, hz'⟩ := exists_mem_Ico_zpow (x := r) (y := (2 : ℝ)) hpos (by norm_num)
    have a1 : (-126 : ℤ) < z + 1 := (zpow_lt_zpow_iff_right₀ (by norm_num : (1 : ℝ) < 2)).1 (h.trans_lt hz')
    have a2 : z < 126 := (zpow_lt_zpow_iff_right₀ (by norm_num : (1 : ℝ) < 2)).1 (hz.trans_lt h')
    refine ⟨(z + 127).toNat, by omega, by omega, ?_, ?_⟩
    · have : (((z + 127).toNat : ℕ) : ℤ) - 127 = z := by omega
      rw [this]; exact EReal.coe_le_coe_iff.2 hz
    · have : (((z + 127).toNat : ℕ) : ℤ) - 126 = z + 1 := by omega
      rw [this]; exact EReal.coe_lt_coe_iff.2 hz'

/-- Outside the middle case the search finds nothing. -/
theorem kSearch_none {t : EReal} (h : t < (((2 : ℝ) ^ (-126 : ℤ) : ℝ) : EReal)) : kSearch t = W 0 :=
  kSearch_eq (n := 0) (by omega) (ofBits_W_le (by omega) (fun h => absurd h (by omega)) (by simpa using h))

/-- What the pattern of the search makes of the scale and its reciprocal when nothing was found. -/
theorem kScale_of_none {t : EReal} (h : kSearch (kGate t) = W 0) : kScale t = (1 : EReal) ∧ kInv t = (1 : EReal) := by
  unfold kScale kInv
  rw [h]
  exact ⟨Ideal.ofBits_one_f32, Ideal.ofBits_one_f32⟩

/-- The reference's two values when its exponent is zero. -/
theorem rScale_of_zero {t : EReal} (h : rExp t = (0 : EReal)) : rScale t = (1 : EReal) ∧ rInv t = (1 : EReal) := by
  have e := exp2_int 0
  simp only [Int.cast_zero, EReal.coe_zero, zpow_zero, EReal.coe_one] at e
  constructor
  · show Ideal.exp2 (rExp t) = 1
    rw [h, e]
  · show Ideal.exp2 (Ideal.ofBits .f32 0x00000000#32 - rExp t) = 1
    rw [h, Ideal.ofBits_zero_f32, sub_zero, e]

/-- The kernel's scale and reciprocal are the reference's, at every `t`. -/
theorem kScale_kInv (t : EReal) : kScale t = rScale t ∧ kInv t = rInv t := by
  rcases cases_t t with h | h | ⟨n, h1, hn, hlo, hhi⟩
  · have hb : ((2 : ℝ) ^ (-126 : ℤ)) ≤ (2 : ℝ) ^ (126 : ℤ) := zpow_le_zpow_right₀ (by norm_num) (by omega)
    have hg : kGate t = t := by rw [kGate_eq, if_pos (h.trans_le (EReal.coe_le_coe_iff.2 hb))]
    have hk := kScale_of_none (t := t) (by rw [hg]; exact kSearch_none h)
    have hr := rScale_of_zero (t := t) (by rw [rExp_eq, if_neg (fun hc => absurd (h.trans_le hc.1) (lt_irrefl _))])
    exact ⟨hk.1.trans hr.1.symm, hk.2.trans hr.2.symm⟩
  · have hg : kGate t = (0 : EReal) := by rw [kGate_eq, if_neg (not_lt.2 h)]
    have hk := kScale_of_none (t := t) (by
      rw [hg]; exact kSearch_none (by exact_mod_cast (by positivity : (0 : ℝ) < (2 : ℝ) ^ (-126 : ℤ))))
    have hr := rScale_of_zero (t := t) (by rw [rExp_eq, if_neg (fun hc => absurd (hc.2.trans_le h) (lt_irrefl _))])
    exact ⟨hk.1.trans hr.1.symm, hk.2.trans hr.2.symm⟩
  · have hb : ((2 : ℝ) ^ ((n : ℤ) - 126)) ≤ (2 : ℝ) ^ (126 : ℤ) := zpow_le_zpow_right₀ (by norm_num) (by omega)
    have hg : kGate t = t := by rw [kGate_eq, if_pos (hhi.trans_le (EReal.coe_le_coe_iff.2 hb))]
    have hs : kSearch (kGate t) = W n := by
      rw [hg]; exact kSearch_eq hn (ofBits_W_le hn (fun _ => hlo) hhi)
    have hnone : ∀ m : Fin 253, 1 ≤ m.val → kNone (W m.val) = 0#1 := by decide +kernel
    have hz := hnone ⟨n, by omega⟩ h1
    have he := rExp_mid h1 hn hlo hhi
    constructor
    · unfold kScale rScale
      rw [hs, hz, he]
      have : IntOp.addi (W n) 8388608#32 = W (n + 1) := by
        show W n + BitVec.ofNat 32 8388608 = W (n + 1)
        simp only [W, ← BitVec.ofNat_add, Nat.add_mul, one_mul]
      show Ideal.ofBits .f32 (IntOp.addi (W n) 8388608#32) = Ideal.exp2 _
      rw [this, ofBits_W (n + 1) (by omega) (by omega), exp2_int]
      congr 2; push_cast; ring
    · unfold kInv rInv
      rw [hs, hz, he]
      have hsub : ∀ m : Fin 253, IntOp.subi 2122317824#32 (W m.val) = W (253 - m.val) := by decide +kernel
      show Ideal.ofBits .f32 (IntOp.subi 2122317824#32 (W n)) = Ideal.exp2 (Ideal.ofBits .f32 0x00000000#32 - _)
      rw [hsub ⟨n, by omega⟩, ofBits_W (253 - n) (by omega) (by omega), Ideal.ofBits_zero_f32, zero_sub, ← EReal.coe_neg,
        ← Int.cast_neg, exp2_int]
      congr 2; omega

/-- The kernel's scale is the reference's. -/
theorem kScale_eq (t : Ideal .f32) : kScale t = rScale t := (kScale_kInv t).1

/-- The kernel's reciprocal of the scale is the reference's. -/
theorem kInv_eq (t : Ideal .f32) : kInv t = rInv t := (kScale_kInv t).2

end Cert.KV

end
-- ==== Proof.KV.Read.lean ====
/- THE KERNEL'S WORDS READ AT AN INDEX, over the extended reals. -/
module

public import proofs.«01_k».proof.Proof.KV.Vocab
public import proofs.«01_k».proof.Proof.KV.Quant

@[expose] public section

noncomputable section

namespace Cert.KV

open Cert.KernelIdeal Cert.KernelIdeal.Gen Idealize.ShloMosaic Idealize.ShloMosaic.Pointwise

/-! ## The mathematics of one row -/

/-- The largest magnitude of a row. -/
def rowMax {n : ℕ} (v : Fin n → EReal) : EReal :=
  Finset.univ.fold max (Ideal.ofBits .f32 0xFF800000#32 : EReal) fun k => max (v k) (-(v k))

/-- The row's largest magnitude times 1/448. -/
def rowT {n : ℕ} (v : Fin n → EReal) : EReal := rowMax v * Ideal.ofBits .f32 0x3B124925#32

/-- The row's scale. -/
def rowScale {n : ℕ} (v : Fin n → EReal) : EReal := rScale (rowT v)

/-- The code of one entry of the row. -/
def rowCode {n : ℕ} (v : Fin n → EReal) (k : Fin n) : EReal :=
  min (Ideal.ofBits .f32 0x43E00000#32) (max (Ideal.ofBits .f32 0xC3E00000#32) (v k * rInv (rowT v)))

/-! ## The quantiser -/

/-- The gate at an index. -/
theorem gateV_apply {s : Shape} (a : FVec Ideal s .f32) (i : s.Idx) :
    gateV a i = kGate ((a i : EReal) * Ideal.ofBits .f32 0x3B124925#32) := rfl

/-- One comparison at an index, from the value of the pattern there. -/
theorem stepV_apply {s : Shape} (b : BitVec 32) (t : FVec Ideal s .f32) (e : IVec s 32) (i : s.Idx) {x : BitVec 32} (h : e i = x) :
    stepV b t e i = kStep b (t i) x := by
  subst h; rfl

/-- The search at an index. -/
theorem searchV_apply {s : Shape} (t : FVec Ideal s .f32) (i : s.Idx) : searchV t i = kSearch (t i) := by
  unfold searchV kSearch
  apply stepV_apply
  apply stepV_apply
  apply stepV_apply
  apply stepV_apply
  apply stepV_apply
  apply stepV_apply
  apply stepV_apply
  apply stepV_apply
  rfl

/-- The mark of no ordinary number at an index. -/
theorem noneV_apply {s : Shape} (e : IVec s 32) (i : s.Idx) : noneV e i = kNone (e i) := rfl

/-- A scale's pattern read as a number, at an index. -/
theorem bitsV_apply {s : Shape} (c : IVec s 1) (p q : IVec s 32) (i : s.Idx) :
    (bitcastToFloat .f32 (select c p q) : FVec Ideal s .f32) i = FloatOps.ofBits .f32 (Scalar.select (c i) (p i) (q i)) := rfl

/-- A sum of patterns at an index. -/
theorem addi_at {s : Shape} (p : IVec s 32) (b : BitVec 32) (i : s.Idx) : addi p (broadcast s b) i = IntOp.addi (p i) b := rfl

/-- A difference of patterns at an index. -/
theorem subi_at {s : Shape} (p : IVec s 32) (b : BitVec 32) (i : s.Idx) : subi (broadcast s b) p i = IntOp.subi b (p i) := rfl

/-- A repeated pattern at an index. -/
theorem broadcast_at {s : Shape} (b : BitVec 32) (i : s.Idx) : (broadcast s b : IVec s 32) i = b := rfl

/-- The scales at an index. -/
theorem scaleV_apply {s : Shape} (a : FVec Ideal s .f32) (i : s.Idx) :
    scaleV a i = rScale ((a i : EReal) * Ideal.ofBits .f32 0x3B124925#32) := by
  rw [← kScale_eq]
  unfold scaleV kScale
  rw [bitsV_apply, noneV_apply, addi_at, broadcast_at, searchV_apply, gateV_apply]

/-- The reciprocals at an index. -/
theorem invV_apply {s : Shape} (a : FVec Ideal s .f32) (i : s.Idx) :
    invV a i = rInv ((a i : EReal) * Ideal.ofBits .f32 0x3B124925#32) := by
  rw [← kInv_eq]
  unfold invV kInv
  rw [bitsV_apply, noneV_apply, subi_at, broadcast_at, searchV_apply, gateV_apply]

/-- The codes at an index. -/
theorem codesV_apply {s : Shape} (f inv : FVec Ideal s .f32) (i : s.Idx) :
    codesV f inv i = min (Ideal.ofBits .f32 0x43E00000#32 : EReal) (max (Ideal.ofBits .f32 0xC3E00000#32 : EReal) ((f i : EReal) * inv i)) := rfl

/-! ## One block of `x` -/

/-- The block's rows. -/
theorem xB_apply (x : Vec Ideal S1x512x1024 .bf16) (r : Fin 512) (d : Fin 1024) : xB x (ix2 r d) = x (ix3 0 r d) := by
  pointwise [xB]

/-- Each row's largest magnitude. -/
theorem xMaxB_apply (x : Vec Ideal S1x512x1024 .bf16) (r : Fin 512) (l : Fin 128) :
    xMaxB x (ix2 r l) = rowMax fun d : Fin 1024 => (x (ix3 0 r d) : EReal) := by
  pointwise [xMaxB, xB]
  rfl

/-- The quantised rows. -/
theorem xqB_apply (x : Vec Ideal S1x512x1024 .bf16) (r : Fin 512) (d : Fin 1024) :
    xqB x (ix2 r d) = rowCode (fun d : Fin 1024 => (x (ix3 0 r d) : EReal)) d := by
  unfold xqB
  rw [codesV_apply]
  pointwise [xB]
  rw [invV_apply, xMaxB_apply]
  rfl

/-- The diagonal. -/
theorem diagB_apply (v : FVec Ideal S128x128 .f32) (l : Fin 128) : diagB v (ix2 0 l) = v (ix2 l l) := by
  pointwise [diagB]
  rw [Finset.sum_eq_single l]
  · rw [show IntOp.cmpi .eq (BitVec.ofNat 32 l.val) (BitVec.ofNat 32 l.val) = 1#1 by simp [IntOp.cmpi]]
    rfl
  · intro k _ hk
    have : IntOp.cmpi .eq (BitVec.ofNat 32 k.val) (BitVec.ofNat 32 l.val) = 0#1 := by
      have hne : BitVec.ofNat 32 k.val ≠ BitVec.ofNat 32 l.val := by
        intro h
        have := congrArg BitVec.toNat h
        simp only [BitVec.toNat_ofNat] at this
        omega
      unfold IntOp.cmpi
      simp only [beq_eq_false_iff_ne.2 hne]
      rfl
    rw [this]
    rfl
  · intro h; exact absurd (Finset.mem_univ _) h

/-- The rows' scales. -/
theorem xsB_apply (x : Vec Ideal S1x512x1024 .bf16) (r : Fin 512) :
    xsB x (ix2 0 r) = rowScale fun d : Fin 1024 => (x (ix3 0 r d) : EReal) := by
  have key : ∀ r : Fin 512, ∀ l : Fin 128, scaleV (xMaxB x) (ix2 r l) = rowScale fun d : Fin 1024 => (x (ix3 0 r d) : EReal) := by
    intro r l
    rw [scaleV_apply, xMaxB_apply]
    rfl
  unfold xsB
  generalize scaleV (xMaxB x) = v at key ⊢
  pointwise []
  simp only [diagB_apply]
  pointwise []
  simp only [key]
  have hr : ∀ q : Fin 512, q = r → rowScale (fun d : Fin 1024 => (x (ix3 0 q d) : EReal)) = rowScale fun d : Fin 1024 => (x (ix3 0 r d) : EReal) := by
    rintro _ rfl; rfl
  split
  · rfl
  · rename_i h0
    split
    · exact hr _ (Fin.ext (by show 128 + (r.val - 128) = r.val; omega))
    · rename_i h1
      split
      · exact hr _ (Fin.ext (by show 256 + (r.val - 128 - 128) = r.val; omega))
      · exact hr _ (Fin.ext (by show 384 + (r.val - 128 - 128 - 128) = r.val; omega))

/-- One head's projection. -/
theorem headF_apply (xq : FVec Ideal S512x1024 .fp8e4m3) (xs : FVec Ideal S1x512 .f32) (w : Vec Ideal S64x1024 .fp8e4m3) (s : Vec Ideal S64x1 .f32)
    (d : Fin 64) (r : Fin 512) :
    headF xq xs w s (ix2 d r) = ((∑ k : Fin 1024, (xq (ix2 r k) : EReal) * w (ix2 d k)) * xs (ix2 0 r)) * s (ix2 d 0) := by
  pointwise [headF]
  simp only [mul_comm]

/-- One head's projection with its bias. -/
theorem headFB_apply (xq : FVec Ideal S512x1024 .fp8e4m3) (xs : FVec Ideal S1x512 .f32) (w : Vec Ideal S64x1024 .fp8e4m3) (s b : Vec Ideal S64x1 .f32)
    (d : Fin 64) (r : Fin 512) :
    headFB xq xs w s b (ix2 d r) = ((∑ k : Fin 1024, (xq (ix2 r k) : EReal) * w (ix2 d k)) * xs (ix2 0 r)) * s (ix2 d 0) + b (ix2 d 0) := by
  rw [← headF_apply]
  pointwise [headFB]

/-- The largest magnitude of a column. -/
theorem headMax_apply (f : FVec Ideal S64x512 .f32) (r : Fin 512) :
    headMax f (ix2 0 r) = rowMax fun d : Fin 64 => (f (ix2 d r) : EReal) := by
  pointwise [headMax]
  rfl

/-- A head's codes. -/
theorem headCodes_apply (f : FVec Ideal S64x512 .f32) (d : Fin 64) (r : Fin 512) :
    headCodes f (ix3 0 d r) = rowCode (fun d : Fin 64 => (f (ix2 d r) : EReal)) d := by
  unfold headCodes
  pointwise []
  rw [codesV_apply]
  pointwise []
  rw [invV_apply, headMax_apply]
  rfl

/-- A head's scales. -/
theorem headScales_apply (f : FVec Ideal S64x512 .f32) (r : Fin 512) :
    headScales f (ix3 0 0 r) = rowScale (fun d : Fin 64 => (f (ix2 d r) : EReal)) := by
  unfold headScales
  pointwise []
  rw [scaleV_apply, headMax_apply]
  rfl

end Cert.KV

end
-- ==== Proof.KV.Blocks.lean ====
/- WHAT ONE GRID POINT LEAVES in each output window's buffer, index by index: the codes and scales of the block's rows
   of `x`, and of every head's keys and values. -/
module

public import proofs.«01_k».proof.Proof.KV.Stores
public import proofs.«01_k».proof.Proof.KV.Read

@[expose] public section

noncomputable section

namespace Cert.KV

open Cert.KernelIdeal Cert.KernelIdeal.Gen Idealize.ShloMosaic Idealize.ShloMosaic.Pointwise

/-! ## The mathematics of one block -/

/-- The projection of a row of numbers onto a row of the weight: the row's codes times the weight's codes, rescaled by the
    row's scale and the weight's own. -/
def proj (v w : Fin 1024 → EReal) (s : EReal) : EReal := ((∑ k : Fin 1024, rowCode v k * w k) * rowScale v) * s

/-- The `d`-th of head `h`'s 64 rows of the weight. -/
def headRow (h : Fin 16) (d : Fin 64) : Fin 1024 := ⟨64 * h.val + d.val, by omega⟩

/-- Which head a row of the weight belongs to. -/
def headOf (c : Fin 1024) : Fin 16 := ⟨c.val / 64, by omega⟩

/-- Which of the head's rows it is. -/
def inHead (c : Fin 1024) : Fin 64 := ⟨c.val % 64, by omega⟩

/-- The row of `x` in a block. -/
def blkRow (x : Vec Ideal S1x512x1024 .bf16) (r : Fin 512) : Fin 1024 → EReal := fun d => x (ix3 0 r d)

/-- The block's keys. -/
def blkK (x : Vec Ideal S1x512x1024 .bf16) (w : Vec Ideal S1024x1024 .fp8e4m3) (s : Vec Ideal S1024x1 .f32) (c : Fin 1024) (r : Fin 512) : EReal :=
  proj (blkRow x r) (fun k => w (ix2 c k)) (s (ix2 c 0))

/-- The block's values. -/
def blkV (x : Vec Ideal S1x512x1024 .bf16) (w : Vec Ideal S1024x1024 .fp8e4m3) (s b : Vec Ideal S1024x1 .f32) (c : Fin 1024) (r : Fin 512) : EReal :=
  blkK x w s c r + b (ix2 c 0)

/-- The codes of a block, head by head. -/
def blkCodes (f : Fin 1024 → Fin 512 → EReal) (c : Fin 1024) (r : Fin 512) : EReal :=
  rowCode (fun d : Fin 64 => f (headRow (headOf c) d) r) (inHead c)

/-- The scales of a block, head by head. -/
def blkScales (f : Fin 1024 → Fin 512 → EReal) (h : Fin 16) (r : Fin 512) : EReal :=
  rowScale (fun d : Fin 64 => f (headRow h d) r)

/-! ## The loads and the stores of one head -/

/-- A head's rows of the weight. -/
theorem ld_weight (w : Vec Ideal S1024x1024 .fp8e4m3) (h : Fin 16) {o : ℕ} (ho : o = 64 * h.val)
    (inb : ∀ a, (![o, 0] : Fin 2 → ℕ) a + S64x1024.size a ≤ S1024x1024.size a) (d : Fin 64) (k : Fin 1024) :
    View.ld w (Rect.unit (s := S1024x1024) ![o, 0] S64x1024.size inb) (ix2 d k) = w (ix2 (headRow h d) k) := by
  refine congrArg w (funext fun a => Fin.ext ?_)
  fin_cases a
  · show o + 1 * d.val = 64 * h.val + d.val
    omega
  · show 0 + 1 * k.val = k.val
    omega

/-- A head's rows of a column. -/
theorem ld_column (s : Vec Ideal S1024x1 .f32) (h : Fin 16) {o : ℕ} (ho : o = 64 * h.val)
    (inb : ∀ a, (![o, 0] : Fin 2 → ℕ) a + S64x1.size a ≤ S1024x1.size a) (d : Fin 64) :
    View.ld s (Rect.unit (s := S1024x1) ![o, 0] S64x1.size inb) (ix2 d 0) = s (ix2 (headRow h d) 0) := by
  refine congrArg s (funext fun a => Fin.ext ?_)
  fin_cases a
  · show o + 1 * d.val = 64 * h.val + d.val
    omega
  · rfl

/-- A head's keys. -/
theorem headF_ld (x : Vec Ideal S1x512x1024 .bf16) (w : Vec Ideal S1024x1024 .fp8e4m3) (s : Vec Ideal S1024x1 .f32)
    (h : Fin 16) {o : ℕ} (ho : o = 64 * h.val) (inb inb') (d : Fin 64) (r : Fin 512) :
    headF (xqB x) (xsB x) (View.ld w (Rect.unit (s := S1024x1024) ![o, 0] S64x1024.size inb))
      (View.ld s (Rect.unit (s := S1024x1) ![o, 0] S64x1.size inb')) (ix2 d r) = blkK x w s (headRow h d) r := by
  rw [headF_apply, xsB_apply, ld_column s h ho]
  simp only [xqB_apply, ld_weight w h ho]
  rfl

/-- A head's values. -/
theorem headFB_ld (x : Vec Ideal S1x512x1024 .bf16) (w : Vec Ideal S1024x1024 .fp8e4m3) (s b : Vec Ideal S1024x1 .f32)
    (h : Fin 16) {o : ℕ} (ho : o = 64 * h.val) (inb inb') (d : Fin 64) (r : Fin 512) :
    headFB (xqB x) (xsB x) (View.ld w (Rect.unit (s := S1024x1024) ![o, 0] S64x1024.size inb))
      (View.ld s (Rect.unit (s := S1024x1) ![o, 0] S64x1.size inb'))
      (View.ld b (Rect.unit (s := S1024x1) ![o, 0] S64x1.size inb')) (ix2 d r) = blkV x w s b (headRow h d) r := by
  rw [headFB_apply, xsB_apply, ld_column s h ho, ld_column b h ho]
  simp only [xqB_apply, ld_weight w h ho]
  rfl

/-- One head's store of codes is its part of the block's codes. -/
theorem codes_store (f : Fin 1024 → Fin 512 → EReal) (h : Fin 16) {o : ℕ} (ho : o = 64 * h.val) (g : FVec Ideal S64x512 .f32)
    (hg : ∀ d r, (g (ix2 d r) : EReal) = f (headRow h d) r) (inb : ∀ a, (![0, o, 0] : Fin 3 → ℕ) a + S1x64x512.size a ≤ S1x1024x512.size a)
    (y : S1x64x512.Idx) :
    headCodes g y = blkCodes f ((Rect.unit (s := S1x1024x512) ![0, o, 0] S1x64x512.size inb).emb y 1)
      ((Rect.unit (s := S1x1024x512) ![0, o, 0] S1x64x512.size inb).emb y 2) := by
  obtain ⟨z, d, r, rfl⟩ : ∃ (z : Fin 1) (d : Fin 64) (r : Fin 512), y = ix3 z d r := ⟨y 0, y 1, y 2, by funext a; fin_cases a <;> rfl⟩
  obtain rfl : z = 0 := Subsingleton.elim _ _
  have e1 : (Rect.unit (s := S1x1024x512) ![0, o, 0] S1x64x512.size inb).emb (ix3 0 d r) 1 = headRow h d :=
    Fin.ext (by show o + 1 * d.val = 64 * h.val + d.val; omega)
  have e2 : (Rect.unit (s := S1x1024x512) ![0, o, 0] S1x64x512.size inb).emb (ix3 0 d r) 2 = r :=
    Fin.ext (by show 0 + 1 * r.val = r.val; omega)
  have e3 : headOf (headRow h d) = h := Fin.ext (by show (64 * h.val + d.val) / 64 = h.val; omega)
  have e4 : inHead (headRow h d) = d := Fin.ext (by show (64 * h.val + d.val) % 64 = d.val; omega)
  rw [e1, e2, headCodes_apply]
  unfold blkCodes
  rw [e3, e4]
  simp only [hg]

/-- One head's store of scales is its part of the block's scales. -/
theorem scales_store (f : Fin 1024 → Fin 512 → EReal) (h : Fin 16) {q : ℕ} (hq : q = h.val) (g : FVec Ideal S64x512 .f32)
    (hg : ∀ d r, (g (ix2 d r) : EReal) = f (headRow h d) r) (inb : ∀ a, (![0, q, 0] : Fin 3 → ℕ) a + S1x1x512.size a ≤ S1x16x512.size a)
    (y : S1x1x512.Idx) :
    headScales g y = blkScales f ((Rect.unit (s := S1x16x512) ![0, q, 0] S1x1x512.size inb).emb y 1)
      ((Rect.unit (s := S1x16x512) ![0, q, 0] S1x1x512.size inb).emb y 2) := by
  obtain ⟨z, z', r, rfl⟩ : ∃ (z z' : Fin 1) (r : Fin 512), y = ix3 z z' r := ⟨y 0, y 1, y 2, by funext a; fin_cases a <;> rfl⟩
  obtain rfl : z = 0 := Subsingleton.elim _ _
  obtain rfl : z' = 0 := Subsingleton.elim _ _
  have e1 : (Rect.unit (s := S1x16x512) ![0, q, 0] S1x1x512.size inb).emb (ix3 0 0 r) 1 = h :=
    Fin.ext (by show q + 1 * 0 = h.val; omega)
  have e2 : (Rect.unit (s := S1x16x512) ![0, q, 0] S1x1x512.size inb).emb (ix3 0 0 r) 2 = r :=
    Fin.ext (by show 0 + 1 * r.val = r.val; omega)
  rw [e1, e2, headScales_apply]
  unfold blkScales
  simp only [hg]

/-! ## The six buffers -/

variable (x : Vec Ideal S1x512x1024 .bf16) (wk : Vec Ideal S1024x1024 .fp8e4m3) (sk : Vec Ideal S1024x1 .f32)
  (wv : Vec Ideal S1024x1024 .fp8e4m3) (sv bv : Vec Ideal S1024x1 .f32)

/-- The codes of the rows. -/
theorem out0_6_apply (r : Fin 512) (d : Fin 1024) : out0_6 x wk sk wv sv bv (ix3 0 r d) = rowCode (blkRow x r) d := by
  rw [out0_6_eq]
  pointwise []
  rw [xqB_apply]
  rfl

/-- The scales of the rows. -/
theorem out0_7_apply (r : Fin 512) : out0_7 x wk sk wv sv bv (ix3 0 0 r) = rowScale (blkRow x r) := by
  rw [out0_7_eq]
  pointwise []
  rw [xsB_apply]
  rfl

/-- The codes of the keys. -/
theorem out0_8_apply (y : S1x1024x512.Idx) : out0_8 x wk sk wv sv bv y = blkCodes (blkK x wk sk) (y 1) (y 2) := by
  rw [out0_8_eq]
  refine View.canon_apply_of_pieces (Val := Elt Ideal) (fun y : S1x1024x512.Idx => blkCodes (blkK x wk sk) (y 1) (y 2)) _ ?_ y (cover0_8 _ _ _ _ _ _ _ _ _ _ _ _ _ _ _ _ y)
  simp only [List.forall_mem_cons, List.not_mem_nil, false_imp_iff, implies_true, and_true]
  exact ⟨fun y => codes_store _ 15 rfl _ (headF_ld x wk sk 15 rfl _ _) _ y, fun y => codes_store _ 14 rfl _ (headF_ld x wk sk 14 rfl _ _) _ y, fun y => codes_store _ 13 rfl _ (headF_ld x wk sk 13 rfl _ _) _ y, fun y => codes_store _ 12 rfl _ (headF_ld x wk sk 12 rfl _ _) _ y, fun y => codes_store _ 11 rfl _ (headF_ld x wk sk 11 rfl _ _) _ y, fun y => codes_store _ 10 rfl _ (headF_ld x wk sk 10 rfl _ _) _ y, fun y => codes_store _ 9 rfl _ (headF_ld x wk sk 9 rfl _ _) _ y, fun y => codes_store _ 8 rfl _ (headF_ld x wk sk 8 rfl _ _) _ y, fun y => codes_store _ 7 rfl _ (headF_ld x wk sk 7 rfl _ _) _ y, fun y => codes_store _ 6 rfl _ (headF_ld x wk sk 6 rfl _ _) _ y, fun y => codes_store _ 5 rfl _ (headF_ld x wk sk 5 rfl _ _) _ y, fun y => codes_store _ 4 rfl _ (headF_ld x wk sk 4 rfl _ _) _ y, fun y => codes_store _ 3 rfl _ (headF_ld x wk sk 3 rfl _ _) _ y, fun y => codes_store _ 2 rfl _ (headF_ld x wk sk 2 rfl _ _) _ y, fun y => codes_store _ 1 rfl _ (headF_ld x wk sk 1 rfl _ _) _ y, fun y => codes_store _ 0 rfl _ (headF_ld x wk sk 0 rfl _ _) _ y⟩

/-- The scales of the keys. -/
theorem out0_9_apply (y : S1x16x512.Idx) : out0_9 x wk sk wv sv bv y = blkScales (blkK x wk sk) (y 1) (y 2) := by
  rw [out0_9_eq]
  refine View.canon_apply_of_pieces (Val := Elt Ideal) (fun y : S1x16x512.Idx => blkScales (blkK x wk sk) (y 1) (y 2)) _ ?_ y (cover0_9 _ _ _ _ _ _ _ _ _ _ _ _ _ _ _ _ y)
  simp only [List.forall_mem_cons, List.not_mem_nil, false_imp_iff, implies_true, and_true]
  exact ⟨fun y => scales_store _ 15 rfl _ (headF_ld x wk sk 15 rfl _ _) _ y, fun y => scales_store _ 14 rfl _ (headF_ld x wk sk 14 rfl _ _) _ y, fun y => scales_store _ 13 rfl _ (headF_ld x wk sk 13 rfl _ _) _ y, fun y => scales_store _ 12 rfl _ (headF_ld x wk sk 12 rfl _ _) _ y, fun y => scales_store _ 11 rfl _ (headF_ld x wk sk 11 rfl _ _) _ y, fun y => scales_store _ 10 rfl _ (headF_ld x wk sk 10 rfl _ _) _ y, fun y => scales_store _ 9 rfl _ (headF_ld x wk sk 9 rfl _ _) _ y, fun y => scales_store _ 8 rfl _ (headF_ld x wk sk 8 rfl _ _) _ y, fun y => scales_store _ 7 rfl _ (headF_ld x wk sk 7 rfl _ _) _ y, fun y => scales_store _ 6 rfl _ (headF_ld x wk sk 6 rfl _ _) _ y, fun y => scales_store _ 5 rfl _ (headF_ld x wk sk 5 rfl _ _) _ y, fun y => scales_store _ 4 rfl _ (headF_ld x wk sk 4 rfl _ _) _ y, fun y => scales_store _ 3 rfl _ (headF_ld x wk sk 3 rfl _ _) _ y, fun y => scales_store _ 2 rfl _ (headF_ld x wk sk 2 rfl _ _) _ y, fun y => scales_store _ 1 rfl _ (headF_ld x wk sk 1 rfl _ _) _ y, fun y => scales_store _ 0 rfl _ (headF_ld x wk sk 0 rfl _ _) _ y⟩

/-- The codes of the values. -/
theorem out0_10_apply (y : S1x1024x512.Idx) : out0_10 x wk sk wv sv bv y = blkCodes (blkV x wv sv bv) (y 1) (y 2) := by
  rw [out0_10_eq]
  refine View.canon_apply_of_pieces (Val := Elt Ideal) (fun y : S1x1024x512.Idx => blkCodes (blkV x wv sv bv) (y 1) (y 2)) _ ?_ y (cover0_10 _ _ _ _ _ _ _ _ _ _ _ _ _ _ _ _ y)
  simp only [List.forall_mem_cons, List.not_mem_nil, false_imp_iff, implies_true, and_true]
  exact ⟨fun y => codes_store _ 15 rfl _ (headFB_ld x wv sv bv 15 rfl _ _) _ y, fun y => codes_store _ 14 rfl _ (headFB_ld x wv sv bv 14 rfl _ _) _ y, fun y => codes_store _ 13 rfl _ (headFB_ld x wv sv bv 13 rfl _ _) _ y, fun y => codes_store _ 12 rfl _ (headFB_ld x wv sv bv 12 rfl _ _) _ y, fun y => codes_store _ 11 rfl _ (headFB_ld x wv sv bv 11 rfl _ _) _ y, fun y => codes_store _ 10 rfl _ (headFB_ld x wv sv bv 10 rfl _ _) _ y, fun y => codes_store _ 9 rfl _ (headFB_ld x wv sv bv 9 rfl _ _) _ y, fun y => codes_store _ 8 rfl _ (headFB_ld x wv sv bv 8 rfl _ _) _ y, fun y => codes_store _ 7 rfl _ (headFB_ld x wv sv bv 7 rfl _ _) _ y, fun y => codes_store _ 6 rfl _ (headFB_ld x wv sv bv 6 rfl _ _) _ y, fun y => codes_store _ 5 rfl _ (headFB_ld x wv sv bv 5 rfl _ _) _ y, fun y => codes_store _ 4 rfl _ (headFB_ld x wv sv bv 4 rfl _ _) _ y, fun y => codes_store _ 3 rfl _ (headFB_ld x wv sv bv 3 rfl _ _) _ y, fun y => codes_store _ 2 rfl _ (headFB_ld x wv sv bv 2 rfl _ _) _ y, fun y => codes_store _ 1 rfl _ (headFB_ld x wv sv bv 1 rfl _ _) _ y, fun y => codes_store _ 0 rfl _ (headFB_ld x wv sv bv 0 rfl _ _) _ y⟩

/-- The scales of the values. -/
theorem out0_11_apply (y : S1x16x512.Idx) : out0_11 x wk sk wv sv bv y = blkScales (blkV x wv sv bv) (y 1) (y 2) := by
  rw [out0_11_eq]
  refine View.canon_apply_of_pieces (Val := Elt Ideal) (fun y : S1x16x512.Idx => blkScales (blkV x wv sv bv) (y 1) (y 2)) _ ?_ y (cover0_11 _ _ _ _ _ _ _ _ _ _ _ _ _ _ _ _ y)
  simp only [List.forall_mem_cons, List.not_mem_nil, false_imp_iff, implies_true, and_true]
  exact ⟨fun y => scales_store _ 15 rfl _ (headFB_ld x wv sv bv 15 rfl _ _) _ y, fun y => scales_store _ 14 rfl _ (headFB_ld x wv sv bv 14 rfl _ _) _ y, fun y => scales_store _ 13 rfl _ (headFB_ld x wv sv bv 13 rfl _ _) _ y, fun y => scales_store _ 12 rfl _ (headFB_ld x wv sv bv 12 rfl _ _) _ y, fun y => scales_store _ 11 rfl _ (headFB_ld x wv sv bv 11 rfl _ _) _ y, fun y => scales_store _ 10 rfl _ (headFB_ld x wv sv bv 10 rfl _ _) _ y, fun y => scales_store _ 9 rfl _ (headFB_ld x wv sv bv 9 rfl _ _) _ y, fun y => scales_store _ 8 rfl _ (headFB_ld x wv sv bv 8 rfl _ _) _ y, fun y => scales_store _ 7 rfl _ (headFB_ld x wv sv bv 7 rfl _ _) _ y, fun y => scales_store _ 6 rfl _ (headFB_ld x wv sv bv 6 rfl _ _) _ y, fun y => scales_store _ 5 rfl _ (headFB_ld x wv sv bv 5 rfl _ _) _ y, fun y => scales_store _ 4 rfl _ (headFB_ld x wv sv bv 4 rfl _ _) _ y, fun y => scales_store _ 3 rfl _ (headFB_ld x wv sv bv 3 rfl _ _) _ y, fun y => scales_store _ 2 rfl _ (headFB_ld x wv sv bv 2 rfl _ _) _ y, fun y => scales_store _ 1 rfl _ (headFB_ld x wv sv bv 1 rfl _ _) _ y, fun y => scales_store _ 0 rfl _ (headFB_ld x wv sv bv 0 rfl _ _) _ y⟩

end Cert.KV

end
-- ==== Proof.KV.Spec.lean ====
/- THE MATHEMATICS OF THE KEYS AND VALUES, as functions of the argument arrays: what both the kernel and the reference
   compute. -/
module

public import proofs.«01_k».proof.Proof.KV.Blocks

@[expose] public section

noncomputable section

namespace Cert.KV

open Idealize.ShloMosaic Idealize.ShloMosaic.Pointwise

/-- A head's row belongs to it. -/
theorem headOf_row (h : Fin 16) (d : Fin 64) (p : (headRow h d).val / 64 < 16) : (⟨(headRow h d).val / 64, p⟩ : Fin 16) = h :=
  Fin.ext (by show (64 * h.val + d.val) / 64 = h.val; omega)

/-- And is that row of it. -/
theorem inHead_row (h : Fin 16) (d : Fin 64) (p : (headRow h d).val % 64 < 64) : (⟨(headRow h d).val % 64, p⟩ : Fin 64) = d :=
  Fin.ext (by show (64 * h.val + d.val) % 64 = d.val; omega)

/-- Sequence `b`'s row `s` of `x`. -/
def rowX (X : (⟨3, ![32, 2048, 1024]⟩ : Shape).Idx → EReal) (b : Fin 32) (s : Fin 2048) : Fin 1024 → EReal := fun d => X (ix3 b s d)

/-- The keys: the row's projection onto column `(h, d)` of the weight. -/
def specK (X : (⟨3, ![32, 2048, 1024]⟩ : Shape).Idx → EReal) (W : (⟨3, ![1024, 16, 64]⟩ : Shape).Idx → EReal)
    (S : (⟨1, ![16]⟩ : Shape).Idx → EReal) (b : Fin 32) (s : Fin 2048) (h : Fin 16) (d : Fin 64) : EReal :=
  proj (rowX X b s) (fun k => W (ix3 k h d)) (S (ix1 h))

/-- The values: the same with the bias. -/
def specV (X : (⟨3, ![32, 2048, 1024]⟩ : Shape).Idx → EReal) (W : (⟨3, ![1024, 16, 64]⟩ : Shape).Idx → EReal)
    (S : (⟨1, ![16]⟩ : Shape).Idx → EReal) (B : (⟨2, ![16, 64]⟩ : Shape).Idx → EReal) (b : Fin 32) (s : Fin 2048) (h : Fin 16) (d : Fin 64) : EReal :=
  specK X W S b s h d + B (ix2 h d)

/-! ## The six results -/

/-- The codes of the rows of `x`. -/
def valXq (X : (⟨3, ![32, 2048, 1024]⟩ : Shape).Idx → EReal) : (⟨3, ![32, 2048, 1024]⟩ : Shape).Idx → EReal :=
  fun i => rowCode (rowX X (i 0) (i 1)) (i 2)

/-- Their scales. -/
def valXs (X : (⟨3, ![32, 2048, 1024]⟩ : Shape).Idx → EReal) : (⟨2, ![32, 2048]⟩ : Shape).Idx → EReal :=
  fun i => rowScale (rowX X (i 0) (i 1))

/-- The codes of the keys or the values, each head quantised on its own. -/
def valCodes (f : Fin 32 → Fin 2048 → Fin 16 → Fin 64 → EReal) : (⟨4, ![32, 2048, 16, 64]⟩ : Shape).Idx → EReal :=
  fun i => rowCode (f (i 0) (i 1) (i 2)) (i 3)

/-- Their scales. -/
def valScales (f : Fin 32 → Fin 2048 → Fin 16 → Fin 64 → EReal) : (⟨3, ![32, 2048, 16]⟩ : Shape).Idx → EReal :=
  fun i => rowScale (f (i 0) (i 1) (i 2))

end Cert.KV

end
-- ==== Proof.KV.Entry.lean ====
/- WHAT THE KERNEL FINDS: the arrays its call reads, after the host lines before it, and the blocks of them each grid
   point loads. -/
module

public import proofs.«01_k».proof.Proof.KV.Spec

@[expose] public section

noncomputable section

namespace Cert.KV

open Cert.KernelIdeal Cert.KernelIdeal.Gen Idealize.ShloMosaic Idealize.ShloMosaic.TcCoe Idealize.ShloMosaic.Pointwise Idealize.SL.Sem
open Idealize.ShloMosaic.Pipeline (Dat Window)

variable (m : (ℓ : Loc nD τ sig) → Buf (Elt Ideal) ℓ) (c : Dev nD)

/-! ## The grid -/

/-- A grid point's sequence. -/
def ptB (t : Fin cfg0.N) : Fin 32 := ⟨t.val / 4, by have : t.val < 128 := t.isLt; omega⟩

/-- Row `r` of the point's 512 rows. -/
def ptS (t : Fin cfg0.N) (r : Fin 512) : Fin 2048 := ⟨512 * (t.val % 4) + r.val, by omega⟩

/-- Where the block of `x` lies. -/
theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The block of `x`. -/
theorem iblk0_apply (t : Fin cfg0.N) (r : Fin 512) (d : Fin 1024) :
    iblk m c 0 t (ix3 0 r d) = m ((c : Thread nD τ).loc main_arg0) (ix3 (ptB t) (ptS t r) d) := by
  rw [← V_main_arg0 m c]
  show V m c main_arg0 ((win0_0.rect t).emb (ix3 0 r d)) = _
  refine congrArg (V m c main_arg0) (funext fun a => Fin.ext ?_)
  rw [Window.rect_emb_val win0_0 t _ a rfl]
  obtain ⟨h0, h1, h2⟩ := idx0 t
  fin_cases a
  · show win0_0.index t 0 * 1 + 0 = t.val / 4
    omega
  · show win0_0.index t 1 * 512 + r.val = 512 * (t.val % 4) + r.val
    omega
  · show win0_0.index t 2 * 1024 + d.val = d.val
    omega

/-- The whole of it at every point. -/
theorem iblk1_eq (t : Fin cfg0.N) : (iblk m c 1 t : Vec Ideal S1024x1024 .fp8e4m3) = V m c main_v1 := by
  funext y
  show V m c main_v1 ((win0_1.rect t).emb y) = V m c main_v1 y
  refine congrArg (V m c main_v1) (funext fun a => Fin.ext ?_)
  exact Window.rect_emb_val_of_index_zero win0_1 t a (by fin_cases a <;> rfl) y

/-- The whole of it at every point. -/
theorem iblk2_eq (t : Fin cfg0.N) : (iblk m c 2 t : Vec Ideal S1024x1 .f32) = V m c main_v6 := by
  funext y
  show V m c main_v6 ((win0_2.rect t).emb y) = V m c main_v6 y
  refine congrArg (V m c main_v6) (funext fun a => Fin.ext ?_)
  exact Window.rect_emb_val_of_index_zero win0_2 t a (by fin_cases a <;> rfl) y

/-- The whole of it at every point. -/
theorem iblk3_eq (t : Fin cfg0.N) : (iblk m c 3 t : Vec Ideal S1024x1024 .fp8e4m3) = V m c main_v3 := by
  funext y
  show V m c main_v3 ((win0_3.rect t).emb y) = V m c main_v3 y
  refine congrArg (V m c main_v3) (funext fun a => Fin.ext ?_)
  exact Window.rect_emb_val_of_index_zero win0_3 t a (by fin_cases a <;> rfl) y

/-- The whole of it at every point. -/
theorem iblk4_eq (t : Fin cfg0.N) : (iblk m c 4 t : Vec Ideal S1024x1 .f32) = V m c main_v9 := by
  funext y
  show V m c main_v9 ((win0_4.rect t).emb y) = V m c main_v9 y
  refine congrArg (V m c main_v9) (funext fun a => Fin.ext ?_)
  exact Window.rect_emb_val_of_index_zero win0_4 t a (by fin_cases a <;> rfl) y

/-- The whole of it at every point. -/
theorem iblk5_eq (t : Fin cfg0.N) : (iblk m c 5 t : Vec Ideal S1024x1 .f32) = V m c main_v10 := by
  funext y
  show V m c main_v10 ((win0_5.rect t).emb y) = V m c main_v10 y
  refine congrArg (V m c main_v10) (funext fun a => Fin.ext ?_)
  exact Window.rect_emb_val_of_index_zero win0_5 t a (by fin_cases a <;> rfl) y

/-! ## The host lines before the call -/

/-- The weight `main_arg1` as the call finds it: heads and their columns as rows. -/
theorem V_main_v1 (h : Fin 16) (d : Fin 64) (k : Fin 1024) :
    V m c main_v1 (ix2 (headRow h d) k) = m ((c : Thread nD τ).loc main_arg1) (ix3 k h d) := by
  have e : V m c main_v1 = shapeCast S1024x1024 (transpose S16x64x1024 [1, 2, 0] (m ((c : Thread nD τ).loc main_arg1)) transposes_S1024x16x64_S16x64x1024_1_2_0)
      shapeCasts_S16x64x1024_S1024x1024 := by
    show StableHlo.after (List.flatten [hostOps0]) (fun b => m (c, b)) _ = _
    simp only [hostOps0, List.flatten_cons, List.flatten_nil, List.append_nil, List.cons_append, List.nil_append]
    after_results
    rfl
  rw [e]
  pointwise []
  rw [headOf_row, inHead_row]

/-- The weight `main_arg3` as the call finds it: heads and their columns as rows. -/
theorem V_main_v3 (h : Fin 16) (d : Fin 64) (k : Fin 1024) :
    V m c main_v3 (ix2 (headRow h d) k) = m ((c : Thread nD τ).loc main_arg3) (ix3 k h d) := by
  have e : V m c main_v3 = shapeCast S1024x1024 (transpose S16x64x1024 [1, 2, 0] (m ((c : Thread nD τ).loc main_arg3)) transposes_S1024x16x64_S16x64x1024_1_2_0)
      shapeCasts_S16x64x1024_S1024x1024 := by
    show StableHlo.after (List.flatten [hostOps0]) (fun b => m (c, b)) _ = _
    simp only [hostOps0, List.flatten_cons, List.flatten_nil, List.append_nil, List.cons_append, List.nil_append]
    after_results
    rfl
  rw [e]
  pointwise []
  rw [headOf_row, inHead_row]

/-- The weight's scales `main_arg2` as the call finds them: each head's, repeated for its rows. -/
theorem V_main_v6 (h : Fin 16) (d : Fin 64) : V m c main_v6 (ix2 (headRow h d) 0) = m ((c : Thread nD τ).loc main_arg2) (ix1 h) := by
  have e : V m c main_v6 = broadcastInDim S1024x1 ![0] bcast_S1024_S1024x1_0 (shapeCast S1024 (broadcastInDim S16x64 ![0] bcast_S16_S16x64_0
      (m ((c : Thread nD τ).loc main_arg2))) shapeCasts_S16x64_S1024) := by
    show StableHlo.after (List.flatten [hostOps0]) (fun b => m (c, b)) _ = _
    simp only [hostOps0, List.flatten_cons, List.flatten_nil, List.append_nil, List.cons_append, List.nil_append]
    after_results
    rfl
  rw [e]
  pointwise []
  rw [headOf_row]

/-- The weight's scales `main_arg4` as the call finds them: each head's, repeated for its rows. -/
theorem V_main_v9 (h : Fin 16) (d : Fin 64) : V m c main_v9 (ix2 (headRow h d) 0) = m ((c : Thread nD τ).loc main_arg4) (ix1 h) := by
  have e : V m c main_v9 = broadcastInDim S1024x1 ![0] bcast_S1024_S1024x1_0 (shapeCast S1024 (broadcastInDim S16x64 ![0] bcast_S16_S16x64_0
      (m ((c : Thread nD τ).loc main_arg4))) shapeCasts_S16x64_S1024) := by
    show StableHlo.after (List.flatten [hostOps0]) (fun b => m (c, b)) _ = _
    simp only [hostOps0, List.flatten_cons, List.flatten_nil, List.append_nil, List.cons_append, List.nil_append]
    after_results
    rfl
  rw [e]
  pointwise []
  rw [headOf_row]

/-- The bias as the call finds it: one column. -/
theorem V_main_v10 (h : Fin 16) (d : Fin 64) : V m c main_v10 (ix2 (headRow h d) 0) = m ((c : Thread nD τ).loc main_arg5) (ix2 h d) := by
  have e : V m c main_v10 = shapeCast S1024x1 (m ((c : Thread nD τ).loc main_arg5)) shapeCasts_S16x64_S1024x1 := by
    show StableHlo.after (List.flatten [hostOps0]) (fun b => m (c, b)) _ = _
    simp only [hostOps0, List.flatten_cons, List.flatten_nil, List.append_nil, List.cons_append, List.nil_append]
    after_results
    rfl
  rw [e]
  pointwise []
  rw [headOf_row, inHead_row]

end Cert.KV

end
-- ==== Proof.KV.Arrays.lean ====
/- WHAT THE KERNEL'S RESULT ARRAYS HOLD AFTER ITS CALL, index by index: every index lies in the block of one grid point,
   and holds what that point wrote there. -/
module

public import proofs.«01_k».proof.Proof.KV.Entry

@[expose] public section

noncomputable section

namespace Cert.KV

open Cert.KernelIdeal Cert.KernelIdeal.Gen Idealize.ShloMosaic Idealize.ShloMosaic.TcCoe Idealize.ShloMosaic.Pointwise Idealize.SL.Sem
open Idealize.ShloMosaic.Pipeline (Dat Window)

variable (m : (ℓ : Loc nD τ sig) → Buf (Elt Ideal) ℓ) (c : Dev nD)

/-! ## The arguments -/

/-- `x`. -/
def aX : (⟨3, ![32, 2048, 1024]⟩ : Shape).Idx → EReal := m ((c : Thread nD τ).loc main_arg0)

/-- The keys of a device's arguments. -/
def aK (b : Fin 32) (s : Fin 2048) (h : Fin 16) (d : Fin 64) : EReal :=
  specK (aX m c) (m ((c : Thread nD τ).loc main_arg1)) (m ((c : Thread nD τ).loc main_arg2)) b s h d

/-- The values of a device's arguments. -/
def aV (b : Fin 32) (s : Fin 2048) (h : Fin 16) (d : Fin 64) : EReal :=
  specV (aX m c) (m ((c : Thread nD τ).loc main_arg3)) (m ((c : Thread nD τ).loc main_arg4)) (m ((c : Thread nD τ).loc main_arg5)) b s h d

/-! ## One grid point's block in their words -/

/-- The block's rows are rows of `x`. -/
theorem blkRow_eq (t : Fin cfg0.N) (r : Fin 512) : blkRow (iblk m c 0 t) r = rowX (aX m c) (ptB t) (ptS t r) :=
  funext fun d => iblk0_apply m c t r d

/-- The block's keys. -/
theorem blkK_eq (t : Fin cfg0.N) (h : Fin 16) (d : Fin 64) (r : Fin 512) :
    blkK (iblk m c 0 t) (iblk m c 1 t) (iblk m c 2 t) (headRow h d) r = aK m c (ptB t) (ptS t r) h d := by
  unfold blkK aK specK
  rw [blkRow_eq, iblk1_eq, iblk2_eq, V_main_v6]
  exact congrArg (fun f => proj (rowX (aX m c) (ptB t) (ptS t r)) f _) (funext fun k => V_main_v1 m c h d k)

/-- The block's values. -/
theorem blkV_eq (t : Fin cfg0.N) (h : Fin 16) (d : Fin 64) (r : Fin 512) :
    blkV (iblk m c 0 t) (iblk m c 3 t) (iblk m c 4 t) (iblk m c 5 t) (headRow h d) r = aV m c (ptB t) (ptS t r) h d := by
  unfold blkV blkK aV specV specK
  rw [blkRow_eq, iblk3_eq, iblk4_eq, iblk5_eq, V_main_v9, V_main_v10]
  exact congrArg (fun f => proj (rowX (aX m c) (ptB t) (ptS t r)) f _ + _) (funext fun k => V_main_v3 m c h d k)

/-! ## What a grid point writes back -/

/-- The codes of its rows. -/
theorem flushed6 (t : Fin cfg0.N) (r : Fin 512) (d : Fin 1024) :
    (dats m 0 c).flushed 6 t (ix3 0 r d) = rowCode (rowX (aX m c) (ptB t) (ptS t r)) d := by
  rw [← blkRow_eq, ← out0_6_apply (iblk m c 0 t) (iblk m c 1 t) (iblk m c 2 t) (iblk m c 3 t) (iblk m c 4 t) (iblk m c 5 t), ← after0_6]
  rfl

/-- The scales of its rows. -/
theorem flushed7 (t : Fin cfg0.N) (r : Fin 512) :
    (dats m 0 c).flushed 7 t (ix3 0 0 r) = rowScale (rowX (aX m c) (ptB t) (ptS t r)) := by
  rw [← blkRow_eq, ← out0_7_apply (iblk m c 0 t) (iblk m c 1 t) (iblk m c 2 t) (iblk m c 3 t) (iblk m c 4 t) (iblk m c 5 t), ← after0_7]
  rfl

/-- The codes of its keys. -/
theorem flushed8 (t : Fin cfg0.N) (k : Fin 1024) (r : Fin 512) :
    (dats m 0 c).flushed 8 t (ix3 0 k r) = rowCode (aK m c (ptB t) (ptS t r) (headOf k)) (inHead k) := by
  have e : (dats m 0 c).flushed 8 t = out0_8 (iblk m c 0 t) (iblk m c 1 t) (iblk m c 2 t) (iblk m c 3 t) (iblk m c 4 t) (iblk m c 5 t) := by
    rw [← after0_8]
  rw [e, out0_8_apply]
  show blkCodes (blkK (iblk m c 0 t) (iblk m c 1 t) (iblk m c 2 t)) k r = _
  unfold blkCodes
  simp only [blkK_eq]

/-- The scales of its keys. -/
theorem flushed9 (t : Fin cfg0.N) (h : Fin 16) (r : Fin 512) :
    (dats m 0 c).flushed 9 t (ix3 0 h r) = rowScale (aK m c (ptB t) (ptS t r) h) := by
  have e : (dats m 0 c).flushed 9 t = out0_9 (iblk m c 0 t) (iblk m c 1 t) (iblk m c 2 t) (iblk m c 3 t) (iblk m c 4 t) (iblk m c 5 t) := by
    rw [← after0_9]
  rw [e, out0_9_apply]
  show blkScales (blkK (iblk m c 0 t) (iblk m c 1 t) (iblk m c 2 t)) h r = _
  unfold blkScales
  simp only [blkK_eq]

/-- The codes of its values. -/
theorem flushed10 (t : Fin cfg0.N) (k : Fin 1024) (r : Fin 512) :
    (dats m 0 c).flushed 10 t (ix3 0 k r) = rowCode (aV m c (ptB t) (ptS t r) (headOf k)) (inHead k) := by
  have e : (dats m 0 c).flushed 10 t = out0_10 (iblk m c 0 t) (iblk m c 1 t) (iblk m c 2 t) (iblk m c 3 t) (iblk m c 4 t) (iblk m c 5 t) := by
    rw [← after0_10]
  rw [e, out0_10_apply]
  show blkCodes (blkV (iblk m c 0 t) (iblk m c 3 t) (iblk m c 4 t) (iblk m c 5 t)) k r = _
  unfold blkCodes
  simp only [blkV_eq]

/-- The scales of its values. -/
theorem flushed11 (t : Fin cfg0.N) (h : Fin 16) (r : Fin 512) :
    (dats m 0 c).flushed 11 t (ix3 0 h r) = rowScale (aV m c (ptB t) (ptS t r) h) := by
  have e : (dats m 0 c).flushed 11 t = out0_11 (iblk m c 0 t) (iblk m c 1 t) (iblk m c 2 t) (iblk m c 3 t) (iblk m c 4 t) (iblk m c 5 t) := by
    rw [← after0_11]
  rw [e, out0_11_apply]
  show blkScales (blkV (iblk m c 0 t) (iblk m c 3 t) (iblk m c 4 t) (iblk m c 5 t)) h r = _
  unfold blkScales
  simp only [blkV_eq]

/-! ## The arrays -/

/-- The grid point of sequence `b` and row `s`. -/
def pt (b : Fin 32) (s : Fin 2048) : Fin cfg0.N := ⟨4 * b.val + s.val / 512, by show 4 * b.val + s.val / 512 < 128; omega⟩

/-- Its row. -/
def ptR (s : Fin 2048) : Fin 512 := ⟨s.val % 512, by omega⟩

/-- Its sequence is `b`. -/
theorem ptB_pt (b : Fin 32) (s : Fin 2048) : ptB (pt b s) = b :=
  Fin.ext (by show (4 * b.val + s.val / 512) / 4 = b.val; omega)

/-- Its row is `s`. -/
theorem ptS_pt (b : Fin 32) (s : Fin 2048) : ptS (pt b s) (ptR s) = s :=
  Fin.ext (by show 512 * ((4 * b.val + s.val / 512) % 4) + s.val % 512 = s.val; omega)

/-- Where window 6's block lies. -/
theorem idx6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)

/-- Distinct points' blocks share no index. -/
theorem disjoint6 : ∀ t t' : Fin cfg0.N, (cfg0.win 6).flush t = true → (cfg0.win 6).flush t' = true → t ≠ t' →
    Disjoint ((cfg0.win 6).blk t).view.set ((cfg0.win 6).blk t').view.set := fun t t' _ _ hne =>
  (cfg0.win 6).disjoint_blk fun h => hne (Fin.ext (by
    have h0 : win0_6.index t 0 = win0_6.index t' 0 := congrFun h 0
    have h1 : win0_6.index t 1 = win0_6.index t' 1 := congrFun h 1
    have a := idx6 t
    have b := idx6 t'
    omega))

/-- The codes of the rows of `x`. -/
theorem arr6 (b : Fin 32) (s : Fin 2048) (d : Fin 1024) :
    (dats m 0 c).arrAt 6 cfg0.N (ix3 b s d : S32x2048x1024.Idx) = rowCode (rowX (aX m c) b s) d := by
  have e : ((ix3 b s d) : S32x2048x1024.Idx) = ((cfg0.win 6).blk (pt b s)).view.emb (ix3 0 (ptR s) d) := by
    show _ = (win0_6.rect (pt b s)).emb (ix3 0 (ptR s) d)
    funext a
    refine Fin.ext ?_
    rw [Window.rect_emb_val win0_6 (pt b s) _ a rfl]
    obtain ⟨h0, h1, h2⟩ := idx6 (pt b s)
    have hp : (pt b s).val = 4 * b.val + s.val / 512 := rfl
    fin_cases a
    · show b.val = win0_6.index (pt b s) 0 * 1 + 0
      omega
    · show s.val = win0_6.index (pt b s) 1 * 512 + s.val % 512
      omega
    · show d.val = win0_6.index (pt b s) 2 * 1024 + d.val
      omega
  rw [e, (dats m 0 c).arrAt_emb_eq_flushed 6 disjoint6 (pt b s) (flush0_6 _)]
  refine (flushed6 m c (pt b s) (ptR s) d).trans ?_
  rw [ptB_pt, ptS_pt]

/-- Where window 7's block lies. -/
theorem idx7 : ∀ t : Fin cfg0.N, win0_7.index t 0 = t.val / 4 ∧ win0_7.index t 2 = t.val % 4 ∧ win0_7.index t 1 = 0 :=
  (by decide +kernel : ∀ t : Fin grid0.N, win0_7.index t 0 = t.val / 4 ∧ win0_7.index t 2 = t.val % 4 ∧ win0_7.index t 1 = 0)

/-- Distinct points' blocks share no index. -/
theorem disjoint7 : ∀ t t' : Fin cfg0.N, (cfg0.win 7).flush t = true → (cfg0.win 7).flush t' = true → t ≠ t' →
    Disjoint ((cfg0.win 7).blk t).view.set ((cfg0.win 7).blk t').view.set := fun t t' _ _ hne =>
  (cfg0.win 7).disjoint_blk fun h => hne (Fin.ext (by
    have h0 : win0_7.index t 0 = win0_7.index t' 0 := congrFun h 0
    have h1 : win0_7.index t 2 = win0_7.index t' 2 := congrFun h 2
    have a := idx7 t
    have b := idx7 t'
    omega))

/-- The scales of the rows of `x`. -/
theorem arr7 (b : Fin 32) (s : Fin 2048)  :
    (dats m 0 c).arrAt 7 cfg0.N (ix3 b 0 s : S32x1x2048.Idx) = rowScale (rowX (aX m c) b s) := by
  have e : ((ix3 b 0 s) : S32x1x2048.Idx) = ((cfg0.win 7).blk (pt b s)).view.emb (ix3 0 0 (ptR s)) := by
    show _ = (win0_7.rect (pt b s)).emb (ix3 0 0 (ptR s))
    funext a
    refine Fin.ext ?_
    rw [Window.rect_emb_val win0_7 (pt b s) _ a rfl]
    obtain ⟨h0, h1, h2⟩ := idx7 (pt b s)
    have hp : (pt b s).val = 4 * b.val + s.val / 512 := rfl
    fin_cases a
    · show b.val = win0_7.index (pt b s) 0 * 1 + 0
      omega
    · show 0 = win0_7.index (pt b s) 1 * 1 + 0
      omega
    · show s.val = win0_7.index (pt b s) 2 * 512 + s.val % 512
      omega
  rw [e, (dats m 0 c).arrAt_emb_eq_flushed 7 disjoint7 (pt b s) (flush0_7 _)]
  refine (flushed7 m c (pt b s) (ptR s)).trans ?_
  rw [ptB_pt, ptS_pt]

/-- Where window 8's block lies. -/
theorem idx8 : ∀ t : Fin cfg0.N, win0_8.index t 0 = t.val / 4 ∧ win0_8.index t 2 = t.val % 4 ∧ win0_8.index t 1 = 0 :=
  (by decide +kernel : ∀ t : Fin grid0.N, win0_8.index t 0 = t.val / 4 ∧ win0_8.index t 2 = t.val % 4 ∧ win0_8.index t 1 = 0)

/-- Distinct points' blocks share no index. -/
theorem disjoint8 : ∀ t t' : Fin cfg0.N, (cfg0.win 8).flush t = true → (cfg0.win 8).flush t' = true → t ≠ t' →
    Disjoint ((cfg0.win 8).blk t).view.set ((cfg0.win 8).blk t').view.set := fun t t' _ _ hne =>
  (cfg0.win 8).disjoint_blk fun h => hne (Fin.ext (by
    have h0 : win0_8.index t 0 = win0_8.index t' 0 := congrFun h 0
    have h1 : win0_8.index t 2 = win0_8.index t' 2 := congrFun h 2
    have a := idx8 t
    have b := idx8 t'
    omega))

/-- The codes of the keys. -/
theorem arr8 (b : Fin 32) (s : Fin 2048) (k : Fin 1024) :
    (dats m 0 c).arrAt 8 cfg0.N (ix3 b k s : S32x1024x2048.Idx) = rowCode (aK m c b s (headOf k)) (inHead k) := by
  have e : ((ix3 b k s) : S32x1024x2048.Idx) = ((cfg0.win 8).blk (pt b s)).view.emb (ix3 0 k (ptR s)) := by
    show _ = (win0_8.rect (pt b s)).emb (ix3 0 k (ptR s))
    funext a
    refine Fin.ext ?_
    rw [Window.rect_emb_val win0_8 (pt b s) _ a rfl]
    obtain ⟨h0, h1, h2⟩ := idx8 (pt b s)
    have hp : (pt b s).val = 4 * b.val + s.val / 512 := rfl
    fin_cases a
    · show b.val = win0_8.index (pt b s) 0 * 1 + 0
      omega
    · show k.val = win0_8.index (pt b s) 1 * 1024 + k.val
      omega
    · show s.val = win0_8.index (pt b s) 2 * 512 + s.val % 512
      omega
  rw [e, (dats m 0 c).arrAt_emb_eq_flushed 8 disjoint8 (pt b s) (flush0_8 _)]
  refine (flushed8 m c (pt b s) k (ptR s)).trans ?_
  rw [ptB_pt, ptS_pt]

/-- Where window 9's block lies. -/
theorem idx9 : ∀ t : Fin cfg0.N, win0_9.index t 0 = t.val / 4 ∧ win0_9.index t 2 = t.val % 4 ∧ win0_9.index t 1 = 0 :=
  (by decide +kernel : ∀ t : Fin grid0.N, win0_9.index t 0 = t.val / 4 ∧ win0_9.index t 2 = t.val % 4 ∧ win0_9.index t 1 = 0)

/-- Distinct points' blocks share no index. -/
theorem disjoint9 : ∀ t t' : Fin cfg0.N, (cfg0.win 9).flush t = true → (cfg0.win 9).flush t' = true → t ≠ t' →
    Disjoint ((cfg0.win 9).blk t).view.set ((cfg0.win 9).blk t').view.set := fun t t' _ _ hne =>
  (cfg0.win 9).disjoint_blk fun h => hne (Fin.ext (by
    have h0 : win0_9.index t 0 = win0_9.index t' 0 := congrFun h 0
    have h1 : win0_9.index t 2 = win0_9.index t' 2 := congrFun h 2
    have a := idx9 t
    have b := idx9 t'
    omega))

/-- The scales of the keys. -/
theorem arr9 (b : Fin 32) (s : Fin 2048) (h : Fin 16) :
    (dats m 0 c).arrAt 9 cfg0.N (ix3 b h s : S32x16x2048.Idx) = rowScale (aK m c b s h) := by
  have e : ((ix3 b h s) : S32x16x2048.Idx) = ((cfg0.win 9).blk (pt b s)).view.emb (ix3 0 h (ptR s)) := by
    show _ = (win0_9.rect (pt b s)).emb (ix3 0 h (ptR s))
    funext a
    refine Fin.ext ?_
    rw [Window.rect_emb_val win0_9 (pt b s) _ a rfl]
    obtain ⟨h0, h1, h2⟩ := idx9 (pt b s)
    have hp : (pt b s).val = 4 * b.val + s.val / 512 := rfl
    fin_cases a
    · show b.val = win0_9.index (pt b s) 0 * 1 + 0
      omega
    · show h.val = win0_9.index (pt b s) 1 * 16 + h.val
      omega
    · show s.val = win0_9.index (pt b s) 2 * 512 + s.val % 512
      omega
  rw [e, (dats m 0 c).arrAt_emb_eq_flushed 9 disjoint9 (pt b s) (flush0_9 _)]
  refine (flushed9 m c (pt b s) h (ptR s)).trans ?_
  rw [ptB_pt, ptS_pt]

/-- Where window 10's block lies. -/
theorem idx10 : ∀ t : Fin cfg0.N, win0_10.index t 0 = t.val / 4 ∧ win0_10.index t 2 = t.val % 4 ∧ win0_10.index t 1 = 0 :=
  (by decide +kernel : ∀ t : Fin grid0.N, win0_10.index t 0 = t.val / 4 ∧ win0_10.index t 2 = t.val % 4 ∧ win0_10.index t 1 = 0)

/-- Distinct points' blocks share no index. -/
theorem disjoint10 : ∀ t t' : Fin cfg0.N, (cfg0.win 10).flush t = true → (cfg0.win 10).flush t' = true → t ≠ t' →
    Disjoint ((cfg0.win 10).blk t).view.set ((cfg0.win 10).blk t').view.set := fun t t' _ _ hne =>
  (cfg0.win 10).disjoint_blk fun h => hne (Fin.ext (by
    have h0 : win0_10.index t 0 = win0_10.index t' 0 := congrFun h 0
    have h1 : win0_10.index t 2 = win0_10.index t' 2 := congrFun h 2
    have a := idx10 t
    have b := idx10 t'
    omega))

/-- The codes of the values. -/
theorem arr10 (b : Fin 32) (s : Fin 2048) (k : Fin 1024) :
    (dats m 0 c).arrAt 10 cfg0.N (ix3 b k s : S32x1024x2048.Idx) = rowCode (aV m c b s (headOf k)) (inHead k) := by
  have e : ((ix3 b k s) : S32x1024x2048.Idx) = ((cfg0.win 10).blk (pt b s)).view.emb (ix3 0 k (ptR s)) := by
    show _ = (win0_10.rect (pt b s)).emb (ix3 0 k (ptR s))
    funext a
    refine Fin.ext ?_
    rw [Window.rect_emb_val win0_10 (pt b s) _ a rfl]
    obtain ⟨h0, h1, h2⟩ := idx10 (pt b s)
    have hp : (pt b s).val = 4 * b.val + s.val / 512 := rfl
    fin_cases a
    · show b.val = win0_10.index (pt b s) 0 * 1 + 0
      omega
    · show k.val = win0_10.index (pt b s) 1 * 1024 + k.val
      omega
    · show s.val = win0_10.index (pt b s) 2 * 512 + s.val % 512
      omega
  rw [e, (dats m 0 c).arrAt_emb_eq_flushed 10 disjoint10 (pt b s) (flush0_10 _)]
  refine (flushed10 m c (pt b s) k (ptR s)).trans ?_
  rw [ptB_pt, ptS_pt]

/-- Where window 11's block lies. -/
theorem idx11 : ∀ t : Fin cfg0.N, win0_11.index t 0 = t.val / 4 ∧ win0_11.index t 2 = t.val % 4 ∧ win0_11.index t 1 = 0 :=
  (by decide +kernel : ∀ t : Fin grid0.N, win0_11.index t 0 = t.val / 4 ∧ win0_11.index t 2 = t.val % 4 ∧ win0_11.index t 1 = 0)

/-- Distinct points' blocks share no index. -/
theorem disjoint11 : ∀ t t' : Fin cfg0.N, (cfg0.win 11).flush t = true → (cfg0.win 11).flush t' = true → t ≠ t' →
    Disjoint ((cfg0.win 11).blk t).view.set ((cfg0.win 11).blk t').view.set := fun t t' _ _ hne =>
  (cfg0.win 11).disjoint_blk fun h => hne (Fin.ext (by
    have h0 : win0_11.index t 0 = win0_11.index t' 0 := congrFun h 0
    have h1 : win0_11.index t 2 = win0_11.index t' 2 := congrFun h 2
    have a := idx11 t
    have b := idx11 t'
    omega))

/-- The scales of the values. -/
theorem arr11 (b : Fin 32) (s : Fin 2048) (h : Fin 16) :
    (dats m 0 c).arrAt 11 cfg0.N (ix3 b h s : S32x16x2048.Idx) = rowScale (aV m c b s h) := by
  have e : ((ix3 b h s) : S32x16x2048.Idx) = ((cfg0.win 11).blk (pt b s)).view.emb (ix3 0 h (ptR s)) := by
    show _ = (win0_11.rect (pt b s)).emb (ix3 0 h (ptR s))
    funext a
    refine Fin.ext ?_
    rw [Window.rect_emb_val win0_11 (pt b s) _ a rfl]
    obtain ⟨h0, h1, h2⟩ := idx11 (pt b s)
    have hp : (pt b s).val = 4 * b.val + s.val / 512 := rfl
    fin_cases a
    · show b.val = win0_11.index (pt b s) 0 * 1 + 0
      omega
    · show h.val = win0_11.index (pt b s) 1 * 16 + h.val
      omega
    · show s.val = win0_11.index (pt b s) 2 * 512 + s.val % 512
      omega
  rw [e, (dats m 0 c).arrAt_emb_eq_flushed 11 disjoint11 (pt b s) (flush0_11 _)]
  refine (flushed11 m c (pt b s) h (ptR s)).trans ?_
  rw [ptB_pt, ptS_pt]

end Cert.KV

end
-- ==== Proof.KV.Tail.lean ====
/- WHAT THE KERNEL'S PROGRAM RETURNS: the call's arrays, and what the host lines after it make of them. -/
module

public import proofs.«01_k».proof.Proof.KV.Arrays

@[expose] public section

noncomputable section

namespace Cert.KV

open Cert.KernelIdeal Cert.KernelIdeal.Gen Idealize.ShloMosaic Idealize.ShloMosaic.TcCoe Idealize.ShloMosaic.Pointwise Idealize.SL.Sem
open Idealize.ShloMosaic.Pipeline (Dat Window)

variable (m : (ℓ : Loc nD τ sig) → Buf (Elt Ideal) ℓ) (c : Dev nD)

/-! ## The lines after the call, over whatever they find -/

/-- The squeezed scales of the rows. -/
theorem squeeze_eq (A : Vec Ideal S32x1x2048 .f32) (f : (⟨2, ![32, 2048]⟩ : Shape).Idx → EReal) (h : ∀ b s, A (ix3 b 0 s) = f (ix2 b s)) :
    shapeCast S32x2048 A shapeCasts_S32x1x2048_S32x2048 = f := by
  funext i
  obtain ⟨b, s, rfl⟩ : ∃ (b : Fin 32) (s : Fin 2048), i = ix2 b s := ⟨i 0, i 1, by funext a; fin_cases a <;> rfl⟩
  pointwise []
  exact h b s

/-- The codes with each head's columns last. -/
theorem codesLast_eq (A : Vec Ideal S32x1024x2048 .fp8e4m3) (f : Fin 32 → Fin 2048 → Fin 16 → Fin 64 → EReal)
    (h : ∀ b s k, A (ix3 b k s) = rowCode (f b s (headOf k)) (inHead k)) :
    transpose S32x2048x16x64 [0, 3, 1, 2] (shapeCast S32x16x64x2048 A shapeCasts_S32x1024x2048_S32x16x64x2048)
      transposes_S32x16x64x2048_S32x2048x16x64_0_3_1_2 = valCodes f := by
  funext i
  obtain ⟨b, s, h', d, rfl⟩ : ∃ (b : Fin 32) (s : Fin 2048) (h : Fin 16) (d : Fin 64), i = ix4 b s h d :=
    ⟨i 0, i 1, i 2, i 3, by funext a; fin_cases a <;> rfl⟩
  pointwise []
  have hk : (⟨h'.val * 64 + d.val, by omega⟩ : Fin 1024) = headRow h' d := Fin.ext (by show h'.val * 64 + d.val = 64 * h'.val + d.val; omega)
  have e3 : headOf (headRow h' d) = h' := headOf_row h' d _
  have e4 : inHead (headRow h' d) = d := inHead_row h' d _
  rw [hk, h, e3, e4]
  rfl

/-- The scales with the heads last. -/
theorem scalesLast_eq (A : Vec Ideal S32x16x2048 .f32) (f : Fin 32 → Fin 2048 → Fin 16 → Fin 64 → EReal)
    (h : ∀ b s k, A (ix3 b k s) = rowScale (f b s k)) :
    transpose S32x2048x16 [0, 2, 1] A transposes_S32x16x2048_S32x2048x16_0_2_1 = valScales f := by
  funext i
  obtain ⟨b, s, k, rfl⟩ : ∃ (b : Fin 32) (s : Fin 2048) (k : Fin 16), i = ix3 b s k := ⟨i 0, i 1, i 2, by funext a; fin_cases a <;> rfl⟩
  pointwise []
  exact h b s k

/-- What the lines leave at `v12`. -/
theorem tail_v12 (U : Valuation τ sig (Elt Ideal)) : StableHlo.after (List.flatten [hostOps1]) U (Proc.devRef .tc main_v12) = shapeCast S32x2048 (U (Proc.devRef .tc main_v11_1)) shapeCasts_S32x1x2048_S32x2048 := by
  simp only [hostOps1, List.flatten_cons, List.flatten_nil, List.append_nil, List.cons_append, List.nil_append]
  after_results
  try rfl

/-- What the lines leave at `v14`. -/
theorem tail_v14 (U : Valuation τ sig (Elt Ideal)) : StableHlo.after (List.flatten [hostOps1]) U (Proc.devRef .tc main_v14) = transpose S32x2048x16x64 [0, 3, 1, 2] (shapeCast S32x16x64x2048 (U (Proc.devRef .tc main_v11_2)) shapeCasts_S32x1024x2048_S32x16x64x2048)
      transposes_S32x16x64x2048_S32x2048x16x64_0_3_1_2 := by
  simp only [hostOps1, List.flatten_cons, List.flatten_nil, List.append_nil, List.cons_append, List.nil_append]
  after_results
  try rfl

/-- What the lines leave at `v17`. -/
theorem tail_v17 (U : Valuation τ sig (Elt Ideal)) : StableHlo.after (List.flatten [hostOps1]) U (Proc.devRef .tc main_v17) = transpose S32x2048x16x64 [0, 3, 1, 2] (shapeCast S32x16x64x2048 (U (Proc.devRef .tc main_v11_4)) shapeCasts_S32x1024x2048_S32x16x64x2048)
      transposes_S32x16x64x2048_S32x2048x16x64_0_3_1_2 := by
  simp only [hostOps1, List.flatten_cons, List.flatten_nil, List.append_nil, List.cons_append, List.nil_append]
  after_results
  try rfl

/-- What the lines leave at `v15`. -/
theorem tail_v15 (U : Valuation τ sig (Elt Ideal)) : StableHlo.after (List.flatten [hostOps1]) U (Proc.devRef .tc main_v15) = transpose S32x2048x16 [0, 2, 1] (U (Proc.devRef .tc main_v11_3)) transposes_S32x16x2048_S32x2048x16_0_2_1 := by
  simp only [hostOps1, List.flatten_cons, List.flatten_nil, List.append_nil, List.cons_append, List.nil_append]
  after_results
  try rfl

/-- What the lines leave at `v18`. -/
theorem tail_v18 (U : Valuation τ sig (Elt Ideal)) : StableHlo.after (List.flatten [hostOps1]) U (Proc.devRef .tc main_v18) = transpose S32x2048x16 [0, 2, 1] (U (Proc.devRef .tc main_v11_5)) transposes_S32x16x2048_S32x2048x16_0_2_1 := by
  simp only [hostOps1, List.flatten_cons, List.flatten_nil, List.append_nil, List.cons_append, List.nil_append]
  after_results
  try rfl

/-! ## The results -/

/-- What the lines after the call read of an array the call writes. -/
theorem exit_arr (w : Fin cfg0.W) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr spec0 (by decide) c _ _ w

/-- The codes of the rows of `x`: the call's own array. -/
theorem ret_v11_0 : (dats m 0 c).arrAt 6 cfg0.N = valXq (aX m c) := by
  funext i
  obtain ⟨b, s, d, rfl⟩ : ∃ (b : Fin 32) (s : Fin 2048) (d : Fin 1024), i = ix3 b s d := ⟨i 0, i 1, i 2, by funext a; fin_cases a <;> rfl⟩
  exact arr6 m c b s d

/-- Their scales. -/
theorem ret_v12 : Pipeline.afterTail₀ cfgs (dats m) 0 (V0 m) [hostOps1] c main_v12 = valXs (aX m c) :=
  (tail_v12 _).trans (squeeze_eq _ _ fun b s => (congrFun (exit_arr m c 7) _).trans (arr7 m c b s))

/-- The codes of the keys. -/
theorem ret_v14 : Pipeline.afterTail₀ cfgs (dats m) 0 (V0 m) [hostOps1] c main_v14 = valCodes (aK m c) :=
  (tail_v14 _).trans (codesLast_eq _ _ fun b s k => (congrFun (exit_arr m c 8) _).trans (arr8 m c b s k))

/-- Their scales. -/
theorem ret_v15 : Pipeline.afterTail₀ cfgs (dats m) 0 (V0 m) [hostOps1] c main_v15 = valScales (aK m c) :=
  (tail_v15 _).trans (scalesLast_eq _ _ fun b s k => (congrFun (exit_arr m c 9) _).trans (arr9 m c b s k))

/-- The codes of the values. -/
theorem ret_v17 : Pipeline.afterTail₀ cfgs (dats m) 0 (V0 m) [hostOps1] c main_v17 = valCodes (aV m c) :=
  (tail_v17 _).trans (codesLast_eq _ _ fun b s k => (congrFun (exit_arr m c 10) _).trans (arr10 m c b s k))

/-- Their scales. -/
theorem ret_v18 : Pipeline.afterTail₀ cfgs (dats m) 0 (V0 m) [hostOps1] c main_v18 = valScales (aV m c) :=
  (tail_v18 _).trans (scalesLast_eq _ _ fun b s k => (congrFun (exit_arr m c 11) _).trans (arr11 m c b s k))

end Cert.KV

end
-- ==== Proof.KV.RefRead.lean ====
/- THE REFERENCE'S VALUES READ AT AN INDEX, over the extended reals. -/
module

public import proofs.«01_k».proof.Proof.KV.Spec
public import proofs.«01_k».proof.Proof.Gen.ReferenceIdeal.Value

@[expose] public section

noncomputable section

namespace Cert.KV.Ref

open Cert.ReferenceIdeal Cert.ReferenceIdeal.Gen Idealize.ShloMosaic Idealize.ShloMosaic.Pointwise

variable {F : FTy → Type} [FloatOps F]

/-! ## The rows of `x` -/

/-- Each row's largest magnitude times 1/448. -/
def tX (x : Vec F S32x2048x1024 .bf16) : FVec F S32x2048 .f32 :=
  mulf (multiReduction .maximumf [2] S32x2048 (absf (k0_pay4 x)) 0xFF800000#32 reduces_S32x2048x1024_S32x2048 (.inl rfl) rfl)
    (broadcast S32x2048 (Scalar.ofBits .f32 0x3B124925#32))

/-- The candidate exponents. -/
def candX : FVec F S32x2048x252 .f32 :=
  sitofp .f32 (subi (iota .tc S32x2048x252 32 [2] iota_S32x2048x252_d2_w32) (broadcast S32x2048x252 125#32))

/-- The least candidate whose power of two exceeds `t`. -/
def leastX (t : FVec F S32x2048 .f32) (q : FVec F S32x2048x252 .f32) : FVec F S32x2048 .f32 :=
  multiReduction .minimumf [2] S32x2048
    (select (cmpf .olt (broadcastTo S32x2048x252 (shapeCast S32x2048x1 t shapeCasts_S32x2048_S32x2048x1) broadcasts_S32x2048x1_S32x2048x252) (exp2 q)) q
      (broadcast S32x2048x252 (Scalar.ofBits .f32 0x7F800000#32)))
    0x7F800000#32 reduces_S32x2048x252_S32x2048 (.inl rfl) rfl

/-- The exponent chosen: `e` where `t` is in range, 0 elsewhere. -/
def pick {s : Shape} (t e : FVec F s .f32) : FVec F s .f32 :=
  select (andi (cmpf .oge t (broadcast s (Scalar.ofBits .f32 0x00800000#32))) (cmpf .olt t (broadcast s (Scalar.ofBits .f32 0x7E800000#32)))) e
    (broadcast s (Scalar.ofBits .f32 0x00000000#32))

/-- A product with a constant at an index. -/
theorem mulf_const_at {s : Shape} (a : FVec Ideal s .f32) (z : BitVec 32) (i : s.Idx) :
    mulf a (broadcast s (Scalar.ofBits .f32 z)) i = (a i : EReal) * Ideal.ofBits .f32 z := rfl

/-- A power of two at an index. -/
theorem exp2_at {s : Shape} (e : FVec Ideal s .f32) (i : s.Idx) : exp2 e i = FloatOps.exp2 (e i) := rfl

/-- The chosen exponent at an index. -/
theorem pick_apply {s : Shape} (t e : FVec Ideal s .f32) (i : s.Idx) (h : e i = (Finset.univ.fold min (Ideal.ofBits .f32 0x7F800000#32 : EReal) fun k : Fin 252 =>
      Scalar.select (FloatOps.cmpf .olt (t i) (FloatOps.exp2 (rCand k))) (rCand k) (Scalar.ofBits .f32 0x7F800000#32 : Ideal .f32) : EReal)) :
    pick t e i = rExp (t i) := by
  unfold rExp
  rw [← h]
  rfl

/-- The rows' exponents in these words. -/
theorem pay5_eq (x : Vec F S32x2048x1024 .bf16) : k0_pay5 x = pick (tX x) (leastX (tX x) candX) := rfl

/-- A row's largest magnitude. -/
theorem maxX_apply (x : Vec Ideal S32x2048x1024 .bf16) (b : Fin 32) (s : Fin 2048) :
    (multiReduction .maximumf [2] S32x2048 (absf (k0_pay4 x)) 0xFF800000#32 reduces_S32x2048x1024_S32x2048 (.inl rfl) rfl : FVec Ideal S32x2048 .f32) (ix2 b s)
      = rowMax (rowX x b s) := by
  pointwise [k0_pay4]
  rfl

/-- The same times 1/448. -/
theorem tX_apply (x : Vec Ideal S32x2048x1024 .bf16) (b : Fin 32) (s : Fin 2048) : tX x (ix2 b s) = rowT (rowX x b s) := by
  unfold rowT
  rw [← maxX_apply]
  unfold tX
  rw [mulf_const_at]

/-- A candidate. -/
theorem candX_apply (b : Fin 32) (s : Fin 2048) (k : Fin 252) : (candX (ix3 b s k) : Ideal .f32) = rCand k := by
  pointwise [candX]
  rfl

/-- The least candidate. -/
theorem leastX_apply (t : FVec Ideal S32x2048 .f32) (q : FVec Ideal S32x2048x252 .f32) (b : Fin 32) (s : Fin 2048) :
    leastX t q (ix2 b s) = Finset.univ.fold min (Ideal.ofBits .f32 0x7F800000#32 : EReal) fun k : Fin 252 =>
      Scalar.select (FloatOps.cmpf .olt (t (ix2 b s)) (FloatOps.exp2 (q (ix3 b s k)))) (q (ix3 b s k)) (Scalar.ofBits .f32 0x7F800000#32) := by
  pointwise [leastX]

/-- The exponent of a row's scale. -/
theorem pay5_apply (x : Vec Ideal S32x2048x1024 .bf16) (b : Fin 32) (s : Fin 2048) :
    k0_pay5 x (ix2 b s) = rExp (rowT (rowX x b s)) := by
  rw [← tX_apply, pay5_eq]
  apply pick_apply
  rw [leastX_apply]
  simp only [candX_apply]

/-- The scale of a row. -/
theorem pay7_apply (x : Vec Ideal S32x2048x1024 .bf16) (b : Fin 32) (s : Fin 2048) :
    k0_pay7 x (ix2 b s) = rowScale (rowX x b s) := by
  unfold k0_pay7 rowScale rScale
  rw [exp2_at, pay5_apply]

/-- Entries divided by their scales and clipped. -/
def codesX (v : FVec F S32x2048x1024 .f32) (e : FVec F S32x2048 .f32) : FVec F S32x2048x1024 .fp8e4m3 :=
  truncf .fp8e4m3 (minimumf (broadcast S32x2048x1024 (Scalar.ofBits .f32 0x43E00000#32)) (maximumf (broadcast S32x2048x1024 (Scalar.ofBits .f32 0xC3E00000#32))
    (mulf v (broadcastTo S32x2048x1024 (shapeCast S32x2048x1 (exp2 (subf (broadcast S32x2048 (Scalar.ofBits .f32 0x00000000#32)) e)) shapeCasts_S32x2048_S32x2048x1)
      broadcasts_S32x2048x1_S32x2048x1024)))) bitsLt_fp8e4m3_f32

/-- The rows' codes in these words. -/
theorem pay6_eq (x : Vec F S32x2048x1024 .bf16) : k0_pay6 x = codesX (k0_pay4 x) (k0_pay5 x) := rfl

/-- A code. -/
theorem codesX_apply (v : FVec Ideal S32x2048x1024 .f32) (e : FVec Ideal S32x2048 .f32) (b : Fin 32) (s : Fin 2048) (d : Fin 1024) :
    codesX v e (ix3 b s d) = min (Ideal.ofBits .f32 0x43E00000#32 : EReal) (max (Ideal.ofBits .f32 0xC3E00000#32)
      ((v (ix3 b s d) : EReal) * FloatOps.exp2 (FloatOps.subf (Scalar.ofBits .f32 0x00000000#32) (e (ix2 b s)) : Ideal .f32))) := by
  pointwise [codesX]

/-- The codes of a row. -/
theorem pay6_apply (x : Vec Ideal S32x2048x1024 .bf16) (b : Fin 32) (s : Fin 2048) (d : Fin 1024) :
    k0_pay6 x (ix3 b s d) = rowCode (rowX x b s) d := by
  rw [pay6_eq, codesX_apply, pay5_apply]
  rfl

/-! ## The projections -/

/-- The keys. -/
theorem pay8_apply (q : FVec Ideal S32x2048x1024 .fp8e4m3) (p : FVec Ideal S32x2048 .f32) (w : Vec Ideal S1024x1024 .fp8e4m3)
    (g : Vec Ideal S16 .f32) (b : Fin 32) (s : Fin 2048) (h : Fin 16) (d : Fin 64) :
    k0_pay8 q p w g (ix4 b s h d) = ((∑ k : Fin 1024, (q (ix3 b s k) : EReal) * w (ix2 k (headRow h d))) * p (ix2 b s)) * g (ix1 h) := by
  have hk : headRow h d = (⟨h.val * 64 + d.val, by omega⟩ : Fin 1024) := Fin.ext (by show 64 * h.val + d.val = h.val * 64 + d.val; omega)
  rw [hk]
  pointwise [k0_pay8]

/-- The values are keys with the bias. -/
theorem pay12_apply (q : FVec Ideal S32x2048x1024 .fp8e4m3) (p : FVec Ideal S32x2048 .f32) (w : Vec Ideal S1024x1024 .fp8e4m3)
    (g : Vec Ideal S16 .f32) (z : Vec Ideal S16x64 .f32) (b : Fin 32) (s : Fin 2048) (h : Fin 16) (d : Fin 64) :
    k0_pay12 q p w g z (ix4 b s h d) = ((∑ k : Fin 1024, (q (ix3 b s k) : EReal) * w (ix2 k (headRow h d))) * p (ix2 b s)) * g (ix1 h) + z (ix2 h d) := by
  have hk : headRow h d = (⟨h.val * 64 + d.val, by omega⟩ : Fin 1024) := Fin.ext (by show 64 * h.val + d.val = h.val * 64 + d.val; omega)
  rw [hk]
  pointwise [k0_pay12]

/-! ## The quantiser of the keys and values, head by head -/

/-- Each head's largest magnitude times 1/448. -/
def tH (f : FVec F S32x2048x16x64 .f32) : FVec F S32x2048x16 .f32 :=
  mulf (multiReduction .maximumf [3] S32x2048x16 (absf f) 0xFF800000#32 reduces_S32x2048x16x64_S32x2048x16 (.inl rfl) rfl)
    (broadcast S32x2048x16 (Scalar.ofBits .f32 0x3B124925#32))

/-- The candidate exponents. -/
def candH : FVec F S32x2048x16x252 .f32 :=
  sitofp .f32 (subi (iota .tc S32x2048x16x252 32 [3] iota_S32x2048x16x252_d3_w32) (broadcast S32x2048x16x252 125#32))

/-- The least candidate whose power of two exceeds `t`. -/
def leastH (t : FVec F S32x2048x16 .f32) (q : FVec F S32x2048x16x252 .f32) : FVec F S32x2048x16 .f32 :=
  multiReduction .minimumf [3] S32x2048x16
    (select (cmpf .olt (broadcastTo S32x2048x16x252 (shapeCast S32x2048x16x1 t shapeCasts_S32x2048x16_S32x2048x16x1) broadcasts_S32x2048x16x1_S32x2048x16x252) (exp2 q)) q
      (broadcast S32x2048x16x252 (Scalar.ofBits .f32 0x7F800000#32)))
    0x7F800000#32 reduces_S32x2048x16x252_S32x2048x16 (.inl rfl) rfl

/-- The exponents of a head's scale. -/
def expH (f : FVec F S32x2048x16x64 .f32) : FVec F S32x2048x16 .f32 := pick (tH f) (leastH (tH f) candH)

/-- Entries divided by their scales and clipped. -/
def codesH (v : FVec F S32x2048x16x64 .f32) (e : FVec F S32x2048x16 .f32) : FVec F S32x2048x16x64 .fp8e4m3 :=
  truncf .fp8e4m3 (minimumf (broadcast S32x2048x16x64 (Scalar.ofBits .f32 0x43E00000#32)) (maximumf (broadcast S32x2048x16x64 (Scalar.ofBits .f32 0xC3E00000#32))
    (mulf v (broadcastTo S32x2048x16x64 (shapeCast S32x2048x16x1 (exp2 (subf (broadcast S32x2048x16 (Scalar.ofBits .f32 0x00000000#32)) e)) shapeCasts_S32x2048x16_S32x2048x16x1)
      broadcasts_S32x2048x16x1_S32x2048x16x64)))) bitsLt_fp8e4m3_f32

/-- The keys' codes in these words. -/
theorem pay10_eq (q : FVec F S32x2048x1024 .fp8e4m3) (p : FVec F S32x2048 .f32) (w : Vec F S1024x1024 .fp8e4m3) (g : Vec F S16 .f32) :
    k0_pay10 q p w g = codesH (k0_pay8 q p w g) (expH (k0_pay8 q p w g)) := rfl

/-- The keys' scales in these words. -/
theorem pay11_eq (q : FVec F S32x2048x1024 .fp8e4m3) (p : FVec F S32x2048 .f32) (w : Vec F S1024x1024 .fp8e4m3) (g : Vec F S16 .f32) :
    k0_pay11 q p w g = exp2 (expH (k0_pay8 q p w g)) := rfl

/-- The values' codes in these words. -/
theorem pay2_eq (q : FVec F S32x2048x1024 .fp8e4m3) (p : FVec F S32x2048 .f32) (w : Vec F S1024x1024 .fp8e4m3) (g : Vec F S16 .f32) (z : Vec F S16x64 .f32) :
    k0_pay2 (k0_pay12 q p w g z) (k0_pay14 q p w g z) (k0_pay15 q p w g z) = codesH (k0_pay12 q p w g z) (expH (k0_pay12 q p w g z)) := rfl

/-- The values' scales in these words. -/
theorem pay3_eq (q : FVec F S32x2048x1024 .fp8e4m3) (p : FVec F S32x2048 .f32) (w : Vec F S1024x1024 .fp8e4m3) (g : Vec F S16 .f32) (z : Vec F S16x64 .f32) :
    k0_pay3 (k0_pay14 q p w g z) (k0_pay15 q p w g z) = exp2 (expH (k0_pay12 q p w g z)) := rfl

/-- A head's largest magnitude. -/
theorem maxH_apply (f : FVec Ideal S32x2048x16x64 .f32) (b : Fin 32) (s : Fin 2048) (h : Fin 16) :
    (multiReduction .maximumf [3] S32x2048x16 (absf f) 0xFF800000#32 reduces_S32x2048x16x64_S32x2048x16 (.inl rfl) rfl : FVec Ideal S32x2048x16 .f32) (ix3 b s h)
      = rowMax fun d : Fin 64 => (f (ix4 b s h d) : EReal) := by
  pointwise []
  rfl

/-- The same times 1/448. -/
theorem tH_apply (f : FVec Ideal S32x2048x16x64 .f32) (b : Fin 32) (s : Fin 2048) (h : Fin 16) :
    tH f (ix3 b s h) = rowT fun d : Fin 64 => (f (ix4 b s h d) : EReal) := by
  unfold rowT
  rw [← maxH_apply]
  unfold tH
  rw [mulf_const_at]

/-- A candidate. -/
theorem candH_apply (b : Fin 32) (s : Fin 2048) (h : Fin 16) (k : Fin 252) : (candH (ix4 b s h k) : Ideal .f32) = rCand k := by
  pointwise [candH]
  rfl

/-- The least candidate. -/
theorem leastH_apply (t : FVec Ideal S32x2048x16 .f32) (q : FVec Ideal S32x2048x16x252 .f32) (b : Fin 32) (s : Fin 2048) (h : Fin 16) :
    leastH t q (ix3 b s h) = Finset.univ.fold min (Ideal.ofBits .f32 0x7F800000#32 : EReal) fun k : Fin 252 =>
      Scalar.select (FloatOps.cmpf .olt (t (ix3 b s h)) (FloatOps.exp2 (q (ix4 b s h k)))) (q (ix4 b s h k)) (Scalar.ofBits .f32 0x7F800000#32) := by
  pointwise [leastH]

/-- The exponent of a head's scale. -/
theorem expH_apply (f : FVec Ideal S32x2048x16x64 .f32) (b : Fin 32) (s : Fin 2048) (h : Fin 16) :
    expH f (ix3 b s h) = rExp (rowT fun d : Fin 64 => (f (ix4 b s h d) : EReal)) := by
  rw [← tH_apply]
  apply pick_apply
  rw [leastH_apply]
  simp only [candH_apply]

/-- A code. -/
theorem codesH_apply (v : FVec Ideal S32x2048x16x64 .f32) (e : FVec Ideal S32x2048x16 .f32) (b : Fin 32) (s : Fin 2048) (h : Fin 16) (d : Fin 64) :
    codesH v e (ix4 b s h d) = min (Ideal.ofBits .f32 0x43E00000#32 : EReal) (max (Ideal.ofBits .f32 0xC3E00000#32)
      ((v (ix4 b s h d) : EReal) * FloatOps.exp2 (FloatOps.subf (Scalar.ofBits .f32 0x00000000#32) (e (ix3 b s h)) : Ideal .f32))) := by
  pointwise [codesH]

/-- The codes of a head. -/
theorem codesH_expH (f : FVec Ideal S32x2048x16x64 .f32) (b : Fin 32) (s : Fin 2048) (h : Fin 16) (d : Fin 64) :
    codesH f (expH f) (ix4 b s h d) = rowCode (fun d : Fin 64 => (f (ix4 b s h d) : EReal)) d := by
  rw [codesH_apply, expH_apply]
  rfl

/-- The scale of a head. -/
theorem exp2_expH (f : FVec Ideal S32x2048x16x64 .f32) (b : Fin 32) (s : Fin 2048) (h : Fin 16) :
    (exp2 (expH f) : FVec Ideal S32x2048x16 .f32) (ix3 b s h) = rowScale fun d : Fin 64 => (f (ix4 b s h d) : EReal) := by
  unfold rowScale rScale
  rw [exp2_at, expH_apply]

end Cert.KV.Ref

end
-- ==== Proof.KV.RefRun.lean ====
/- WHAT THE REFERENCE'S RESULT ARRAYS HOLD: its one store into each is the mathematics of the argument arrays. -/
module

public import proofs.«01_k».proof.Proof.KV.RefRead

@[expose] public section

noncomputable section

namespace Cert.KV.Ref

open Cert.ReferenceIdeal Cert.ReferenceIdeal.Gen Idealize.ShloMosaic Idealize.ShloMosaic.TcCoe Idealize.ShloMosaic.Pointwise Idealize.SL.Sem
open Idealize.ShloMosaic.Pipeline (Dat Window)

/-! ## The stores -/

section stores

variable (x : Vec Ideal S32x2048x1024 .bf16) (wk : Vec Ideal S1024x1024 .fp8e4m3) (sk : Vec Ideal S16 .f32) (wv : Vec Ideal S1024x1024 .fp8e4m3)
  (sv : Vec Ideal S16 .f32) (bv : Vec Ideal S16x64 .f32) (b : Fin 32) (s : Fin 2048) (h : Fin 16) (d : Fin 64)

/-- A load of the whole of a `S32x2048x1024`. -/
theorem ld0_0 (v : Vec Ideal S32x2048x1024 .bf16) : View.ld v r0_0 = v :=
  View.ld_unit_zero (S := S32x2048x1024) (off := ![0, 0, 0]) (by funext a; fin_cases a <;> rfl) _ v

/-- A load of the whole of a `S1024x1024`. -/
theorem ld0_2 (v : Vec Ideal S1024x1024 .fp8e4m3) : View.ld v r0_2 = v :=
  View.ld_unit_zero (S := S1024x1024) (off := ![0, 0]) (by funext a; fin_cases a <;> rfl) _ v

/-- A load of the whole of a `S16`. -/
theorem ld0_3 (v : Vec Ideal S16 .f32) : View.ld v r0_3 = v :=
  View.ld_unit_zero (S := S16) (off := ![0]) (by funext a; fin_cases a <;> rfl) _ v

/-- A load of the whole of a `S16x64`. -/
theorem ld0_6 (v : Vec Ideal S16x64 .f32) : View.ld v r0_6 = v :=
  View.ld_unit_zero (S := S16x64) (off := ![0, 0]) (by funext a; fin_cases a <;> rfl) _ v

/-- The buffer of the codes of the rows. -/
theorem out0_6_eq : out0_6 x wk sk wv sv bv = k0_pay6 x := by
  unfold out0_6
  rw [View.canon_unit_zero (S := S32x2048x1024) (off := ![0, 0, 0]) (by funext a; fin_cases a <;> rfl)]
  rw [ld0_0]

/-- The buffer of the rows' scales. -/
theorem out0_7_eq : out0_7 x wk sk wv sv bv = k0_pay7 x := by
  unfold out0_7
  rw [View.canon_unit_zero (S := S32x2048) (off := ![0, 0]) (by funext a; fin_cases a <;> rfl)]
  rw [ld0_0]

/-- The buffer of the codes of the keys. -/
theorem out0_8_eq : out0_8 x wk sk wv sv bv = codesH (k0_pay8 (k0_pay6 x) (k0_pay7 x) wk sk) (expH (k0_pay8 (k0_pay6 x) (k0_pay7 x) wk sk)) := by
  unfold out0_8 k0_pay17 k0_pay16
  rw [View.canon_unit_zero (S := S32x2048x16x64) (off := ![0, 0, 0, 0]) (by funext a; fin_cases a <;> rfl)]
  rw [ld0_0, ld0_2, ld0_3, pay10_eq]

/-- The buffer of the keys' scales. -/
theorem out0_9_eq : out0_9 x wk sk wv sv bv = exp2 (expH (k0_pay8 (k0_pay6 x) (k0_pay7 x) wk sk)) := by
  unfold out0_9 k0_pay17 k0_pay16
  rw [View.canon_unit_zero (S := S32x2048x16) (off := ![0, 0, 0]) (by funext a; fin_cases a <;> rfl)]
  rw [ld0_0, ld0_2, ld0_3, pay11_eq]

/-- The buffer of the codes of the values. -/
theorem out0_10_eq : out0_10 x wk sk wv sv bv = codesH (k0_pay12 (k0_pay6 x) (k0_pay7 x) wv sv bv) (expH (k0_pay12 (k0_pay6 x) (k0_pay7 x) wv sv bv)) := by
  unfold out0_10 k0_pay19 k0_pay18 k0_pay17 k0_pay16
  rw [View.canon_unit_zero (S := S32x2048x16x64) (off := ![0, 0, 0, 0]) (by funext a; fin_cases a <;> rfl)]
  rw [ld0_0, ld0_2, ld0_3, ld0_6, pay2_eq]

/-- The buffer of the values' scales. -/
theorem out0_11_eq : out0_11 x wk sk wv sv bv = exp2 (expH (k0_pay12 (k0_pay6 x) (k0_pay7 x) wv sv bv)) := by
  unfold out0_11 k0_pay19 k0_pay18 k0_pay17 k0_pay16
  rw [View.canon_unit_zero (S := S32x2048x16) (off := ![0, 0, 0]) (by funext a; fin_cases a <;> rfl)]
  rw [ld0_0, ld0_2, ld0_3, ld0_6, pay3_eq]

/-- The keys from the weight laid out as a matrix. -/
def keys (wk : Vec Ideal S1024x1024 .fp8e4m3) (sk : Vec Ideal S16 .f32) (h : Fin 16) (d : Fin 64) : EReal :=
  proj (rowX x b s) (fun k => wk (ix2 k (headRow h d))) (sk (ix1 h))

/-- The reference's keys are these. -/
theorem pay8_keys : k0_pay8 (k0_pay6 x) (k0_pay7 x) wk sk (ix4 b s h d) = keys x b s wk sk h d := by
  rw [pay8_apply]
  simp only [pay6_apply, pay7_apply]
  rfl

/-- The reference's values are these with the bias. -/
theorem pay12_keys : k0_pay12 (k0_pay6 x) (k0_pay7 x) wv sv bv (ix4 b s h d) = keys x b s wv sv h d + bv (ix2 h d) := by
  rw [pay12_apply]
  simp only [pay6_apply, pay7_apply]
  rfl

/-- The codes of the rows of `x`, at an index. -/
theorem out0_6_at (d : Fin 1024) : out0_6 x wk sk wv sv bv (ix3 b s d) = rowCode (rowX x b s) d := by
  rw [out0_6_eq, pay6_apply]

/-- Their scales. -/
theorem out0_7_at : out0_7 x wk sk wv sv bv (ix2 b s) = rowScale (rowX x b s) := by
  rw [out0_7_eq, pay7_apply]

/-- The codes of the keys. -/
theorem out0_8_at : out0_8 x wk sk wv sv bv (ix4 b s h d) = rowCode (keys x b s wk sk h) d := by
  rw [out0_8_eq, codesH_expH]
  simp only [pay8_keys]

/-- Their scales. -/
theorem out0_9_at : out0_9 x wk sk wv sv bv (ix3 b s h) = rowScale (keys x b s wk sk h) := by
  rw [out0_9_eq, exp2_expH]
  simp only [pay8_keys]

/-- The codes of the values. -/
theorem out0_10_at : out0_10 x wk sk wv sv bv (ix4 b s h d) = rowCode (fun d => keys x b s wv sv h d + bv (ix2 h d)) d := by
  rw [out0_10_eq, codesH_expH]
  simp only [pay12_keys]

/-- Their scales. -/
theorem out0_11_at : out0_11 x wk sk wv sv bv (ix3 b s h) = rowScale (fun d => keys x b s wv sv h d + bv (ix2 h d)) := by
  rw [out0_11_eq, exp2_expH]
  simp only [pay12_keys]

end stores

/-! ## What the call finds -/

variable (m : (ℓ : Loc nD τ sig) → Buf (Elt Ideal) ℓ) (c : Dev nD)

/-- Operand 0, whole. -/
theorem iblk0_eq (t : Fin cfg0.N) : (iblk m c 0 t : Vec Ideal S32x2048x1024 .bf16) = m ((c : Thread nD τ).loc main_arg0) := by
  rw [← V_main_arg0 m c]
  funext y
  show V m c main_arg0 ((win0_0.rect t).emb y) = V m c main_arg0 y
  refine congrArg (V m c main_arg0) (funext fun a => Fin.ext ?_)
  exact Window.rect_emb_val_of_index_zero win0_0 t a (by fin_cases a <;> rfl) y

/-- Operand 1, whole. -/
theorem iblk1_eq (t : Fin cfg0.N) : (iblk m c 1 t : Vec Ideal S1024x1024 .fp8e4m3) = V m c main_v0 := by
  funext y
  show V m c main_v0 ((win0_1.rect t).emb y) = V m c main_v0 y
  refine congrArg (V m c main_v0) (funext fun a => Fin.ext ?_)
  exact Window.rect_emb_val_of_index_zero win0_1 t a (by fin_cases a <;> rfl) y

/-- Operand 2, whole. -/
theorem iblk2_eq (t : Fin cfg0.N) : (iblk m c 2 t : Vec Ideal S16 .f32) = m ((c : Thread nD τ).loc main_arg2) := by
  rw [← V_main_arg2 m c]
  funext y
  show V m c main_arg2 ((win0_2.rect t).emb y) = V m c main_arg2 y
  refine congrArg (V m c main_arg2) (funext fun a => Fin.ext ?_)
  exact Window.rect_emb_val_of_index_zero win0_2 t a (by fin_cases a <;> rfl) y

/-- Operand 3, whole. -/
theorem iblk3_eq (t : Fin cfg0.N) : (iblk m c 3 t : Vec Ideal S1024x1024 .fp8e4m3) = V m c main_v1 := by
  funext y
  show V m c main_v1 ((win0_3.rect t).emb y) = V m c main_v1 y
  refine congrArg (V m c main_v1) (funext fun a => Fin.ext ?_)
  exact Window.rect_emb_val_of_index_zero win0_3 t a (by fin_cases a <;> rfl) y

/-- Operand 4, whole. -/
theorem iblk4_eq (t : Fin cfg0.N) : (iblk m c 4 t : Vec Ideal S16 .f32) = m ((c : Thread nD τ).loc main_arg4) := by
  rw [← V_main_arg4 m c]
  funext y
  show V m c main_arg4 ((win0_4.rect t).emb y) = V m c main_arg4 y
  refine congrArg (V m c main_arg4) (funext fun a => Fin.ext ?_)
  exact Window.rect_emb_val_of_index_zero win0_4 t a (by fin_cases a <;> rfl) y

/-- Operand 5, whole. -/
theorem iblk5_eq (t : Fin cfg0.N) : (iblk m c 5 t : Vec Ideal S16x64 .f32) = m ((c : Thread nD τ).loc main_arg5) := by
  rw [← V_main_arg5 m c]
  funext y
  show V m c main_arg5 ((win0_5.rect t).emb y) = V m c main_arg5 y
  refine congrArg (V m c main_arg5) (funext fun a => Fin.ext ?_)
  exact Window.rect_emb_val_of_index_zero win0_5 t a (by fin_cases a <;> rfl) y

/-- The weight `main_arg1` as a matrix. -/
theorem V_main_v0 (k : Fin 1024) (h : Fin 16) (d : Fin 64) :
    V m c main_v0 (ix2 k (headRow h d)) = m ((c : Thread nD τ).loc main_arg1) (ix3 k h d) := by
  have e : V m c main_v0 = shapeCast S1024x1024 (m ((c : Thread nD τ).loc main_arg1)) shapeCasts_S1024x16x64_S1024x1024 := by
    show StableHlo.after hostOps0 (fun b => m (c, b)) _ = _
    simp only [hostOps0]
    after_results
    rfl
  rw [e]
  pointwise []
  rw [headOf_row, inHead_row]

/-- The weight `main_arg3` as a matrix. -/
theorem V_main_v1 (k : Fin 1024) (h : Fin 16) (d : Fin 64) :
    V m c main_v1 (ix2 k (headRow h d)) = m ((c : Thread nD τ).loc main_arg3) (ix3 k h d) := by
  have e : V m c main_v1 = shapeCast S1024x1024 (m ((c : Thread nD τ).loc main_arg3)) shapeCasts_S1024x16x64_S1024x1024 := by
    show StableHlo.after hostOps0 (fun b => m (c, b)) _ = _
    simp only [hostOps0]
    after_results
    rfl
  rw [e]
  pointwise []
  rw [headOf_row, inHead_row]

/-- The keys of a device's arguments. -/
def aK (b : Fin 32) (s : Fin 2048) (h : Fin 16) (d : Fin 64) : EReal :=
  specK (m ((c : Thread nD τ).loc main_arg0)) (m ((c : Thread nD τ).loc main_arg1)) (m ((c : Thread nD τ).loc main_arg2)) b s h d

/-- The values of a device's arguments. -/
def aV (b : Fin 32) (s : Fin 2048) (h : Fin 16) (d : Fin 64) : EReal :=
  specV (m ((c : Thread nD τ).loc main_arg0)) (m ((c : Thread nD τ).loc main_arg3)) (m ((c : Thread nD τ).loc main_arg4))
    (m ((c : Thread nD τ).loc main_arg5)) b s h d

/-- The keys from what the call finds. -/
theorem keys_aK (b : Fin 32) (s : Fin 2048) (h : Fin 16) (d : Fin 64) :
    keys (m ((c : Thread nD τ).loc main_arg0)) b s (V m c main_v0) (m ((c : Thread nD τ).loc main_arg2)) h d = aK m c b s h d := by
  unfold keys aK specK
  exact congrArg (fun f => proj _ f _) (funext fun k => V_main_v0 m c k h d)

/-- The values from what the call finds. -/
theorem keys_aV (b : Fin 32) (s : Fin 2048) (h : Fin 16) (d : Fin 64) :
    keys (m ((c : Thread nD τ).loc main_arg0)) b s (V m c main_v1) (m ((c : Thread nD τ).loc main_arg4)) h d
      + m ((c : Thread nD τ).loc main_arg5) (ix2 h d) = aV m c b s h d := by
  unfold keys aV specV specK
  exact congrArg (fun f => proj _ f _ + _) (funext fun k => V_main_v1 m c k h d)

/-! ## The arrays after the call -/

/-- The one grid point. -/
def t0 : Fin cfg0.N := ⟨0, by decide⟩

/-- What the one grid point writes back into array 6. -/
theorem flushed6 (t : Fin cfg0.N) (b : Fin 32) (s : Fin 2048) (d : Fin 1024) : (dats m 0 c).flushed 6 t (ix3 b s d) = rowCode (rowX (m ((c : Thread nD τ).loc main_arg0)) b s) d := by
  have e : (dats m 0 c).flushed 6 t = out0_6 (iblk m c 0 t) (iblk m c 1 t) (iblk m c 2 t) (iblk m c 3 t) (iblk m c 4 t) (iblk m c 5 t) := by
    rw [← after0_6]
  rw [e, out0_6_at, iblk0_eq]

/-- The codes of the rows of `x`, at an index. -/
theorem arr6_at (b : Fin 32) (s : Fin 2048) (d : Fin 1024) : (dats m 0 c).arrAt 6 cfg0.N (ix3 b s d : S32x2048x1024.Idx) = rowCode (rowX (m ((c : Thread nD τ).loc main_arg0)) b s) d := by
  have e : ((ix3 b s d) : S32x2048x1024.Idx) = ((cfg0.win 6).blk t0).view.emb (ix3 b s d) := by
    show _ = (win0_6.rect t0).emb (ix3 b s d)
    funext a
    exact Fin.ext (Window.rect_emb_val_of_index_zero win0_6 t0 a (by fin_cases a <;> rfl) _).symm
  rw [e, (dats m 0 c).arrAt_emb_eq_flushed 6 Value.disjoint6 t0 (flush0_6 _)]
  exact flushed6 m c t0 b s d

/-- The codes of the rows of `x`. -/
theorem arr6 : (dats m 0 c).arrAt 6 cfg0.N = valXq (m ((c : Thread nD τ).loc main_arg0)) := by
  refine funext fun (i : S32x2048x1024.Idx) => ?_
  have e : i = ix3 (i 0) (i 1) (i 2) := by funext a; fin_cases a <;> rfl
  rw [e]
  exact arr6_at m c (i 0) (i 1) (i 2)

/-- What the one grid point writes back into array 7. -/
theorem flushed7 (t : Fin cfg0.N) (b : Fin 32) (s : Fin 2048) : (dats m 0 c).flushed 7 t (ix2 b s) = rowScale (rowX (m ((c : Thread nD τ).loc main_arg0)) b s) := by
  have e : (dats m 0 c).flushed 7 t = out0_7 (iblk m c 0 t) (iblk m c 1 t) (iblk m c 2 t) (iblk m c 3 t) (iblk m c 4 t) (iblk m c 5 t) := by
    rw [← after0_7]
  rw [e, out0_7_at, iblk0_eq]

/-- Their scales, at an index. -/
theorem arr7_at (b : Fin 32) (s : Fin 2048) : (dats m 0 c).arrAt 7 cfg0.N (ix2 b s : S32x2048.Idx) = rowScale (rowX (m ((c : Thread nD τ).loc main_arg0)) b s) := by
  have e : ((ix2 b s) : S32x2048.Idx) = ((cfg0.win 7).blk t0).view.emb (ix2 b s) := by
    show _ = (win0_7.rect t0).emb (ix2 b s)
    funext a
    exact Fin.ext (Window.rect_emb_val_of_index_zero win0_7 t0 a (by fin_cases a <;> rfl) _).symm
  rw [e, (dats m 0 c).arrAt_emb_eq_flushed 7 Value.disjoint7 t0 (flush0_7 _)]
  exact flushed7 m c t0 b s

/-- Their scales. -/
theorem arr7 : (dats m 0 c).arrAt 7 cfg0.N = valXs (m ((c : Thread nD τ).loc main_arg0)) := by
  refine funext fun (i : S32x2048.Idx) => ?_
  have e : i = ix2 (i 0) (i 1) := by funext a; fin_cases a <;> rfl
  rw [e]
  exact arr7_at m c (i 0) (i 1)

/-- What the one grid point writes back into array 8. -/
theorem flushed8 (t : Fin cfg0.N) (b : Fin 32) (s : Fin 2048) (h : Fin 16) (d : Fin 64) : (dats m 0 c).flushed 8 t (ix4 b s h d) = rowCode (aK m c b s h) d := by
  have e : (dats m 0 c).flushed 8 t = out0_8 (iblk m c 0 t) (iblk m c 1 t) (iblk m c 2 t) (iblk m c 3 t) (iblk m c 4 t) (iblk m c 5 t) := by
    rw [← after0_8]
  rw [e, out0_8_at, iblk0_eq, iblk1_eq, iblk2_eq]
  exact congrArg (fun f => rowCode f d) (funext fun d => keys_aK m c b s h d)

/-- The codes of the keys, at an index. -/
theorem arr8_at (b : Fin 32) (s : Fin 2048) (h : Fin 16) (d : Fin 64) : (dats m 0 c).arrAt 8 cfg0.N (ix4 b s h d : S32x2048x16x64.Idx) = rowCode (aK m c b s h) d := by
  have e : ((ix4 b s h d) : S32x2048x16x64.Idx) = ((cfg0.win 8).blk t0).view.emb (ix4 b s h d) := by
    show _ = (win0_8.rect t0).emb (ix4 b s h d)
    funext a
    exact Fin.ext (Window.rect_emb_val_of_index_zero win0_8 t0 a (by fin_cases a <;> rfl) _).symm
  rw [e, (dats m 0 c).arrAt_emb_eq_flushed 8 Value.disjoint8 t0 (flush0_8 _)]
  exact flushed8 m c t0 b s h d

/-- The codes of the keys. -/
theorem arr8 : (dats m 0 c).arrAt 8 cfg0.N = valCodes (aK m c) := by
  refine funext fun (i : S32x2048x16x64.Idx) => ?_
  have e : i = ix4 (i 0) (i 1) (i 2) (i 3) := by funext a; fin_cases a <;> rfl
  rw [e]
  exact arr8_at m c (i 0) (i 1) (i 2) (i 3)

/-- What the one grid point writes back into array 9. -/
theorem flushed9 (t : Fin cfg0.N) (b : Fin 32) (s : Fin 2048) (h : Fin 16) : (dats m 0 c).flushed 9 t (ix3 b s h) = rowScale (aK m c b s h) := by
  have e : (dats m 0 c).flushed 9 t = out0_9 (iblk m c 0 t) (iblk m c 1 t) (iblk m c 2 t) (iblk m c 3 t) (iblk m c 4 t) (iblk m c 5 t) := by
    rw [← after0_9]
  rw [e, out0_9_at, iblk0_eq, iblk1_eq, iblk2_eq]
  exact congrArg rowScale (funext fun d => keys_aK m c b s h d)

/-- Their scales, at an index. -/
theorem arr9_at (b : Fin 32) (s : Fin 2048) (h : Fin 16) : (dats m 0 c).arrAt 9 cfg0.N (ix3 b s h : S32x2048x16.Idx) = rowScale (aK m c b s h) := by
  have e : ((ix3 b s h) : S32x2048x16.Idx) = ((cfg0.win 9).blk t0).view.emb (ix3 b s h) := by
    show _ = (win0_9.rect t0).emb (ix3 b s h)
    funext a
    exact Fin.ext (Window.rect_emb_val_of_index_zero win0_9 t0 a (by fin_cases a <;> rfl) _).symm
  rw [e, (dats m 0 c).arrAt_emb_eq_flushed 9 Value.disjoint9 t0 (flush0_9 _)]
  exact flushed9 m c t0 b s h

/-- Their scales. -/
theorem arr9 : (dats m 0 c).arrAt 9 cfg0.N = valScales (aK m c) := by
  refine funext fun (i : S32x2048x16.Idx) => ?_
  have e : i = ix3 (i 0) (i 1) (i 2) := by funext a; fin_cases a <;> rfl
  rw [e]
  exact arr9_at m c (i 0) (i 1) (i 2)

/-- What the one grid point writes back into array 10. -/
theorem flushed10 (t : Fin cfg0.N) (b : Fin 32) (s : Fin 2048) (h : Fin 16) (d : Fin 64) : (dats m 0 c).flushed 10 t (ix4 b s h d) = rowCode (aV m c b s h) d := by
  have e : (dats m 0 c).flushed 10 t = out0_10 (iblk m c 0 t) (iblk m c 1 t) (iblk m c 2 t) (iblk m c 3 t) (iblk m c 4 t) (iblk m c 5 t) := by
    rw [← after0_10]
  rw [e, out0_10_at, iblk0_eq, iblk3_eq, iblk4_eq, iblk5_eq]
  exact congrArg (fun f => rowCode f d) (funext fun d => keys_aV m c b s h d)

/-- The codes of the values, at an index. -/
theorem arr10_at (b : Fin 32) (s : Fin 2048) (h : Fin 16) (d : Fin 64) : (dats m 0 c).arrAt 10 cfg0.N (ix4 b s h d : S32x2048x16x64.Idx) = rowCode (aV m c b s h) d := by
  have e : ((ix4 b s h d) : S32x2048x16x64.Idx) = ((cfg0.win 10).blk t0).view.emb (ix4 b s h d) := by
    show _ = (win0_10.rect t0).emb (ix4 b s h d)
    funext a
    exact Fin.ext (Window.rect_emb_val_of_index_zero win0_10 t0 a (by fin_cases a <;> rfl) _).symm
  rw [e, (dats m 0 c).arrAt_emb_eq_flushed 10 Value.disjoint10 t0 (flush0_10 _)]
  exact flushed10 m c t0 b s h d

/-- The codes of the values. -/
theorem arr10 : (dats m 0 c).arrAt 10 cfg0.N = valCodes (aV m c) := by
  refine funext fun (i : S32x2048x16x64.Idx) => ?_
  have e : i = ix4 (i 0) (i 1) (i 2) (i 3) := by funext a; fin_cases a <;> rfl
  rw [e]
  exact arr10_at m c (i 0) (i 1) (i 2) (i 3)

/-- What the one grid point writes back into array 11. -/
theorem flushed11 (t : Fin cfg0.N) (b : Fin 32) (s : Fin 2048) (h : Fin 16) : (dats m 0 c).flushed 11 t (ix3 b s h) = rowScale (aV m c b s h) := by
  have e : (dats m 0 c).flushed 11 t = out0_11 (iblk m c 0 t) (iblk m c 1 t) (iblk m c 2 t) (iblk m c 3 t) (iblk m c 4 t) (iblk m c 5 t) := by
    rw [← after0_11]
  rw [e, out0_11_at, iblk0_eq, iblk3_eq, iblk4_eq, iblk5_eq]
  exact congrArg rowScale (funext fun d => keys_aV m c b s h d)

/-- Their scales, at an index. -/
theorem arr11_at (b : Fin 32) (s : Fin 2048) (h : Fin 16) : (dats m 0 c).arrAt 11 cfg0.N (ix3 b s h : S32x2048x16.Idx) = rowScale (aV m c b s h) := by
  have e : ((ix3 b s h) : S32x2048x16.Idx) = ((cfg0.win 11).blk t0).view.emb (ix3 b s h) := by
    show _ = (win0_11.rect t0).emb (ix3 b s h)
    funext a
    exact Fin.ext (Window.rect_emb_val_of_index_zero win0_11 t0 a (by fin_cases a <;> rfl) _).symm
  rw [e, (dats m 0 c).arrAt_emb_eq_flushed 11 Value.disjoint11 t0 (flush0_11 _)]
  exact flushed11 m c t0 b s h

/-- Their scales. -/
theorem arr11 : (dats m 0 c).arrAt 11 cfg0.N = valScales (aV m c) := by
  refine funext fun (i : S32x2048x16.Idx) => ?_
  have e : i = ix3 (i 0) (i 1) (i 2) := by funext a; fin_cases a <;> rfl
  rw [e]
  exact arr11_at m c (i 0) (i 1) (i 2)

end Cert.KV.Ref

end
-- ==== Proof.KV.Equal.lean ====
/- THE EQUATION: from the same arguments the kernel and the reference both run, and their six results are the same arrays. -/
module

public import proofs.«01_k».proof.Proof.KV.Tail
public import proofs.«01_k».proof.Proof.KV.RefRun
public import proofs.«01_k».proof.Defs

@[expose] public section

noncomputable section

namespace Cert.KV

open Idealize.ShloMosaic Idealize.ShloMosaic.TcCoe Idealize.SL.Sem

section kernel

open Cert.KernelIdeal Cert.KernelIdeal.Gen

variable (m : (ℓ : Loc nD τ sig) → Buf (Elt Ideal) ℓ) (g : Dev nD → PrngReg)

/-- The kernel runs, ends with the six results as the mathematics of its arguments, and leaves the arguments as they were. -/
theorem kernel_run : θ_run (defs (F := Ideal)) (onTc (τ := τ) (main (F := Ideal))) ⟨m, fun _ => 0, g⟩ fun r => ∀ c : Dev nD,
    r.2.mem ((c : Thread nD τ).loc main_v11_0) = valXq (aX m c)
    ∧ r.2.mem ((c : Thread nD τ).loc main_v12) = valXs (aX m c)
    ∧ r.2.mem ((c : Thread nD τ).loc main_v14) = valCodes (aK m c)
    ∧ r.2.mem ((c : Thread nD τ).loc main_v15) = valScales (aK m c)
    ∧ r.2.mem ((c : Thread nD τ).loc main_v17) = valCodes (aV m c)
    ∧ r.2.mem ((c : Thread nD τ).loc main_v18) = valScales (aV m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨((h c).1 6).trans (ret_v11_0 m c),
    ((h c).2 main_v12 (Pipeline.mem_restRefs_of main_v12 (by decide) (by decide))).trans (ret_v12 m c),
    ((h c).2 main_v14 (Pipeline.mem_restRefs_of main_v14 (by decide) (by decide))).trans (ret_v14 m c),
    ((h c).2 main_v15 (Pipeline.mem_restRefs_of main_v15 (by decide) (by decide))).trans (ret_v15 m c),
    ((h c).2 main_v17 (Pipeline.mem_restRefs_of main_v17 (by decide) (by decide))).trans (ret_v17 m c),
    ((h c).2 main_v18 (Pipeline.mem_restRefs_of main_v18 (by decide) (by decide))).trans (ret_v18 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m g)

end kernel

/-- The kernel and the reference, from the same arguments, end with the same six results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => valXq (aX m c), fun c => valXs (aX m c), fun c => valCodes (aK m c), fun c => valScales (aK m c),
    fun c => valCodes (aV m c), fun c => valScales (aV m c), kernel_run m g, ?_⟩
  refine (θ_run Cert.ReferenceIdeal.defs _ _).mono (fun r h c => ?_) (Cert.ReferenceIdeal.Value.run_blocks m' g')
  obtain ⟨h6, h7, h8, h9, h10, h11, hrest⟩ := h c
  obtain ⟨e0, e1, e2, e3, e4, e5⟩ := hargs c
  have eK : Ref.aK m' c = aK m c := by
    unfold Ref.aK aK aX
    rw [e0, e1, e2]
  have eV : Ref.aV m' c = aV m c := by
    unfold Ref.aV aV aX
    rw [e0, e3, e4, e5]
  rw [Ref.arr6, e0] at h6
  rw [Ref.arr7, e0] at h7
  rw [Ref.arr8, eK] at h8
  rw [Ref.arr9, eK] at h9
  rw [Ref.arr10, eV] at h10
  rw [Ref.arr11, eV] at h11
  exact ⟨h6, h7, h8, h9, h10, h11, hrest⟩

end Cert.KV

end
-- ==== Proof.FfnTail.Vocab.lean ====
/- THE SECOND KERNEL'S BODY IN ITS OWN WORDS: the quantiser of an array's rows, a product with a matrix and its scales, the
   normalisation of a row and the activation, each stated once. -/
module

public import proofs.«01_k».proof.Proof.KV.Vocab
public import proofs.«01_k».proof.Proof.Gen.TailIdeal.Frame

@[expose] public section

noncomputable section

namespace Cert.FfnTail

open Cert.TailIdeal Cert.TailIdeal.Gen Idealize.ShloMosaic

variable {F : FTy → Type} [FloatOps F]

/-! ## The quantiser of rows -/

/-- The largest magnitude of each row of 1024. -/
def maxD (v : FVec F S256x1024 .f32) : FVec F S256x1 .f32 :=
  shapeCast S256x1 (multiReduction .maximumf [1] S256 (absf v) 0xFF800000#32 reduces_S256x1024_S256 (.inl rfl) rfl) shapeCasts_S256_S256x1

/-- The largest magnitude of each row of 4096. -/
def maxF (v : FVec F S256x4096 .f32) : FVec F S256x1 .f32 :=
  shapeCast S256x1 (multiReduction .maximumf [1] S256 (absf v) 0xFF800000#32 reduces_S256x4096_S256 (.inl rfl) rfl) shapeCasts_S256_S256x1

/-- The codes of rows of 1024. -/
def codesD (v : FVec F S256x1024 .f32) : FVec F S256x1024 .fp8e4m3 :=
  Cert.KV.codesV v (broadcastTo S256x1024 (Cert.KV.invV (maxD v)) broadcasts_S256x1_S256x1024)

/-- The codes of rows of 4096. -/
def codesF (v : FVec F S256x4096 .f32) : FVec F S256x4096 .fp8e4m3 :=
  Cert.KV.codesV v (broadcastTo S256x4096 (Cert.KV.invV (maxF v)) broadcasts_S256x1_S256x4096)

/-- The scales of rows of 1024. -/
def scalesD (v : FVec F S256x1024 .f32) : FVec F S256x1 .f32 := Cert.KV.scaleV (maxD v)

/-- The scales of rows of 4096. -/
def scalesF (v : FVec F S256x4096 .f32) : FVec F S256x1 .f32 := Cert.KV.scaleV (maxF v)

/-! ## The products -/

/-- A row of 1024 laid along every row. -/
def rowD (v : Vec F S1024 .f32) : FVec F S256x1024 .f32 :=
  broadcastTo S256x1024 (shapeCast S1x1024 v shapeCasts_S1024_S1x1024) broadcasts_S1x1024_S256x1024

/-- A row of 4096 laid along every row. -/
def rowF (v : Vec F S4096 .f32) : FVec F S256x4096 .f32 :=
  broadcastTo S256x4096 (shapeCast S1x4096 v shapeCasts_S4096_S1x4096) broadcasts_S1x4096_S256x4096

/-- Codes times a square of codes, rescaled by the rows' scales and the columns', with the bias. -/
def linO (q : FVec F S256x1024 .fp8e4m3) (p : FVec F S256x1 .f32) (w : Vec F S1024x1024 .fp8e4m3) (s b : Vec F S1024 .f32) : FVec F S256x1024 .f32 :=
  addf (mulf (mulf (matmul dot_S256x1024_S1024x1024_S256x1024_1_0_0_1_n_n none q w (constant S256x1024 .f32 0x00000000#32))
    (broadcastTo S256x1024 p broadcasts_S256x1_S256x1024)) (rowD s)) (rowD b)

/-- The same into rows of 4096. -/
def linU (q : FVec F S256x1024 .fp8e4m3) (p : FVec F S256x1 .f32) (w : Vec F S1024x4096 .fp8e4m3) (s b : Vec F S4096 .f32) : FVec F S256x4096 .f32 :=
  addf (mulf (mulf (matmul dot_S256x1024_S1024x4096_S256x4096_1_0_0_1_n_n none q w (constant S256x4096 .f32 0x00000000#32))
    (broadcastTo S256x4096 p broadcasts_S256x1_S256x4096)) (rowF s)) (rowF b)

/-- The same from rows of 4096. -/
def linF (q : FVec F S256x4096 .fp8e4m3) (p : FVec F S256x1 .f32) (w : Vec F S4096x1024 .fp8e4m3) (s b : Vec F S1024 .f32) : FVec F S256x1024 .f32 :=
  addf (mulf (mulf (matmul dot_S256x4096_S4096x1024_S256x1024_1_0_0_1_n_n none q w (constant S256x1024 .f32 0x00000000#32))
    (broadcastTo S256x1024 p broadcasts_S256x1_S256x1024)) (rowD s)) (rowD b)

/-! ## The normalisation and the activation -/

/-- Each row's mean. -/
def meanD (z : FVec F S256x1024 .f32) : FVec F S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

/-- Each row less its mean. -/
def centD (z : FVec F S256x1024 .f32) : FVec F S256x1024 .f32 :=
  subf z (broadcastTo S256x1024 (meanD z) broadcasts_S256x1_S256x1024)

/-- The reciprocal of each row's deviation. -/
def rdevD (z : FVec F S256x1024 .f32) : FVec F S256x1 .f32 :=
  rsqrt (addf (meanD (mulf (centD z) (centD z))) (broadcast S256x1 (Scalar.ofBits .f32 0x2B8CBCCC#32)))

/-- The normalisation of rows, with its gain and shift. -/
def normD (z : FVec F S256x1024 .f32) (g b : Vec F S1024 .f32) : FVec F S256x1024 .f32 :=
  addf (mulf (mulf (centD z) (broadcastTo S256x1024 (rdevD z) broadcasts_S256x1_S256x1024)) (rowD g)) (rowD b)

/-- The activation: half of `z` times one more than the error function of `z / √2`. -/
def geluF (z : FVec F S256x4096 .f32) : FVec F S256x4096 .f32 :=
  mulf (mulf (broadcast S256x4096 (Scalar.ofBits .f32 0x3F000000#32)) z)
    (addf (broadcast S256x4096 (Scalar.ofBits .f32 0x3F800000#32)) (erf (mulf z (broadcast S256x4096 (Scalar.ofBits .f32 0x3F3504F3#32)))))

/-- The pooled rows. -/
def poolD (h : FVec F S256x1024 .f32) (w : Vec F S1024x1024 .f32) (b : Vec F S1024 .f32) : FVec F S256x1024 .f32 :=
  tanh (addf (matmul dot_S256x1024_S1024x1024_S256x1024_1_0_0_1_n_n (some .fp32) h w (constant S256x1024 .f32 0x00000000#32)) (rowD b))

/-- Each pooled row's score. -/
def scoreD (p : FVec F S256x1024 .f32) (w : Vec F S1024 .f32) (b : Vec F S1 .f32) : FVec F S256x1 .f32 :=
  addf (shapeCast S256x1 (multiReduction .add [1] S256 (mulf p (rowD w)) 0x00000000#32 reduces_S256x1024_S256 (.inl rfl) rfl) shapeCasts_S256_S256x1)
    (broadcastTo S256x1 (shapeCast S1x1 b shapeCasts_S1_S1x1) broadcasts_S1x1_S256x1)

/-! ## The body, line by line -/

/-- The context as the body reads it. -/
def ctxB (v : Vec F S256x1024 .f32) : FVec F S256x1024 .f32 := shapeCast S256x1024 v shapeCasts_S256x1024_S256x1024

/-- The first residual row, normalised. -/
def h1B (x0 x1 : Vec F S256x1024 .f32) (x2 : Vec F S1024x1024 .fp8e4m3) (x3 x4 x5 x6 : Vec F S1024 .f32) : FVec F S256x1024 .f32 :=
  normD (addf x1 (linO (codesD (ctxB x0)) (scalesD (ctxB x0)) x2 x3 x4)) x5 x6

/-- The hidden rows, from the first residual row. -/
def uB (h : FVec F S256x1024 .f32) (x7 : Vec F S1024x4096 .fp8e4m3) (x8 x9 : Vec F S4096 .f32) : FVec F S256x4096 .f32 :=
  geluF (linU (codesD h) (scalesD h) x7 x8 x9)

/-- The second residual row, before its normalisation. -/
def r2B (h : FVec F S256x1024 .f32) (u : FVec F S256x4096 .f32) (x10 : Vec F S4096x1024 .fp8e4m3) (x11 x12 : Vec F S1024 .f32) : FVec F S256x1024 .f32 :=
  addf h (linF (codesF u) (scalesF u) x10 x11 x12)

end Cert.FfnTail

end
-- ==== Proof.FfnTail.Stores.lean ====
/- WHAT THE SECOND KERNEL STORES, in its own words: each of its nine buffers is one of them. -/
module

public import proofs.«01_k».proof.Proof.FfnTail.Vocab
public import Idealize.ShloMosaic.Lib.Pipeline.Value

@[expose] public section

set_option maxRecDepth 16384

noncomputable section

namespace Cert.FfnTail

open Cert.TailIdeal Cert.TailIdeal.Gen Idealize.ShloMosaic

variable {F : FTy → Type} [FloatOps F]

/-! ## The values the body computes -/

section values

/-- The codes of the context. -/
theorem pay9_eq (v : Vec F S256x1024 .f32) :
    k0_pay9 (k0_pay1 v) (k0_pay2 v) (k0_pay3 v) (k0_pay4 v) (k0_pay5 v) = codesD (ctxB v) := rfl

/-- Their scales. -/
theorem pay8_eq (v : Vec F S256x1024 .f32) :
    k0_pay8 (k0_pay2 v) (k0_pay3 v) (k0_pay4 v) (k0_pay5 v) = scalesD (ctxB v) := rfl

/-- The first residual row. -/
theorem pay12_eq (v1 : FVec F S256x1024 .f32) (v10 : FVec F S256x1 .f32) (v41 v43 : IVec S256x1 32) (v45 : IVec S256x1 1)
    (w : Vec F S1024x1024 .fp8e4m3) (s b : Vec F S1024 .f32) (x : Vec F S256x1024 .f32) (g n : Vec F S1024 .f32) :
    k0_pay12 (k0_pay10 v1 v10 v41 v43 v45 w s) (k0_pay11 b) x g n
      = normD (addf x (linO (k0_pay9 v1 v10 v41 v43 v45) (k0_pay8 v10 v41 v43 v45) w s b)) g n := rfl

/-- Its codes. -/
theorem pay21_eq (a : FVec F S256x1024 .f32) (b : FVec F S1x1024 .f32) (x : Vec F S256x1024 .f32) (g n : Vec F S1024 .f32) :
    k0_pay21 (k0_pay12 a b x g n) (k0_pay16 (k0_pay13 a b x g n) (k0_pay14 a b x g n))
      (k0_pay18 (k0_pay13 a b x g n) (k0_pay14 a b x g n)) k0_pay19 = codesD (k0_pay12 a b x g n) := rfl

/-- Their scales. -/
theorem pay20_eq (a : FVec F S256x1024 .f32) (b : FVec F S1x1024 .f32) (x : Vec F S256x1024 .f32) (g n : Vec F S1024 .f32) :
    k0_pay20 (k0_pay17 (k0_pay13 a b x g n) (k0_pay14 a b x g n)) = scalesD (k0_pay12 a b x g n) := rfl

/-- The hidden rows. -/
theorem pay22_eq (h : FVec F S256x1024 .f32) (n : IVec S256x1 1) (p e z : IVec S256x1 32) (w : Vec F S1024x4096 .fp8e4m3)
    (s b : Vec F S4096 .f32) : k0_pay22 h n p e z w s b = geluF (linU (k0_pay21 h n e z) (k0_pay20 p) w s b) := rfl

/-- Their codes. -/
theorem pay30_eq (h : FVec F S256x1024 .f32) (n : IVec S256x1 1) (p e z : IVec S256x1 32) (w : Vec F S1024x4096 .fp8e4m3)
    (s b : Vec F S4096 .f32) :
    k0_pay30 (k0_pay22 h n p e z w s b) (k0_pay26 (k0_pay23 h n p e z w s b) (k0_pay24 h n p e z w s b) k0_pay25)
      (k0_pay27 (k0_pay23 h n p e z w s b) (k0_pay24 h n p e z w s b) k0_pay25) = codesF (k0_pay22 h n p e z w s b) := rfl

/-- Their scales. -/
theorem pay29_eq (h : FVec F S256x1024 .f32) (n : IVec S256x1 1) (p e z : IVec S256x1 32) (w : Vec F S1024x4096 .fp8e4m3)
    (s b : Vec F S4096 .f32) :
    k0_pay29 (k0_pay26 (k0_pay23 h n p e z w s b) (k0_pay24 h n p e z w s b) k0_pay25)
      (k0_pay27 (k0_pay23 h n p e z w s b) (k0_pay24 h n p e z w s b) k0_pay25) k0_pay28 = scalesF (k0_pay22 h n p e z w s b) := rfl

/-- The second residual row before its normalisation. -/
theorem pay31_eq (h : FVec F S256x1024 .f32) (u : FVec F S256x4096 .f32) (e : IVec S256x1 32) (n : IVec S256x1 1) (z : IVec S256x1 32)
    (w : Vec F S4096x1024 .fp8e4m3) (s b : Vec F S1024 .f32) :
    k0_pay31 h u e n z w s b = addf h (linF (k0_pay30 u e n) (k0_pay29 e n z) w s b) := rfl

/-- The second residual row. -/
theorem pay34_eq (h : FVec F S256x1024 .f32) (u : FVec F S256x4096 .f32) (e : IVec S256x1 32) (c : IVec S256x1 1) (z : IVec S256x1 32)
    (w : Vec F S4096x1024 .fp8e4m3) (s b : Vec F S1024 .f32) (g n : Vec F S1024 .f32) :
    k0_pay34 (k0_pay31 h u e c z w s b) g n (k0_pay32 h u e c z w s b) (k0_pay33 h u e c z w s b) = normD (k0_pay31 h u e c z w s b) g n := rfl

/-- The pooled row. -/
theorem pay35_eq (r : FVec F S256x1024 .f32) (g n : Vec F S1024 .f32) (m : FVec F S256x1 .f32) (q : FVec F S256x1024 .f32)
    (w : Vec F S1024x1024 .f32) (b : Vec F S1024 .f32) : k0_pay35 r g n m q w b = poolD (k0_pay34 r g n m q) w b := rfl

/-- The score. -/
theorem pay36_eq (r : FVec F S256x1024 .f32) (g n : Vec F S1024 .f32) (m : FVec F S256x1 .f32) (q : FVec F S256x1024 .f32)
    (w : Vec F S1024x1024 .f32) (b a : Vec F S1024 .f32) (d : Vec F S1 .f32) :
    k0_pay36 r g n m q w b a d = scoreD (k0_pay35 r g n m q w b) a d := rfl

end values

/-! ## What each buffer holds -/

section stores

variable (x0 x1 : Vec F S256x1024 .f32) (x2 : Vec F S1024x1024 .fp8e4m3) (x3 x4 x5 x6 : Vec F S1024 .f32) (x7 : Vec F S1024x4096 .fp8e4m3)
  (x8 x9 : Vec F S4096 .f32) (x10 : Vec F S4096x1024 .fp8e4m3) (x11 x12 x13 x14 : Vec F S1024 .f32) (x15 : Vec F S1024x1024 .f32)
  (x16 x17 : Vec F S1024 .f32) (x18 : Vec F S1 .f32)

/-- The whole of an array of 256 rows of 1024 is the array. -/
theorem ldD (v : Vec F S256x1024 .f32) : View.ld v r0_0 = v :=
  View.ld_unit_zero (S := S256x1024) (off := ![0, 0]) (by funext a; fin_cases a <;> rfl) _ v

/-- The whole of a square of codes is the square. -/
theorem ldWq (v : Vec F S1024x1024 .fp8e4m3) : View.ld v r0_2 = v :=
  View.ld_unit_zero (S := S1024x1024) (off := ![0, 0]) (by funext a; fin_cases a <;> rfl) _ v

/-- The whole of a square is the square. -/
theorem ldW (v : Vec F S1024x1024 .f32) : View.ld v r0_2 = v :=
  View.ld_unit_zero (S := S1024x1024) (off := ![0, 0]) (by funext a; fin_cases a <;> rfl) _ v

/-- The whole of a row of 1024 is the row. -/
theorem ldR (v : Vec F S1024 .f32) : View.ld v r0_3 = v :=
  View.ld_unit_zero (S := S1024) (off := ![0]) (by funext a; fin_cases a; rfl) _ v

/-- The whole of the first hidden weight is the weight. -/
theorem ldW1 (v : Vec F S1024x4096 .fp8e4m3) : View.ld v r0_4 = v :=
  View.ld_unit_zero (S := S1024x4096) (off := ![0, 0]) (by funext a; fin_cases a <;> rfl) _ v

/-- The whole of a row of 4096 is the row. -/
theorem ldRF (v : Vec F S4096 .f32) : View.ld v r0_5 = v :=
  View.ld_unit_zero (S := S4096) (off := ![0]) (by funext a; fin_cases a; rfl) _ v

/-- The whole of the second hidden weight is the weight. -/
theorem ldW2 (v : Vec F S4096x1024 .fp8e4m3) : View.ld v r0_7 = v :=
  View.ld_unit_zero (S := S4096x1024) (off := ![0, 0]) (by funext a; fin_cases a <;> rfl) _ v

/-- The whole of a single number is the number. -/
theorem ldS (v : Vec F S1 .f32) : View.ld v r0_8 = v :=
  View.ld_unit_zero (S := S1) (off := ![0]) (by funext a; fin_cases a; rfl) _ v

/-- The first residual row as the body carries it. -/
theorem pay44_eq : k0_pay44 x0 x1 x2 x3 x4 x5 x6 x7 x8 x9 x10 x11 x12 x13 x14 x15 x16 x17 x18 = h1B x0 x1 x2 x3 x4 x5 x6 := by
  unfold k0_pay44 k0_pay43 k0_pay42 k0_pay41 k0_pay40 k0_pay39 k0_pay38 k0_pay37
  rw [ldD x0, ldD x1, ldWq x2, ldR x3, ldR x4, ldR x5, ldR x6, pay12_eq, pay9_eq, pay8_eq]
  rfl

/-- Its codes as the body carries them. -/
theorem codes44_eq : k0_pay21 (k0_pay44 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) = codesD (h1B x0 x1 x2 x3 x4 x5 x6) := by
  rw [← pay44_eq x0 x1 x2 x3 x4 x5 x6 x7 x8 x9 x10 x11 x12 x13 x14 x15 x16 x17 x18]
  exact pay21_eq (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x1 r0_0) (View.ld x5 r0_3) (View.ld x6 r0_3)

/-- Their scales as the body carries them. -/
theorem scales44_eq : k0_pay20 (F := F) (k0_pay48 x0 x1 x2 x3 x4 x5 x6 x7 x8 x9 x10 x11 x12 x13 x14 x15 x16 x17 x18) = scalesD (h1B x0 x1 x2 x3 x4 x5 x6) := by
  rw [← pay44_eq x0 x1 x2 x3 x4 x5 x6 x7 x8 x9 x10 x11 x12 x13 x14 x15 x16 x17 x18]
  exact pay20_eq (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x1 r0_0) (View.ld x5 r0_3) (View.ld x6 r0_3)

/-- The hidden rows as the body carries them. -/
theorem pay51_eq : k0_pay51 x0 x1 x2 x3 x4 x5 x6 x7 x8 x9 x10 x11 x12 x13 x14 x15 x16 x17 x18 = uB (h1B x0 x1 x2 x3 x4 x5 x6) x7 x8 x9 := by
  unfold k0_pay51
  rw [pay22_eq, codes44_eq, scales44_eq, ldW1, ldRF, ldRF]
  rfl

/-- Their codes as the body carries them. -/
theorem codes51_eq : k0_pay30 (k0_pay51 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) = codesF (uB (h1B x0 x1 x2 x3 x4 x5 x6) x7 x8 x9) := by
  rw [← pay51_eq x0 x1 x2 x3 x4 x5 x6 x7 x8 x9 x10 x11 x12 x13 x14 x15 x16 x17 x18]
  exact pay30_eq (k0_pay44 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x7 r0_4) (View.ld x8 r0_5) (View.ld x9 r0_5)

/-- Their scales as the body carries them. -/
theorem scales51_eq : k0_pay29 (F := F) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) = scalesF (uB (h1B x0 x1 x2 x3 x4 x5 x6) x7 x8 x9) := by
  rw [← pay51_eq x0 x1 x2 x3 x4 x5 x6 x7 x8 x9 x10 x11 x12 x13 x14 x15 x16 x17 x18]
  exact pay29_eq (k0_pay44 x0 x1 x2 x3 x4 x5 x6 x7 x8 x9 x10 x11 x12 x13 x14 x15 x16 x17 x18) (k0_pay47 x0 x1 x2 x3 x4 x5 x6 x7 x8 x9 x10 x11 x12 x13 x14 x15 x16 x17 x18) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x7 r0_4) (View.ld x8 r0_5) (View.ld x9 r0_5)

/-- The second residual row before its normalisation, as the body carries it. -/
theorem pay58_eq : k0_pay58 x0 x1 x2 x3 x4 x5 x6 x7 x8 x9 x10 x11 x12 x13 x14 x15 x16 x17 x18 = r2B (h1B x0 x1 x2 x3 x4 x5 x6) (uB (h1B x0 x1 x2 x3 x4 x5 x6) x7 x8 x9) x10 x11 x12 := by
  unfold k0_pay58
  rw [pay31_eq, codes51_eq, scales51_eq, pay44_eq, ldW2, ldR, ldR]
  rfl

/-- The second residual row. -/
def h2B : FVec F S256x1024 .f32 :=
  normD (r2B (h1B x0 x1 x2 x3 x4 x5 x6) (uB (h1B x0 x1 x2 x3 x4 x5 x6) x7 x8 x9) x10 x11 x12) x13 x14

/-- The second residual row as the body carries it. -/
theorem h2_eq : k0_pay34 (k0_pay58 x0 x1 x2 x3 x4 x5 x6 x7 x8 x9 x10 x11 x12 x13 x14 x15 x16 x17 x18) x13 x14 (k0_pay59 x0 x1 x2 x3 x4 x5 x6 x7 x8 x9 x10 x11 x12 x13 x14 x15 x16 x17 x18) (k0_pay60 x0 x1 x2 x3 x4 x5 x6 x7 x8 x9 x10 x11 x12 x13 x14 x15 x16 x17 x18) = h2B x0 x1 x2 x3 x4 x5 x6 x7 x8 x9 x10 x11 x12 x13 x14 := by
  unfold h2B
  rw [← pay58_eq x0 x1 x2 x3 x4 x5 x6 x7 x8 x9 x10 x11 x12 x13 x14 x15 x16 x17 x18]
  exact pay34_eq (k0_pay44 x0 x1 x2 x3 x4 x5 x6 x7 x8 x9 x10 x11 x12 x13 x14 x15 x16 x17 x18) (k0_pay51 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) (View.ld x10 r0_7) (View.ld x11 r0_3) (View.ld x12 r0_3) x13 x14

/-- The scores. -/
theorem out0_19_eq : out0_19 x0 x1 x2 x3 x4 x5 x6 x7 x8 x9 x10 x11 x12 x13 x14 x15 x16 x17 x18 = scoreD (poolD (h2B x0 x1 x2 x3 x4 x5 x6 x7 x8 x9 x10 x11 x12 x13 x14) x15 x16) x17 x18 := by
  unfold out0_19
  rw [View.canon_unit_zero (S := S256x1) (off := ![0, 0]) (by funext a; fin_cases a <;> rfl)]
  rw [pay36_eq, pay35_eq, ldR x13, ldR x14, h2_eq, ldW x15, ldR x16, ldR x17, ldS x18]

/-- The pooled rows. -/
theorem out0_20_eq : out0_20 x0 x1 x2 x3 x4 x5 x6 x7 x8 x9 x10 x11 x12 x13 x14 x15 x16 x17 x18 = poolD (h2B x0 x1 x2 x3 x4 x5 x6 x7 x8 x9 x10 x11 x12 x13 x14) x15 x16 := by
  unfold out0_20
  rw [View.canon_unit_zero (S := S256x1024) (off := ![0, 0]) (by funext a; fin_cases a <;> rfl)]
  rw [pay35_eq, ldR x13, ldR x14, h2_eq, ldW x15, ldR x16]

/-- The second residual rows. -/
theorem out0_21_eq : out0_21 x0 x1 x2 x3 x4 x5 x6 x7 x8 x9 x10 x11 x12 x13 x14 x15 x16 x17 x18 = h2B x0 x1 x2 x3 x4 x5 x6 x7 x8 x9 x10 x11 x12 x13 x14 := by
  unfold out0_21
  rw [View.canon_unit_zero (S := S256x1024) (off := ![0, 0]) (by funext a; fin_cases a <;> rfl)]
  rw [ldR x13, ldR x14, h2_eq]

/-- The codes of the context. -/
theorem out0_22_eq : out0_22 x0 x1 x2 x3 x4 x5 x6 x7 x8 x9 x10 x11 x12 x13 x14 x15 x16 x17 x18 = codesD (ctxB x0) := by
  unfold out0_22
  rw [View.canon_unit_zero (S := S256x1024) (off := ![0, 0]) (by funext a; fin_cases a <;> rfl)]
  unfold k0_pay41 k0_pay40 k0_pay39 k0_pay38 k0_pay37
  rw [ldD x0, pay9_eq]

/-- Their scales. -/
theorem out0_23_eq : out0_23 x0 x1 x2 x3 x4 x5 x6 x7 x8 x9 x10 x11 x12 x13 x14 x15 x16 x17 x18 = scalesD (ctxB x0) := by
  unfold out0_23
  rw [View.canon_unit_zero (S := S256x1) (off := ![0, 0]) (by funext a; fin_cases a <;> rfl)]
  unfold k0_pay41 k0_pay40 k0_pay39 k0_pay38
  rw [ldD x0, pay8_eq]

/-- The codes of the first residual rows. -/
theorem out0_24_eq : out0_24 x0 x1 x2 x3 x4 x5 x6 x7 x8 x9 x10 x11 x12 x13 x14 x15 x16 x17 x18 = codesD (h1B x0 x1 x2 x3 x4 x5 x6) := by
  unfold out0_24
  rw [View.canon_unit_zero (S := S256x1024) (off := ![0, 0]) (by funext a; fin_cases a <;> rfl)]
  rw [codes44_eq]

/-- Their scales. -/
theorem out0_25_eq : out0_25 x0 x1 x2 x3 x4 x5 x6 x7 x8 x9 x10 x11 x12 x13 x14 x15 x16 x17 x18 = scalesD (h1B x0 x1 x2 x3 x4 x5 x6) := by
  unfold out0_25
  rw [View.canon_unit_zero (S := S256x1) (off := ![0, 0]) (by funext a; fin_cases a <;> rfl)]
  rw [scales44_eq]

/-- The codes of the hidden rows. -/
theorem out0_26_eq : out0_26 x0 x1 x2 x3 x4 x5 x6 x7 x8 x9 x10 x11 x12 x13 x14 x15 x16 x17 x18 = codesF (uB (h1B x0 x1 x2 x3 x4 x5 x6) x7 x8 x9) := by
  unfold out0_26
  rw [View.canon_unit_zero (S := S256x4096) (off := ![0, 0]) (by funext a; fin_cases a <;> rfl)]
  rw [codes51_eq]

/-- Their scales. -/
theorem out0_27_eq : out0_27 x0 x1 x2 x3 x4 x5 x6 x7 x8 x9 x10 x11 x12 x13 x14 x15 x16 x17 x18 = scalesF (uB (h1B x0 x1 x2 x3 x4 x5 x6) x7 x8 x9) := by
  unfold out0_27
  rw [View.canon_unit_zero (S := S256x1) (off := ![0, 0]) (by funext a; fin_cases a <;> rfl)]
  rw [scales51_eq]

end stores

end Cert.FfnTail

end
-- ==== Proof.FfnTail.Spec.lean ====
/- THE MATHEMATICS OF THE SECOND KERNEL, row by row: what both the kernel and the reference compute of one token, as
   functions of its rows of the context and of `x_c` and of the layers' weights. -/
module

public import proofs.«01_k».proof.Proof.KV.Read

@[expose] public section

noncomputable section

namespace Cert.FfnTail

open Idealize.ShloMosaic Idealize.ShloMosaic.Pointwise Cert.KV

/-! ## One layer -/

/-- Codes times a column of codes, rescaled by the row's scale and the column's, with the column's bias. -/
def lin {n m : ℕ} (q : Fin n → EReal) (p : EReal) (w : Fin n → Fin m → EReal) (s b : Fin m → EReal) (j : Fin m) : EReal :=
  (∑ k : Fin n, q k * w k j) * p * s j + b j

/-- A row's mean. -/
def mean (v : Fin 1024 → EReal) : EReal := Ideal.div (∑ k : Fin 1024, v k) (Ideal.ofBits .f32 0x44800000#32)

/-- The reciprocal of a row's deviation. -/
def rdev (v : Fin 1024 → EReal) : EReal :=
  Ideal.rsqrt (mean (fun k => (v k - mean v) * (v k - mean v)) + Ideal.ofBits .f32 0x2B8CBCCC#32)

/-- The normalisation of a row, with its gain and shift. -/
def norm (g n v : Fin 1024 → EReal) (k : Fin 1024) : EReal := (v k - mean v) * rdev v * g k + n k

/-- The activation: half of `z`, times one more than the error function of `z` over the square root of two. -/
def act (z : EReal) : EReal :=
  Ideal.ofBits .f32 0x3F000000#32 * z * (1 + FloatOps.erf (F := Ideal) (φ := .f32) (z * Ideal.ofBits .f32 0x3F3504F3#32 : EReal))

/-! ## The whole tail -/

/-- The layers' weights, scales, biases, gains and shifts. -/
structure Par where
  /-- the output projection's codes, scales and bias -/
  wo : Fin 1024 → Fin 1024 → EReal
  so : Fin 1024 → EReal
  bo : Fin 1024 → EReal
  /-- the first normalisation's gain and shift -/
  g1 : Fin 1024 → EReal
  n1 : Fin 1024 → EReal
  /-- the first hidden layer's codes, scales and bias -/
  w1 : Fin 1024 → Fin 4096 → EReal
  s1 : Fin 4096 → EReal
  b1 : Fin 4096 → EReal
  /-- the second hidden layer's codes, scales and bias -/
  w2 : Fin 4096 → Fin 1024 → EReal
  s2 : Fin 1024 → EReal
  b2 : Fin 1024 → EReal
  /-- the second normalisation's gain and shift -/
  g2 : Fin 1024 → EReal
  n2 : Fin 1024 → EReal
  /-- the pooler's weight and bias -/
  wp : Fin 1024 → Fin 1024 → EReal
  bp : Fin 1024 → EReal
  /-- the score's weight and bias -/
  ws : Fin 1024 → EReal
  bs : EReal

/-- The parameters the arrays hold. -/
def par (wo : (⟨2, ![1024, 1024]⟩ : Shape).Idx → EReal) (so bo g1 n1 : (⟨1, ![1024]⟩ : Shape).Idx → EReal)
    (w1 : (⟨2, ![1024, 4096]⟩ : Shape).Idx → EReal) (s1 b1 : (⟨1, ![4096]⟩ : Shape).Idx → EReal)
    (w2 : (⟨2, ![4096, 1024]⟩ : Shape).Idx → EReal) (s2 b2 g2 n2 : (⟨1, ![1024]⟩ : Shape).Idx → EReal)
    (wp : (⟨2, ![1024, 1024]⟩ : Shape).Idx → EReal) (bp ws : (⟨1, ![1024]⟩ : Shape).Idx → EReal)
    (bs : (⟨1, ![1]⟩ : Shape).Idx → EReal) : Par where
  wo k j := wo (ix2 k j)
  so j := so (ix1 j)
  bo j := bo (ix1 j)
  g1 j := g1 (ix1 j)
  n1 j := n1 (ix1 j)
  w1 k j := w1 (ix2 k j)
  s1 j := s1 (ix1 j)
  b1 j := b1 (ix1 j)
  w2 k j := w2 (ix2 k j)
  s2 j := s2 (ix1 j)
  b2 j := b2 (ix1 j)
  g2 j := g2 (ix1 j)
  n2 j := n2 (ix1 j)
  wp k j := wp (ix2 k j)
  bp j := bp (ix1 j)
  ws j := ws (ix1 j)
  bs := bs (ix1 0)

/-- The first residual row: `x_c`'s row plus the projected context, normalised. -/
def rowH1 (P : Par) (c x : Fin 1024 → EReal) : Fin 1024 → EReal :=
  norm P.g1 P.n1 fun j => x j + lin (rowCode c) (rowScale c) P.wo P.so P.bo j

/-- The hidden row. -/
def rowU (P : Par) (h : Fin 1024 → EReal) : Fin 4096 → EReal := fun j => act (lin (rowCode h) (rowScale h) P.w1 P.s1 P.b1 j)

/-- The second residual row: the first plus the hidden layer's output, normalised. -/
def rowH2 (P : Par) (h : Fin 1024 → EReal) : Fin 1024 → EReal :=
  norm P.g2 P.n2 fun j => h j + lin (rowCode (rowU P h)) (rowScale (rowU P h)) P.w2 P.s2 P.b2 j

/-- The pooled row. -/
def rowP (P : Par) (h : Fin 1024 → EReal) : Fin 1024 → EReal := fun j => Ideal.tanh ((∑ k : Fin 1024, h k * P.wp k j) + P.bp j)

/-- The score. -/
def rowS (P : Par) (p : Fin 1024 → EReal) : EReal := (∑ k : Fin 1024, p k * P.ws k) + P.bs

/-! ## The nine results -/

/-- The row of a token among the 256. -/
def rowOf (b : Fin 32) (p : Fin 8) : Fin 256 := ⟨b.val * 8 + p.val, by omega⟩

/-- A row's batch. -/
theorem batchOf_row (b : Fin 32) (p : Fin 8) (h : (rowOf b p).val / 8 < 32) : (⟨(rowOf b p).val / 8, h⟩ : Fin 32) = b :=
  Fin.ext (by show (b.val * 8 + p.val) / 8 = b.val; omega)

/-- A row's token. -/
theorem tokenOf_row (b : Fin 32) (p : Fin 8) (h : (rowOf b p).val % 8 < 8) : (⟨(rowOf b p).val % 8, h⟩ : Fin 8) = p :=
  Fin.ext (by show (b.val * 8 + p.val) % 8 = p.val; omega)

/-- A token's row of the context. -/
def rowC (C : (⟨3, ![32, 8, 1024]⟩ : Shape).Idx → EReal) (b : Fin 32) (p : Fin 8) : Fin 1024 → EReal := fun d => C (ix3 b p d)

/-- A token's row of `x_c`. -/
def rowXc (X : (⟨2, ![256, 1024]⟩ : Shape).Idx → EReal) (b : Fin 32) (p : Fin 8) : Fin 1024 → EReal := fun d => X (ix2 (rowOf b p) d)

section results

variable (P : Par) (C : (⟨3, ![32, 8, 1024]⟩ : Shape).Idx → EReal) (X : (⟨2, ![256, 1024]⟩ : Shape).Idx → EReal)

/-- A token's first residual row. -/
def tokH1 (b : Fin 32) (p : Fin 8) : Fin 1024 → EReal := rowH1 P (rowC C b p) (rowXc X b p)

/-- A token's second residual row. -/
def tokH2 (b : Fin 32) (p : Fin 8) : Fin 1024 → EReal := rowH2 P (tokH1 P C X b p)

/-- The scores. -/
def valScore : (⟨2, ![32, 8]⟩ : Shape).Idx → EReal := fun i => rowS P (rowP P (tokH2 P C X (i 0) (i 1)))

/-- The pooled rows. -/
def valPool : (⟨3, ![32, 8, 1024]⟩ : Shape).Idx → EReal := fun i => rowP P (tokH2 P C X (i 0) (i 1)) (i 2)

/-- The second residual rows. -/
def valH2 : (⟨3, ![32, 8, 1024]⟩ : Shape).Idx → EReal := fun i => tokH2 P C X (i 0) (i 1) (i 2)

/-- The context's codes. -/
def valCq : (⟨3, ![32, 8, 1024]⟩ : Shape).Idx → EReal := fun i => rowCode (rowC C (i 0) (i 1)) (i 2)

/-- Their scales. -/
def valCs : (⟨2, ![32, 8]⟩ : Shape).Idx → EReal := fun i => rowScale (rowC C (i 0) (i 1))

/-- The first residual rows' codes. -/
def valHq : (⟨3, ![32, 8, 1024]⟩ : Shape).Idx → EReal := fun i => rowCode (tokH1 P C X (i 0) (i 1)) (i 2)

/-- Their scales. -/
def valHs : (⟨2, ![32, 8]⟩ : Shape).Idx → EReal := fun i => rowScale (tokH1 P C X (i 0) (i 1))

/-- The hidden rows' codes. -/
def valUq : (⟨3, ![32, 8, 4096]⟩ : Shape).Idx → EReal := fun i => rowCode (rowU P (tokH1 P C X (i 0) (i 1))) (i 2)

/-- Their scales. -/
def valUs : (⟨2, ![32, 8]⟩ : Shape).Idx → EReal := fun i => rowScale (rowU P (tokH1 P C X (i 0) (i 1)))

end results

end Cert.FfnTail

end
-- ==== Proof.FfnTail.Read.lean ====
/- THE SECOND KERNEL'S WORDS READ AT A ROW, over the extended reals. -/
module

public import proofs.«01_k».proof.Proof.FfnTail.Stores
public import proofs.«01_k».proof.Proof.FfnTail.Spec

@[expose] public section

noncomputable section

namespace Cert.FfnTail

open Cert.TailIdeal Cert.TailIdeal.Gen Idealize.ShloMosaic Idealize.ShloMosaic.Pointwise Cert.KV

/-- Row `r` of an array of rows. -/
def atRow {n : ℕ} (v : (⟨2, ![256, n]⟩ : Shape).Idx → EReal) (r : Fin 256) : Fin n → EReal := fun k => v (ix2 r k)

/-! ## The quantiser -/

/-- The largest magnitude of a row of 1024. -/
theorem maxD_apply (v : FVec Ideal S256x1024 .f32) (r : Fin 256) : maxD v (ix2 r 0) = rowMax (atRow v r) := by
  pointwise [maxD]
  rfl

/-- The largest magnitude of a row of 4096. -/
theorem maxF_apply (v : FVec Ideal S256x4096 .f32) (r : Fin 256) : maxF v (ix2 r 0) = rowMax (atRow v r) := by
  pointwise [maxF]
  rfl

/-- The codes of a row of 1024. -/
theorem codesD_apply (v : FVec Ideal S256x1024 .f32) (r : Fin 256) (k : Fin 1024) : codesD v (ix2 r k) = rowCode (atRow v r) k := by
  unfold codesD
  rw [codesV_apply]
  pointwise []
  rw [invV_apply, maxD_apply]
  rfl

/-- The codes of a row of 4096. -/
theorem codesF_apply (v : FVec Ideal S256x4096 .f32) (r : Fin 256) (k : Fin 4096) : codesF v (ix2 r k) = rowCode (atRow v r) k := by
  unfold codesF
  rw [codesV_apply]
  pointwise []
  rw [invV_apply, maxF_apply]
  rfl

/-- The scale of a row of 1024. -/
theorem scalesD_apply (v : FVec Ideal S256x1024 .f32) (r : Fin 256) : scalesD v (ix2 r 0) = rowScale (atRow v r) := by
  unfold scalesD
  rw [scaleV_apply, maxD_apply]
  rfl

/-- The scale of a row of 4096. -/
theorem scalesF_apply (v : FVec Ideal S256x4096 .f32) (r : Fin 256) : scalesF v (ix2 r 0) = rowScale (atRow v r) := by
  unfold scalesF
  rw [scaleV_apply, maxF_apply]
  rfl

/-! ## The products -/

/-- The output projection at an entry. -/
theorem linO_apply (v : FVec Ideal S256x1024 .f32) (w : Vec Ideal S1024x1024 .fp8e4m3) (s b : Vec Ideal S1024 .f32) (r : Fin 256) (j : Fin 1024) :
    linO (codesD v) (scalesD v) w s b (ix2 r j)
      = lin (rowCode (atRow v r)) (rowScale (atRow v r)) (fun k j => w (ix2 k j)) (fun j => s (ix1 j)) (fun j => b (ix1 j)) j := by
  pointwise [linO, rowD]
  simp only [codesD_apply, scalesD_apply]
  rfl

/-- The first hidden layer at an entry. -/
theorem linU_apply (v : FVec Ideal S256x1024 .f32) (w : Vec Ideal S1024x4096 .fp8e4m3) (s b : Vec Ideal S4096 .f32) (r : Fin 256) (j : Fin 4096) :
    linU (codesD v) (scalesD v) w s b (ix2 r j)
      = lin (rowCode (atRow v r)) (rowScale (atRow v r)) (fun k j => w (ix2 k j)) (fun j => s (ix1 j)) (fun j => b (ix1 j)) j := by
  pointwise [linU, rowF]
  simp only [codesD_apply, scalesD_apply]
  rfl

/-- The second hidden layer at an entry. -/
theorem linF_apply (v : FVec Ideal S256x4096 .f32) (w : Vec Ideal S4096x1024 .fp8e4m3) (s b : Vec Ideal S1024 .f32) (r : Fin 256) (j : Fin 1024) :
    linF (codesF v) (scalesF v) w s b (ix2 r j)
      = lin (rowCode (atRow v r)) (rowScale (atRow v r)) (fun k j => w (ix2 k j)) (fun j => s (ix1 j)) (fun j => b (ix1 j)) j := by
  pointwise [linF, rowD]
  simp only [codesF_apply, scalesF_apply]
  rfl

/-! ## The normalisation and the activation -/

/-- A row's mean. -/
theorem meanD_apply (z : FVec Ideal S256x1024 .f32) (r : Fin 256) : meanD z (ix2 r 0) = mean (atRow z r) := by
  pointwise [meanD]
  rfl

/-- A row less its mean. -/
theorem centD_apply (z : FVec Ideal S256x1024 .f32) (r : Fin 256) (k : Fin 1024) :
    centD z (ix2 r k) = (atRow z r k - mean (atRow z r) : EReal) := by
  pointwise [centD]
  rw [meanD_apply]
  rfl

/-- The squares of a row less its mean. -/
theorem sqD_row (z : FVec Ideal S256x1024 .f32) (r : Fin 256) :
    atRow (mulf (centD z) (centD z) : FVec Ideal S256x1024 .f32) r
      = fun k => (atRow z r k - mean (atRow z r)) * (atRow z r k - mean (atRow z r)) := by
  funext k
  show (centD z (ix2 r k) : EReal) * centD z (ix2 r k) = _
  rw [centD_apply]

/-- The reciprocal of a row's deviation. -/
theorem rdevD_apply (z : FVec Ideal S256x1024 .f32) (r : Fin 256) : rdevD z (ix2 r 0) = rdev (atRow z r) := by
  pointwise [rdevD]
  rw [meanD_apply, sqD_row]
  rfl

/-- A row's normalisation. -/
theorem normD_row (z : FVec Ideal S256x1024 .f32) (g n : Vec Ideal S1024 .f32) (r : Fin 256) :
    atRow (normD z g n) r = norm (fun j => g (ix1 j)) (fun j => n (ix1 j)) (atRow z r) := by
  funext k
  show normD z g n (ix2 r k) = _
  pointwise [normD, rowD]
  rw [centD_apply, rdevD_apply]
  rfl

/-- The activation at an entry. -/
theorem geluF_apply (z : FVec Ideal S256x4096 .f32) (r : Fin 256) (j : Fin 4096) : geluF z (ix2 r j) = act (z (ix2 r j)) := by
  pointwise [geluF]
  rfl

/-! ## The body's rows -/

section body

variable (x0 x1 : Vec Ideal S256x1024 .f32) (x2 : Vec Ideal S1024x1024 .fp8e4m3) (x3 x4 x5 x6 : Vec Ideal S1024 .f32) (x7 : Vec Ideal S1024x4096 .fp8e4m3)
  (x8 x9 : Vec Ideal S4096 .f32) (x10 : Vec Ideal S4096x1024 .fp8e4m3) (x11 x12 x13 x14 : Vec Ideal S1024 .f32) (x15 : Vec Ideal S1024x1024 .f32)
  (x16 x17 : Vec Ideal S1024 .f32) (x18 : Vec Ideal S1 .f32) (r : Fin 256)

/-- The context's row. -/
theorem ctxB_row : atRow (ctxB x0) r = atRow x0 r := by
  funext k
  show ctxB x0 (ix2 r k) = x0 (ix2 r k)
  pointwise [ctxB]

/-- The first residual row. -/
theorem h1B_row : atRow (h1B x0 x1 x2 x3 x4 x5 x6) r
    = rowH1 (par x2 x3 x4 x5 x6 x7 x8 x9 x10 x11 x12 x13 x14 x15 x16 x17 x18) (atRow x0 r) (atRow x1 r) := by
  unfold h1B rowH1
  rw [normD_row]
  refine congrArg (norm (fun j => x5 (ix1 j)) (fun j => x6 (ix1 j))) (funext fun j => ?_)
  show (x1 (ix2 r j) : EReal) + linO (codesD (ctxB x0)) (scalesD (ctxB x0)) x2 x3 x4 (ix2 r j) = _
  rw [linO_apply, ctxB_row]
  rfl

/-- The hidden row. -/
theorem uB_row (h : FVec Ideal S256x1024 .f32) : atRow (uB h x7 x8 x9) r
    = rowU (par x2 x3 x4 x5 x6 x7 x8 x9 x10 x11 x12 x13 x14 x15 x16 x17 x18) (atRow h r) := by
  funext j
  show uB h x7 x8 x9 (ix2 r j) = _
  unfold uB
  rw [geluF_apply, linU_apply]
  rfl

/-- The second residual row. -/
theorem h2B_row : atRow (h2B x0 x1 x2 x3 x4 x5 x6 x7 x8 x9 x10 x11 x12 x13 x14) r
    = rowH2 (par x2 x3 x4 x5 x6 x7 x8 x9 x10 x11 x12 x13 x14 x15 x16 x17 x18)
      (rowH1 (par x2 x3 x4 x5 x6 x7 x8 x9 x10 x11 x12 x13 x14 x15 x16 x17 x18) (atRow x0 r) (atRow x1 r)) := by
  rw [← h1B_row x0 x1 x2 x3 x4 x5 x6 x7 x8 x9 x10 x11 x12 x13 x14 x15 x16 x17 x18 r]
  unfold h2B rowH2
  rw [normD_row, ← uB_row x2 x3 x4 x5 x6 x7 x8 x9 x10 x11 x12 x13 x14 x15 x16 x17 x18 r]
  refine congrArg (norm (fun j => x13 (ix1 j)) (fun j => x14 (ix1 j))) (funext fun j => ?_)
  generalize h1B x0 x1 x2 x3 x4 x5 x6 = h
  show (h (ix2 r j) : EReal) + linF (codesF (uB h x7 x8 x9)) (scalesF (uB h x7 x8 x9)) x10 x11 x12 (ix2 r j) = _
  rw [linF_apply]
  rfl

/-- The pooled row. -/
theorem poolD_row (h : FVec Ideal S256x1024 .f32) : atRow (poolD h x15 x16) r
    = rowP (par x2 x3 x4 x5 x6 x7 x8 x9 x10 x11 x12 x13 x14 x15 x16 x17 x18) (atRow h r) := by
  funext j
  show poolD h x15 x16 (ix2 r j) = _
  pointwise [poolD, rowD]
  rfl

/-- The score. -/
theorem scoreD_apply (p : FVec Ideal S256x1024 .f32) : scoreD p x17 x18 (ix2 r 0)
    = rowS (par x2 x3 x4 x5 x6 x7 x8 x9 x10 x11 x12 x13 x14 x15 x16 x17 x18) (atRow p r) := by
  pointwise [scoreD, rowD]
  rfl

end body

end Cert.FfnTail

end
-- ==== Proof.FfnTail.Run.lean ====
/- WHAT THE SECOND KERNEL FINDS, WRITES AND RETURNS: its one grid point loads every array whole and writes every result
   whole; the lines after the call give the results' 256 rows back to their 32 batches of 8 tokens. -/
module

public import proofs.«01_k».proof.Proof.FfnTail.Read

@[expose] public section

noncomputable section

namespace Cert.FfnTail

open Cert.TailIdeal Cert.TailIdeal.Gen Idealize.ShloMosaic Idealize.ShloMosaic.TcCoe Idealize.ShloMosaic.Pointwise Idealize.SL.Sem
open Idealize.ShloMosaic.Pipeline (Dat Window)
open Cert.KV (rowCode rowScale)

variable (m : (ℓ : Loc nD τ sig) → Buf (Elt Ideal) ℓ) (c : Dev nD)

/-- A token's row among the 256. -/
theorem rowsIn_apply (X : Vec Ideal S32x8x1024 .f32) (b : Fin 32) (p : Fin 8) (d : Fin 1024) :
    shapeCast S256x1024 X shapeCasts_S32x8x1024_S256x1024 (ix2 (rowOf b p) d) = X (ix3 b p d) := by
  pointwise []
  rw [batchOf_row, tokenOf_row]

/-! ## What the call finds -/

/-- The context as 256 rows. -/
theorem V_main_v0 (b : Fin 32) (p : Fin 8) (d : Fin 1024) : V m c main_v0 (ix2 (rowOf b p) d) = m ((c : Thread nD τ).loc main_arg0) (ix3 b p d) := by
  have e : V m c main_v0 = shapeCast S256x1024 (m ((c : Thread nD τ).loc main_arg0)) shapeCasts_S32x8x1024_S256x1024 := by
    show StableHlo.after (List.flatten [hostOps0]) (fun b => m (c, b)) _ = _
    simp only [hostOps0, List.flatten_cons, List.flatten_nil, List.append_nil, List.cons_append, List.nil_append]
    after_results
    rfl
  rw [e]
  exact rowsIn_apply _ b p d

/-- Operand 0, whole. -/
theorem iblk0_eq (t : Fin cfg0.N) : (iblk m c 0 t : Vec Ideal S256x1024 .f32) = V m c main_v0 := by
  funext y
  show V m c main_v0 ((win0_0.rect t).emb y) = V m c main_v0 y
  refine congrArg (V m c main_v0) (funext fun a => Fin.ext ?_)
  exact Window.rect_emb_val_of_index_zero win0_0 t a (by fin_cases a <;> rfl) y

/-- Operand 1, whole. -/
theorem iblk1_eq (t : Fin cfg0.N) : (iblk m c 1 t : Vec Ideal S256x1024 .f32) = m ((c : Thread nD τ).loc main_arg1) := by
  rw [← V_main_arg1 m c]
  funext y
  show V m c main_arg1 ((win0_1.rect t).emb y) = V m c main_arg1 y
  refine congrArg (V m c main_arg1) (funext fun a => Fin.ext ?_)
  exact Window.rect_emb_val_of_index_zero win0_1 t a (by fin_cases a <;> rfl) y

/-- Operand 2, whole. -/
theorem iblk2_eq (t : Fin cfg0.N) : (iblk m c 2 t : Vec Ideal S1024x1024 .fp8e4m3) = m ((c : Thread nD τ).loc main_arg2) := by
  rw [← V_main_arg2 m c]
  funext y
  show V m c main_arg2 ((win0_2.rect t).emb y) = V m c main_arg2 y
  refine congrArg (V m c main_arg2) (funext fun a => Fin.ext ?_)
  exact Window.rect_emb_val_of_index_zero win0_2 t a (by fin_cases a <;> rfl) y

/-- Operand 3, whole. -/
theorem iblk3_eq (t : Fin cfg0.N) : (iblk m c 3 t : Vec Ideal S1024 .f32) = m ((c : Thread nD τ).loc main_arg3) := by
  rw [← V_main_arg3 m c]
  funext y
  show V m c main_arg3 ((win0_3.rect t).emb y) = V m c main_arg3 y
  refine congrArg (V m c main_arg3) (funext fun a => Fin.ext ?_)
  exact Window.rect_emb_val_of_index_zero win0_3 t a (by fin_cases a; rfl) y

/-- Operand 4, whole. -/
theorem iblk4_eq (t : Fin cfg0.N) : (iblk m c 4 t : Vec Ideal S1024 .f32) = m ((c : Thread nD τ).loc main_arg4) := by
  rw [← V_main_arg4 m c]
  funext y
  show V m c main_arg4 ((win0_4.rect t).emb y) = V m c main_arg4 y
  refine congrArg (V m c main_arg4) (funext fun a => Fin.ext ?_)
  exact Window.rect_emb_val_of_index_zero win0_4 t a (by fin_cases a; rfl) y

/-- Operand 5, whole. -/
theorem iblk5_eq (t : Fin cfg0.N) : (iblk m c 5 t : Vec Ideal S1024 .f32) = m ((c : Thread nD τ).loc main_arg5) := by
  rw [← V_main_arg5 m c]
  funext y
  show V m c main_arg5 ((win0_5.rect t).emb y) = V m c main_arg5 y
  refine congrArg (V m c main_arg5) (funext fun a => Fin.ext ?_)
  exact Window.rect_emb_val_of_index_zero win0_5 t a (by fin_cases a; rfl) y

/-- Operand 6, whole. -/
theorem iblk6_eq (t : Fin cfg0.N) : (iblk m c 6 t : Vec Ideal S1024 .f32) = m ((c : Thread nD τ).loc main_arg6) := by
  rw [← V_main_arg6 m c]
  funext y
  show V m c main_arg6 ((win0_6.rect t).emb y) = V m c main_arg6 y
  refine congrArg (V m c main_arg6) (funext fun a => Fin.ext ?_)
  exact Window.rect_emb_val_of_index_zero win0_6 t a (by fin_cases a; rfl) y

/-- Operand 7, whole. -/
theorem iblk7_eq (t : Fin cfg0.N) : (iblk m c 7 t : Vec Ideal S1024x4096 .fp8e4m3) = m ((c : Thread nD τ).loc main_arg7) := by
  rw [← V_main_arg7 m c]
  funext y
  show V m c main_arg7 ((win0_7.rect t).emb y) = V m c main_arg7 y
  refine congrArg (V m c main_arg7) (funext fun a => Fin.ext ?_)
  exact Window.rect_emb_val_of_index_zero win0_7 t a (by fin_cases a <;> rfl) y

/-- Operand 8, whole. -/
theorem iblk8_eq (t : Fin cfg0.N) : (iblk m c 8 t : Vec Ideal S4096 .f32) = m ((c : Thread nD τ).loc main_arg8) := by
  rw [← V_main_arg8 m c]
  funext y
  show V m c main_arg8 ((win0_8.rect t).emb y) = V m c main_arg8 y
  refine congrArg (V m c main_arg8) (funext fun a => Fin.ext ?_)
  exact Window.rect_emb_val_of_index_zero win0_8 t a (by fin_cases a; rfl) y

/-- Operand 9, whole. -/
theorem iblk9_eq (t : Fin cfg0.N) : (iblk m c 9 t : Vec Ideal S4096 .f32) = m ((c : Thread nD τ).loc main_arg9) := by
  rw [← V_main_arg9 m c]
  funext y
  show V m c main_arg9 ((win0_9.rect t).emb y) = V m c main_arg9 y
  refine congrArg (V m c main_arg9) (funext fun a => Fin.ext ?_)
  exact Window.rect_emb_val_of_index_zero win0_9 t a (by fin_cases a; rfl) y

/-- Operand 10, whole. -/
theorem iblk10_eq (t : Fin cfg0.N) : (iblk m c 10 t : Vec Ideal S4096x1024 .fp8e4m3) = m ((c : Thread nD τ).loc main_arg10) := by
  rw [← V_main_arg10 m c]
  funext y
  show V m c main_arg10 ((win0_10.rect t).emb y) = V m c main_arg10 y
  refine congrArg (V m c main_arg10) (funext fun a => Fin.ext ?_)
  exact Window.rect_emb_val_of_index_zero win0_10 t a (by fin_cases a <;> rfl) y

/-- Operand 11, whole. -/
theorem iblk11_eq (t : Fin cfg0.N) : (iblk m c 11 t : Vec Ideal S1024 .f32) = m ((c : Thread nD τ).loc main_arg11) := by
  rw [← V_main_arg11 m c]
  funext y
  show V m c main_arg11 ((win0_11.rect t).emb y) = V m c main_arg11 y
  refine congrArg (V m c main_arg11) (funext fun a => Fin.ext ?_)
  exact Window.rect_emb_val_of_index_zero win0_11 t a (by fin_cases a; rfl) y

/-- Operand 12, whole. -/
theorem iblk12_eq (t : Fin cfg0.N) : (iblk m c 12 t : Vec Ideal S1024 .f32) = m ((c : Thread nD τ).loc main_arg12) := by
  rw [← V_main_arg12 m c]
  funext y
  show V m c main_arg12 ((win0_12.rect t).emb y) = V m c main_arg12 y
  refine congrArg (V m c main_arg12) (funext fun a => Fin.ext ?_)
  exact Window.rect_emb_val_of_index_zero win0_12 t a (by fin_cases a; rfl) y

/-- Operand 13, whole. -/
theorem iblk13_eq (t : Fin cfg0.N) : (iblk m c 13 t : Vec Ideal S1024 .f32) = m ((c : Thread nD τ).loc main_arg13) := by
  rw [← V_main_arg13 m c]
  funext y
  show V m c main_arg13 ((win0_13.rect t).emb y) = V m c main_arg13 y
  refine congrArg (V m c main_arg13) (funext fun a => Fin.ext ?_)
  exact Window.rect_emb_val_of_index_zero win0_13 t a (by fin_cases a; rfl) y

/-- Operand 14, whole. -/
theorem iblk14_eq (t : Fin cfg0.N) : (iblk m c 14 t : Vec Ideal S1024 .f32) = m ((c : Thread nD τ).loc main_arg14) := by
  rw [← V_main_arg14 m c]
  funext y
  show V m c main_arg14 ((win0_14.rect t).emb y) = V m c main_arg14 y
  refine congrArg (V m c main_arg14) (funext fun a => Fin.ext ?_)
  exact Window.rect_emb_val_of_index_zero win0_14 t a (by fin_cases a; rfl) y

/-- Operand 15, whole. -/
theorem iblk15_eq (t : Fin cfg0.N) : (iblk m c 15 t : Vec Ideal S1024x1024 .f32) = m ((c : Thread nD τ).loc main_arg15) := by
  rw [← V_main_arg15 m c]
  funext y
  show V m c main_arg15 ((win0_15.rect t).emb y) = V m c main_arg15 y
  refine congrArg (V m c main_arg15) (funext fun a => Fin.ext ?_)
  exact Window.rect_emb_val_of_index_zero win0_15 t a (by fin_cases a <;> rfl) y

/-- Operand 16, whole. -/
theorem iblk16_eq (t : Fin cfg0.N) : (iblk m c 16 t : Vec Ideal S1024 .f32) = m ((c : Thread nD τ).loc main_arg16) := by
  rw [← V_main_arg16 m c]
  funext y
  show V m c main_arg16 ((win0_16.rect t).emb y) = V m c main_arg16 y
  refine congrArg (V m c main_arg16) (funext fun a => Fin.ext ?_)
  exact Window.rect_emb_val_of_index_zero win0_16 t a (by fin_cases a; rfl) y

/-- Operand 17, whole. -/
theorem iblk17_eq (t : Fin cfg0.N) : (iblk m c 17 t : Vec Ideal S1024 .f32) = m ((c : Thread nD τ).loc main_arg17) := by
  rw [← V_main_arg17 m c]
  funext y
  show V m c main_arg17 ((win0_17.rect t).emb y) = V m c main_arg17 y
  refine congrArg (V m c main_arg17) (funext fun a => Fin.ext ?_)
  exact Window.rect_emb_val_of_index_zero win0_17 t a (by fin_cases a; rfl) y

/-- Operand 18, whole. -/
theorem iblk18_eq (t : Fin cfg0.N) : (iblk m c 18 t : Vec Ideal S1 .f32) = m ((c : Thread nD τ).loc main_arg18) := by
  rw [← V_main_arg18 m c]
  funext y
  show V m c main_arg18 ((win0_18.rect t).emb y) = V m c main_arg18 y
  refine congrArg (V m c main_arg18) (funext fun a => Fin.ext ?_)
  exact Window.rect_emb_val_of_index_zero win0_18 t a (by fin_cases a; rfl) y

/-! ## The body's words of what it finds -/

/-- The weights. -/
def kPar : Par := par (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The first residual rows. -/
def kH1 : FVec Ideal S256x1024 .f32 := h1B (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The hidden rows. -/
def kU : FVec Ideal S256x4096 .f32 := uB (kH1 m c) (m ((c : Thread nD τ).loc main_arg7)) (m ((c : Thread nD τ).loc main_arg8)) (m ((c : Thread nD τ).loc main_arg9))

/-- The second residual rows. -/
def kH2 : FVec Ideal S256x1024 .f32 := h2B (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The pooled rows. -/
def kP : FVec Ideal S256x1024 .f32 := poolD (kH2 m c) (m ((c : Thread nD τ).loc main_arg15)) (m ((c : Thread nD τ).loc main_arg16))

/-- A token's row of the context. -/
theorem kC_row (b : Fin 32) (p : Fin 8) : atRow (V m c main_v0) (rowOf b p) = rowC (m ((c : Thread nD τ).loc main_arg0)) b p :=
  funext fun d => V_main_v0 m c b p d

/-- A token's first residual row. -/
theorem kH1_row (b : Fin 32) (p : Fin 8) : atRow (kH1 m c) (rowOf b p) = tokH1 (kPar m c) (m ((c : Thread nD τ).loc main_arg0)) (m ((c : Thread nD τ).loc main_arg1)) b p := by
  unfold kH1 tokH1
  rw [← kC_row m c b p]
  exact h1B_row (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf b p)

/-- A token's hidden row. -/
theorem kU_row (b : Fin 32) (p : Fin 8) : atRow (kU m c) (rowOf b p) = rowU (kPar m c) (tokH1 (kPar m c) (m ((c : Thread nD τ).loc main_arg0)) (m ((c : Thread nD τ).loc main_arg1)) b p) := by
  rw [← kH1_row m c b p]
  exact uB_row (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf b p) (kH1 m c)

/-- A token's second residual row. -/
theorem kH2_row (b : Fin 32) (p : Fin 8) : atRow (kH2 m c) (rowOf b p) = tokH2 (kPar m c) (m ((c : Thread nD τ).loc main_arg0)) (m ((c : Thread nD τ).loc main_arg1)) b p := by
  unfold kH2 tokH2 tokH1
  rw [← kC_row m c b p]
  exact h2B_row (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf b p)

/-- A token's pooled row. -/
theorem kP_row (b : Fin 32) (p : Fin 8) : atRow (kP m c) (rowOf b p) = rowP (kPar m c) (tokH2 (kPar m c) (m ((c : Thread nD τ).loc main_arg0)) (m ((c : Thread nD τ).loc main_arg1)) b p) := by
  rw [← kH2_row m c b p]
  exact poolD_row (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf b p) (kH2 m c)

/-! ## The arrays after the call -/

/-- The one grid point. -/
def t0 : Fin cfg0.N := ⟨0, by decide⟩

/-- There is no other, so no two points' blocks share an index. -/
theorem disjoint_blk (w : Fin cfg0.W) : ∀ t t' : Fin cfg0.N, (cfg0.win w).flush t = true → (cfg0.win w).flush t' = true → t ≠ t' →
    Disjoint ((cfg0.win w).blk t).view.set ((cfg0.win w).blk t').view.set := fun t t' _ _ hne =>
  absurd (Fin.ext (by
    have h : t.val < 1 := t.isLt
    have h' : t'.val < 1 := t'.isLt
    omega)) hne

/-- What the grid point writes back of the scores. -/
theorem flushed19 (t : Fin cfg0.N) : (dats m 0 c).flushed 19 t = scoreD (kP m c) (m ((c : Thread nD τ).loc main_arg17)) (m ((c : Thread nD τ).loc main_arg18)) := by
  have e : (dats m 0 c).flushed 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_19]
  rw [e, out0_19_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq]
  rfl

/-- The scores array. -/
theorem arr19 (i : S256x1.Idx) : (dats m 0 c).arrAt 19 cfg0.N i = scoreD (kP m c) (m ((c : Thread nD τ).loc main_arg17)) (m ((c : Thread nD τ).loc main_arg18)) i := by
  have e : i = ((cfg0.win 19).blk t0).view.emb i := by
    show _ = (win0_19.rect t0).emb i
    funext a
    exact Fin.ext (Window.rect_emb_val_of_index_zero win0_19 t0 a (by fin_cases a <;> rfl) _).symm
  rw [e, (dats m 0 c).arrAt_emb_eq_flushed 19 (disjoint_blk 19) t0 (flush0_19 _), ← e]
  exact congrFun (flushed19 m c t0) i

/-- What the grid point writes back of the pooled rows. -/
theorem flushed20 (t : Fin cfg0.N) : (dats m 0 c).flushed 20 t = kP m c := by
  have e : (dats m 0 c).flushed 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_20]
  rw [e, out0_20_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  rfl

/-- The pooled rows array. -/
theorem arr20 (i : S256x1024.Idx) : (dats m 0 c).arrAt 20 cfg0.N i = kP m c i := by
  have e : i = ((cfg0.win 20).blk t0).view.emb i := by
    show _ = (win0_20.rect t0).emb i
    funext a
    exact Fin.ext (Window.rect_emb_val_of_index_zero win0_20 t0 a (by fin_cases a <;> rfl) _).symm
  rw [e, (dats m 0 c).arrAt_emb_eq_flushed 20 (disjoint_blk 20) t0 (flush0_20 _), ← e]
  exact congrFun (flushed20 m c t0) i

/-- What the grid point writes back of the second residual rows. -/
theorem flushed21 (t : Fin cfg0.N) : (dats m 0 c).flushed 21 t = kH2 m c := by
  have e : (dats m 0 c).flushed 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_21]
  rw [e, out0_21_eq, iblk0_eq, iblk1_eq, iblk2_eq, iblk3_eq, iblk4_eq, iblk5_eq, iblk6_eq, iblk7_eq, iblk8_eq, iblk9_eq, iblk10_eq, iblk11_eq, iblk12_eq, iblk13_eq, iblk14_eq]
  rfl

/-- The second residual rows array. -/
theorem arr21 (i : S256x1024.Idx) : (dats m 0 c).arrAt 21 cfg0.N i = kH2 m c i := by
  have e : i = ((cfg0.win 21).blk t0).view.emb i := by
    show _ = (win0_21.rect t0).emb i
    funext a
    exact Fin.ext (Window.rect_emb_val_of_index_zero win0_21 t0 a (by fin_cases a <;> rfl) _).symm
  rw [e, (dats m 0 c).arrAt_emb_eq_flushed 21 (disjoint_blk 21) t0 (flush0_21 _), ← e]
  exact congrFun (flushed21 m c t0) i

/-- What the grid point writes back of the context's codes. -/
theorem flushed22 (t : Fin cfg0.N) : (dats m 0 c).flushed 22 t = codesD (ctxB (V m c main_v0)) := by
  have e : (dats m 0 c).flushed 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_22]
  rw [e, out0_22_eq, iblk0_eq]

/-- The context's codes array. -/
theorem arr22 (i : S256x1024.Idx) : (dats m 0 c).arrAt 22 cfg0.N i = codesD (ctxB (V m c main_v0)) i := by
  have e : i = ((cfg0.win 22).blk t0).view.emb i := by
    show _ = (win0_22.rect t0).emb i
    funext a
    exact Fin.ext (Window.rect_emb_val_of_index_zero win0_22 t0 a (by fin_cases a <;> rfl) _).symm
  rw [e, (dats m 0 c).arrAt_emb_eq_flushed 22 (disjoint_blk 22) t0 (flush0_22 _), ← e]
  exact congrFun (flushed22 m c t0) i

/-- What the grid point writes back of the context's scales. -/
theorem flushed23 (t : Fin cfg0.N) : (dats m 0 c).flushed 23 t = scalesD (ctxB (V m c main_v0)) := by
  have e : (dats m 0 c).flushed 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_23]
  rw [e, out0_23_eq, iblk0_eq]

/-- The context's scales array. -/
theorem arr23 (i : S256x1.Idx) : (dats m 0 c).arrAt 23 cfg0.N i = scalesD (ctxB (V m c main_v0)) i := by
  have e : i = ((cfg0.win 23).blk t0).view.emb i := by
    show _ = (win0_23.rect t0).emb i
    funext a
    exact Fin.ext (Window.rect_emb_val_of_index_zero win0_23 t0 a (by fin_cases a <;> rfl) _).symm
  rw [e, (dats m 0 c).arrAt_emb_eq_flushed 23 (disjoint_blk 23) t0 (flush0_23 _), ← e]
  exact congrFun (flushed23 m c t0) i

/-- What the grid point writes back of the first residual rows' codes. -/
theorem flushed24 (t : Fin cfg0.N) : (dats m 0 c).flushed 24 t = codesD (kH1 m c) := by
  have e : (dats m 0 c).flushed 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_24]
  rw [e, out0_24_eq, iblk0_eq, iblk1_eq, iblk2_eq, iblk3_eq, iblk4_eq, iblk5_eq, iblk6_eq]
  rfl

/-- The first residual rows' codes array. -/
theorem arr24 (i : S256x1024.Idx) : (dats m 0 c).arrAt 24 cfg0.N i = codesD (kH1 m c) i := by
  have e : i = ((cfg0.win 24).blk t0).view.emb i := by
    show _ = (win0_24.rect t0).emb i
    funext a
    exact Fin.ext (Window.rect_emb_val_of_index_zero win0_24 t0 a (by fin_cases a <;> rfl) _).symm
  rw [e, (dats m 0 c).arrAt_emb_eq_flushed 24 (disjoint_blk 24) t0 (flush0_24 _), ← e]
  exact congrFun (flushed24 m c t0) i

/-- What the grid point writes back of the first residual rows' scales. -/
theorem flushed25 (t : Fin cfg0.N) : (dats m 0 c).flushed 25 t = scalesD (kH1 m c) := by
  have e : (dats m 0 c).flushed 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_25]
  rw [e, out0_25_eq, iblk0_eq, iblk1_eq, iblk2_eq, iblk3_eq, iblk4_eq, iblk5_eq, iblk6_eq]
  rfl

/-- The first residual rows' scales array. -/
theorem arr25 (i : S256x1.Idx) : (dats m 0 c).arrAt 25 cfg0.N i = scalesD (kH1 m c) i := by
  have e : i = ((cfg0.win 25).blk t0).view.emb i := by
    show _ = (win0_25.rect t0).emb i
    funext a
    exact Fin.ext (Window.rect_emb_val_of_index_zero win0_25 t0 a (by fin_cases a <;> rfl) _).symm
  rw [e, (dats m 0 c).arrAt_emb_eq_flushed 25 (disjoint_blk 25) t0 (flush0_25 _), ← e]
  exact congrFun (flushed25 m c t0) i

/-- What the grid point writes back of the hidden rows' codes. -/
theorem flushed26 (t : Fin cfg0.N) : (dats m 0 c).flushed 26 t = codesF (kU m c) := by
  have e : (dats m 0 c).flushed 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_26]
  rw [e, out0_26_eq, iblk0_eq, iblk1_eq, iblk2_eq, iblk3_eq, iblk4_eq, iblk5_eq, iblk6_eq, iblk7_eq, iblk8_eq, iblk9_eq]
  rfl

/-- The hidden rows' codes array. -/
theorem arr26 (i : S256x4096.Idx) : (dats m 0 c).arrAt 26 cfg0.N i = codesF (kU m c) i := by
  have e : i = ((cfg0.win 26).blk t0).view.emb i := by
    show _ = (win0_26.rect t0).emb i
    funext a
    exact Fin.ext (Window.rect_emb_val_of_index_zero win0_26 t0 a (by fin_cases a <;> rfl) _).symm
  rw [e, (dats m 0 c).arrAt_emb_eq_flushed 26 (disjoint_blk 26) t0 (flush0_26 _), ← e]
  exact congrFun (flushed26 m c t0) i

/-- What the grid point writes back of the hidden rows' scales. -/
theorem flushed27 (t : Fin cfg0.N) : (dats m 0 c).flushed 27 t = scalesF (kU m c) := by
  have e : (dats m 0 c).flushed 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_27]
  rw [e, out0_27_eq, iblk0_eq, iblk1_eq, iblk2_eq, iblk3_eq, iblk4_eq, iblk5_eq, iblk6_eq, iblk7_eq, iblk8_eq, iblk9_eq]
  rfl

/-- The hidden rows' scales array. -/
theorem arr27 (i : S256x1.Idx) : (dats m 0 c).arrAt 27 cfg0.N i = scalesF (kU m c) i := by
  have e : i = ((cfg0.win 27).blk t0).view.emb i := by
    show _ = (win0_27.rect t0).emb i
    funext a
    exact Fin.ext (Window.rect_emb_val_of_index_zero win0_27 t0 a (by fin_cases a <;> rfl) _).symm
  rw [e, (dats m 0 c).arrAt_emb_eq_flushed 27 (disjoint_blk 27) t0 (flush0_27 _), ← e]
  exact congrFun (flushed27 m c t0) i

/-! ## The lines after the call -/

/-- Rows of 1024 given back to their tokens. -/
theorem rowsD_eq {e : EltTy} (A : Vec Ideal S256x1024 e) (f : Vec Ideal S32x8x1024 e) (h : ∀ b p d, A (ix2 (rowOf b p) d) = f (ix3 b p d)) :
    shapeCast S32x8x1024 A shapeCasts_S256x1024_S32x8x1024 = f := by
  funext i
  obtain ⟨b, p, d, rfl⟩ : ∃ (b : Fin 32) (p : Fin 8) (d : Fin 1024), i = ix3 b p d := ⟨i 0, i 1, i 2, by funext a; fin_cases a <;> rfl⟩
  pointwise []
  exact h b p d

/-- Rows of 4096 given back to their tokens. -/
theorem rowsF_eq {e : EltTy} (A : Vec Ideal S256x4096 e) (f : Vec Ideal S32x8x4096 e) (h : ∀ b p d, A (ix2 (rowOf b p) d) = f (ix3 b p d)) :
    shapeCast S32x8x4096 A shapeCasts_S256x4096_S32x8x4096 = f := by
  funext i
  obtain ⟨b, p, d, rfl⟩ : ∃ (b : Fin 32) (p : Fin 8) (d : Fin 4096), i = ix3 b p d := ⟨i 0, i 1, i 2, by funext a; fin_cases a <;> rfl⟩
  pointwise []
  exact h b p d

/-- Single numbers given back to their tokens. -/
theorem rowsS_eq {e : EltTy} (A : Vec Ideal S256x1 e) (f : Vec Ideal S32x8 e) (h : ∀ b p, A (ix2 (rowOf b p) 0) = f (ix2 b p)) :
    shapeCast S32x8 A shapeCasts_S256x1_S32x8 = f := by
  funext i
  obtain ⟨b, p, rfl⟩ : ∃ (b : Fin 32) (p : Fin 8), i = ix2 b p := ⟨i 0, i 1, by funext a; fin_cases a <;> rfl⟩
  pointwise []
  exact h b p

/-- What the lines after the call read of an array the call writes. -/
theorem exit_arr (w : Fin cfg0.W) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr spec0 (by decide) c _ _ w

/-- What the lines leave at `v2`. -/
theorem tail_v2 (U : Valuation τ sig (Elt Ideal)) : StableHlo.after (List.flatten [hostOps1]) U (Proc.devRef .tc main_v2)
    = shapeCast S32x8 (U (Proc.devRef .tc main_v1_0)) shapeCasts_S256x1_S32x8 := by
  simp only [hostOps1, List.flatten_cons, List.flatten_nil, List.append_nil, List.cons_append, List.nil_append]
  after_results
  try rfl

/-- The scores. -/
theorem ret_v2 : Pipeline.afterTail₀ cfgs (dats m) 0 (V0 m) [hostOps1] c main_v2 = valScore (kPar m c) (m ((c : Thread nD τ).loc main_arg0)) (m ((c : Thread nD τ).loc main_arg1)) :=
  (tail_v2 _).trans (rowsS_eq _ _ fun b p => (congrFun (exit_arr m c 19) _).trans ((arr19 m c _).trans ((scoreD_apply (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf b p) (kP m c)).trans (congrArg (rowS (kPar m c)) (kP_row m c b p)))))

/-- What the lines leave at `v3`. -/
theorem tail_v3 (U : Valuation τ sig (Elt Ideal)) : StableHlo.after (List.flatten [hostOps1]) U (Proc.devRef .tc main_v3)
    = shapeCast S32x8x1024 (U (Proc.devRef .tc main_v1_1)) shapeCasts_S256x1024_S32x8x1024 := by
  simp only [hostOps1, List.flatten_cons, List.flatten_nil, List.append_nil, List.cons_append, List.nil_append]
  after_results
  try rfl

/-- The pooled rows. -/
theorem ret_v3 : Pipeline.afterTail₀ cfgs (dats m) 0 (V0 m) [hostOps1] c main_v3 = valPool (kPar m c) (m ((c : Thread nD τ).loc main_arg0)) (m ((c : Thread nD τ).loc main_arg1)) :=
  (tail_v3 _).trans (rowsD_eq _ _ fun b p d => (congrFun (exit_arr m c 20) _).trans ((arr20 m c _).trans (congrFun (kP_row m c b p) d)))

/-- What the lines leave at `v4`. -/
theorem tail_v4 (U : Valuation τ sig (Elt Ideal)) : StableHlo.after (List.flatten [hostOps1]) U (Proc.devRef .tc main_v4)
    = shapeCast S32x8x1024 (U (Proc.devRef .tc main_v1_2)) shapeCasts_S256x1024_S32x8x1024 := by
  simp only [hostOps1, List.flatten_cons, List.flatten_nil, List.append_nil, List.cons_append, List.nil_append]
  after_results
  try rfl

/-- The second residual rows. -/
theorem ret_v4 : Pipeline.afterTail₀ cfgs (dats m) 0 (V0 m) [hostOps1] c main_v4 = valH2 (kPar m c) (m ((c : Thread nD τ).loc main_arg0)) (m ((c : Thread nD τ).loc main_arg1)) :=
  (tail_v4 _).trans (rowsD_eq _ _ fun b p d => (congrFun (exit_arr m c 21) _).trans ((arr21 m c _).trans (congrFun (kH2_row m c b p) d)))

/-- What the lines leave at `v5`. -/
theorem tail_v5 (U : Valuation τ sig (Elt Ideal)) : StableHlo.after (List.flatten [hostOps1]) U (Proc.devRef .tc main_v5)
    = shapeCast S32x8x1024 (U (Proc.devRef .tc main_v1_3)) shapeCasts_S256x1024_S32x8x1024 := by
  simp only [hostOps1, List.flatten_cons, List.flatten_nil, List.append_nil, List.cons_append, List.nil_append]
  after_results
  try rfl

/-- The context's codes. -/
theorem ret_v5 : Pipeline.afterTail₀ cfgs (dats m) 0 (V0 m) [hostOps1] c main_v5 = valCq (m ((c : Thread nD τ).loc main_arg0)) :=
  (tail_v5 _).trans (rowsD_eq _ _ fun b p d => (congrFun (exit_arr m c 22) _).trans ((arr22 m c _).trans ((codesD_apply (ctxB (V m c main_v0)) (rowOf b p) d).trans (congrArg (fun f => rowCode f d) ((ctxB_row (V m c main_v0) (rowOf b p)).trans (kC_row m c b p))))))

/-- What the lines leave at `v6`. -/
theorem tail_v6 (U : Valuation τ sig (Elt Ideal)) : StableHlo.after (List.flatten [hostOps1]) U (Proc.devRef .tc main_v6)
    = shapeCast S32x8 (U (Proc.devRef .tc main_v1_4)) shapeCasts_S256x1_S32x8 := by
  simp only [hostOps1, List.flatten_cons, List.flatten_nil, List.append_nil, List.cons_append, List.nil_append]
  after_results
  try rfl

/-- The context's scales. -/
theorem ret_v6 : Pipeline.afterTail₀ cfgs (dats m) 0 (V0 m) [hostOps1] c main_v6 = valCs (m ((c : Thread nD τ).loc main_arg0)) :=
  (tail_v6 _).trans (rowsS_eq _ _ fun b p => (congrFun (exit_arr m c 23) _).trans ((arr23 m c _).trans ((scalesD_apply (ctxB (V m c main_v0)) (rowOf b p)).trans (congrArg rowScale ((ctxB_row (V m c main_v0) (rowOf b p)).trans (kC_row m c b p))))))

/-- What the lines leave at `v7`. -/
theorem tail_v7 (U : Valuation τ sig (Elt Ideal)) : StableHlo.after (List.flatten [hostOps1]) U (Proc.devRef .tc main_v7)
    = shapeCast S32x8x1024 (U (Proc.devRef .tc main_v1_5)) shapeCasts_S256x1024_S32x8x1024 := by
  simp only [hostOps1, List.flatten_cons, List.flatten_nil, List.append_nil, List.cons_append, List.nil_append]
  after_results
  try rfl

/-- The first residual rows' codes. -/
theorem ret_v7 : Pipeline.afterTail₀ cfgs (dats m) 0 (V0 m) [hostOps1] c main_v7 = valHq (kPar m c) (m ((c : Thread nD τ).loc main_arg0)) (m ((c : Thread nD τ).loc main_arg1)) :=
  (tail_v7 _).trans (rowsD_eq _ _ fun b p d => (congrFun (exit_arr m c 24) _).trans ((arr24 m c _).trans ((codesD_apply (kH1 m c) (rowOf b p) d).trans (congrArg (fun f => rowCode f d) (kH1_row m c b p)))))

/-- What the lines leave at `v8`. -/
theorem tail_v8 (U : Valuation τ sig (Elt Ideal)) : StableHlo.after (List.flatten [hostOps1]) U (Proc.devRef .tc main_v8)
    = shapeCast S32x8 (U (Proc.devRef .tc main_v1_6)) shapeCasts_S256x1_S32x8 := by
  simp only [hostOps1, List.flatten_cons, List.flatten_nil, List.append_nil, List.cons_append, List.nil_append]
  after_results
  try rfl

/-- The first residual rows' scales. -/
theorem ret_v8 : Pipeline.afterTail₀ cfgs (dats m) 0 (V0 m) [hostOps1] c main_v8 = valHs (kPar m c) (m ((c : Thread nD τ).loc main_arg0)) (m ((c : Thread nD τ).loc main_arg1)) :=
  (tail_v8 _).trans (rowsS_eq _ _ fun b p => (congrFun (exit_arr m c 25) _).trans ((arr25 m c _).trans ((scalesD_apply (kH1 m c) (rowOf b p)).trans (congrArg rowScale (kH1_row m c b p)))))

/-- What the lines leave at `v9`. -/
theorem tail_v9 (U : Valuation τ sig (Elt Ideal)) : StableHlo.after (List.flatten [hostOps1]) U (Proc.devRef .tc main_v9)
    = shapeCast S32x8x4096 (U (Proc.devRef .tc main_v1_7)) shapeCasts_S256x4096_S32x8x4096 := by
  simp only [hostOps1, List.flatten_cons, List.flatten_nil, List.append_nil, List.cons_append, List.nil_append]
  after_results
  try rfl

/-- The hidden rows' codes. -/
theorem ret_v9 : Pipeline.afterTail₀ cfgs (dats m) 0 (V0 m) [hostOps1] c main_v9 = valUq (kPar m c) (m ((c : Thread nD τ).loc main_arg0)) (m ((c : Thread nD τ).loc main_arg1)) :=
  (tail_v9 _).trans (rowsF_eq _ _ fun b p d => (congrFun (exit_arr m c 26) _).trans ((arr26 m c _).trans ((codesF_apply (kU m c) (rowOf b p) d).trans (congrArg (fun f => rowCode f d) (kU_row m c b p)))))

/-- What the lines leave at `v10`. -/
theorem tail_v10 (U : Valuation τ sig (Elt Ideal)) : StableHlo.after (List.flatten [hostOps1]) U (Proc.devRef .tc main_v10)
    = shapeCast S32x8 (U (Proc.devRef .tc main_v1_8)) shapeCasts_S256x1_S32x8 := by
  simp only [hostOps1, List.flatten_cons, List.flatten_nil, List.append_nil, List.cons_append, List.nil_append]
  after_results
  try rfl

/-- The hidden rows' scales. -/
theorem ret_v10 : Pipeline.afterTail₀ cfgs (dats m) 0 (V0 m) [hostOps1] c main_v10 = valUs (kPar m c) (m ((c : Thread nD τ).loc main_arg0)) (m ((c : Thread nD τ).loc main_arg1)) :=
  (tail_v10 _).trans (rowsS_eq _ _ fun b p => (congrFun (exit_arr m c 27) _).trans ((arr27 m c _).trans ((scalesF_apply (kU m c) (rowOf b p)).trans (congrArg rowScale (kU_row m c b p)))))

end Cert.FfnTail

end
-- ==== Proof.FfnTail.RefVocab.lean ====
/- THE SECOND REFERENCE'S VALUES IN ITS OWN WORDS: the same layers over 32 batches of 8 tokens. -/
module

public import proofs.«01_k».proof.Proof.KV.RefRead
public import proofs.«01_k».proof.Proof.Gen.TailReferenceIdeal.Value

@[expose] public section

set_option maxRecDepth 16384

noncomputable section

namespace Cert.FfnTail.Ref

open Cert.TailReferenceIdeal Cert.TailReferenceIdeal.Gen Idealize.ShloMosaic
open Cert.KV.Ref (pick)

variable {F : FTy → Type} [FloatOps F]

/-! ## The quantiser of rows -/

/-- The candidate exponents. -/
def candV : FVec F S32x8x252 .f32 :=
  sitofp .f32 (subi (iota .tc S32x8x252 32 [2] iota_S32x8x252_d2_w32) (broadcast S32x8x252 125#32))

/-- The least candidate whose power of two exceeds `t`. -/
def leastV (t : FVec F S32x8 .f32) (q : FVec F S32x8x252 .f32) : FVec F S32x8 .f32 :=
  multiReduction .minimumf [2] S32x8
    (select (cmpf .olt (broadcastTo S32x8x252 (shapeCast S32x8x1 t shapeCasts_S32x8_S32x8x1) broadcasts_S32x8x1_S32x8x252) (exp2 q)) q
      (broadcast S32x8x252 (Scalar.ofBits .f32 0x7F800000#32)))
    0x7F800000#32 reduces_S32x8x252_S32x8 (.inl rfl) rfl

/-- A magnitude times 1/448. -/
def gateT (a : FVec F S32x8 .f32) : FVec F S32x8 .f32 := mulf a (broadcast S32x8 (Scalar.ofBits .f32 0x3B124925#32))

/-- The exponents of the scales of rows whose largest magnitudes are `a`. -/
def expV (a : FVec F S32x8 .f32) : FVec F S32x8 .f32 := pick (gateT a) (leastV (gateT a) candV)

/-- The largest magnitude of each row of 1024. -/
def maxD (v : FVec F S32x8x1024 .f32) : FVec F S32x8 .f32 :=
  multiReduction .maximumf [2] S32x8 (absf v) 0xFF800000#32 reduces_S32x8x1024_S32x8 (.inl rfl) rfl

/-- The codes of rows of 1024. -/
def codesD (v : FVec F S32x8x1024 .f32) : FVec F S32x8x1024 .fp8e4m3 :=
  truncf .fp8e4m3 (minimumf (broadcast S32x8x1024 (Scalar.ofBits .f32 0x43E00000#32)) (maximumf (broadcast S32x8x1024 (Scalar.ofBits .f32 0xC3E00000#32))
    (mulf v (broadcastTo S32x8x1024 (shapeCast S32x8x1 (exp2 (subf (broadcast S32x8 (Scalar.ofBits .f32 0x00000000#32)) (expV (maxD v)))) shapeCasts_S32x8_S32x8x1)
      broadcasts_S32x8x1_S32x8x1024)))) bitsLt_fp8e4m3_f32

/-- The scales of rows of 1024. -/
def scalesD (v : FVec F S32x8x1024 .f32) : FVec F S32x8 .f32 := exp2 (expV (maxD v))

/-- A row of 1024 laid along every token. -/
def rowD (v : Vec F S1024 .f32) : FVec F S32x8x1024 .f32 :=
  broadcastTo S32x8x1024 (shapeCast S1x1x1024 v shapeCasts_S1024_S1x1x1024) broadcasts_S1x1x1024_S32x8x1024

/-- A number of each token laid along its row of 1024. -/
def colD (p : FVec F S32x8 .f32) : FVec F S32x8x1024 .f32 :=
  broadcastTo S32x8x1024 (shapeCast S32x8x1 p shapeCasts_S32x8_S32x8x1) broadcasts_S32x8x1_S32x8x1024

/-- The largest magnitude of each row of 4096. -/
def maxF (v : FVec F S32x8x4096 .f32) : FVec F S32x8 .f32 :=
  multiReduction .maximumf [2] S32x8 (absf v) 0xFF800000#32 reduces_S32x8x4096_S32x8 (.inl rfl) rfl

/-- The codes of rows of 4096. -/
def codesF (v : FVec F S32x8x4096 .f32) : FVec F S32x8x4096 .fp8e4m3 :=
  truncf .fp8e4m3 (minimumf (broadcast S32x8x4096 (Scalar.ofBits .f32 0x43E00000#32)) (maximumf (broadcast S32x8x4096 (Scalar.ofBits .f32 0xC3E00000#32))
    (mulf v (broadcastTo S32x8x4096 (shapeCast S32x8x1 (exp2 (subf (broadcast S32x8 (Scalar.ofBits .f32 0x00000000#32)) (expV (maxF v)))) shapeCasts_S32x8_S32x8x1)
      broadcasts_S32x8x1_S32x8x4096)))) bitsLt_fp8e4m3_f32

/-- The scales of rows of 4096. -/
def scalesF (v : FVec F S32x8x4096 .f32) : FVec F S32x8 .f32 := exp2 (expV (maxF v))

/-- A row of 4096 laid along every token. -/
def rowF (v : Vec F S4096 .f32) : FVec F S32x8x4096 .f32 :=
  broadcastTo S32x8x4096 (shapeCast S1x1x4096 v shapeCasts_S4096_S1x1x4096) broadcasts_S1x1x4096_S32x8x4096

/-- A number of each token laid along its row of 4096. -/
def colF (p : FVec F S32x8 .f32) : FVec F S32x8x4096 .f32 :=
  broadcastTo S32x8x4096 (shapeCast S32x8x1 p shapeCasts_S32x8_S32x8x1) broadcasts_S32x8x1_S32x8x4096

/-! ## The products -/

/-- The tokens' codes times a square of codes. -/
def prodO (q : FVec F S32x8x1024 .fp8e4m3) (w : Vec F S1024x1024 .fp8e4m3) : FVec F S32x8x1024 .f32 :=
  shapeCast S32x8x1024 (matmul dot_S256x1024_S1024x1024_S256x1024_1_0_0_1_n_n none (shapeCast S256x1024 q shapeCasts_S32x8x1024_S256x1024) w
    (constant S256x1024 .f32 0x00000000#32)) shapeCasts_S256x1024_S32x8x1024

/-- That product rescaled by the rows' scales and the columns', with the bias. -/
def linO (q : FVec F S32x8x1024 .fp8e4m3) (p : FVec F S32x8 .f32) (w : Vec F S1024x1024 .fp8e4m3) (s b : Vec F S1024 .f32) : FVec F S32x8x1024 .f32 :=
  addf (mulf (mulf (prodO q w) (colD p)) (rowD s)) (rowD b)

/-- The tokens' codes times the first hidden weight. -/
def prodU (q : FVec F S32x8x1024 .fp8e4m3) (w : Vec F S1024x4096 .fp8e4m3) : FVec F S32x8x4096 .f32 :=
  shapeCast S32x8x4096 (matmul dot_S256x1024_S1024x4096_S256x4096_1_0_0_1_n_n none (shapeCast S256x1024 q shapeCasts_S32x8x1024_S256x1024) w
    (constant S256x4096 .f32 0x00000000#32)) shapeCasts_S256x4096_S32x8x4096

/-- That product rescaled by the rows' scales and the columns', with the bias. -/
def linU (q : FVec F S32x8x1024 .fp8e4m3) (p : FVec F S32x8 .f32) (w : Vec F S1024x4096 .fp8e4m3) (s b : Vec F S4096 .f32) : FVec F S32x8x4096 .f32 :=
  addf (mulf (mulf (prodU q w) (colF p)) (rowF s)) (rowF b)

/-- The tokens' codes times the second hidden weight. -/
def prodF (q : FVec F S32x8x4096 .fp8e4m3) (w : Vec F S4096x1024 .fp8e4m3) : FVec F S32x8x1024 .f32 :=
  shapeCast S32x8x1024 (matmul dot_S256x4096_S4096x1024_S256x1024_1_0_0_1_n_n none (shapeCast S256x4096 q shapeCasts_S32x8x4096_S256x4096) w
    (constant S256x1024 .f32 0x00000000#32)) shapeCasts_S256x1024_S32x8x1024

/-- That product rescaled by the rows' scales and the columns', with the bias. -/
def linF (q : FVec F S32x8x4096 .fp8e4m3) (p : FVec F S32x8 .f32) (w : Vec F S4096x1024 .fp8e4m3) (s b : Vec F S1024 .f32) : FVec F S32x8x1024 .f32 :=
  addf (mulf (mulf (prodF q w) (colD p)) (rowD s)) (rowD b)

/-! ## The normalisation, the activation and the pooler -/

/-- Each row's mean. -/
def meanD (z : FVec F S32x8x1024 .f32) : FVec F S32x8x1 .f32 :=
  divf (shapeCast S32x8x1 (multiReduction .add [2] S32x8 z 0x00000000#32 reduces_S32x8x1024_S32x8 (.inl rfl) rfl) shapeCasts_S32x8_S32x8x1)
    (broadcast S32x8x1 (Scalar.ofBits .f32 0x44800000#32))

/-- Each row less its mean. -/
def centD (z : FVec F S32x8x1024 .f32) : FVec F S32x8x1024 .f32 :=
  subf z (broadcastTo S32x8x1024 (meanD z) broadcasts_S32x8x1_S32x8x1024)

/-- The reciprocal of each row's deviation. -/
def rdevD (z : FVec F S32x8x1024 .f32) : FVec F S32x8x1 .f32 :=
  rsqrt (addf (meanD (mulf (centD z) (centD z))) (broadcast S32x8x1 (Scalar.ofBits .f32 0x2B8CBCCC#32)))

/-- The normalisation of rows, with its gain and shift. -/
def normD (z : FVec F S32x8x1024 .f32) (g b : Vec F S1024 .f32) : FVec F S32x8x1024 .f32 :=
  addf (mulf (mulf (centD z) (broadcastTo S32x8x1024 (rdevD z) broadcasts_S32x8x1_S32x8x1024)) (rowD g)) (rowD b)

/-- The activation: half of `z` times one more than the error function of `z / √2`. -/
def geluF (z : FVec F S32x8x4096 .f32) : FVec F S32x8x4096 .f32 :=
  mulf (mulf (broadcast S32x8x4096 (Scalar.ofBits .f32 0x3F000000#32)) z)
    (addf (broadcast S32x8x4096 (Scalar.ofBits .f32 0x3F800000#32)) (erf (mulf z (broadcast S32x8x4096 (Scalar.ofBits .f32 0x3F3504F3#32)))))

/-- The pooled rows. -/
def poolD (h : FVec F S32x8x1024 .f32) (w : Vec F S1024x1024 .f32) (b : Vec F S1024 .f32) : FVec F S32x8x1024 .f32 :=
  tanh (addf (shapeCast S32x8x1024 (matmul dot_S256x1024_S1024x1024_S256x1024_1_0_0_1_n_n (some .fp32)
    (shapeCast S256x1024 h shapeCasts_S32x8x1024_S256x1024) w (constant S256x1024 .f32 0x00000000#32)) shapeCasts_S256x1024_S32x8x1024) (rowD b))

/-- Each pooled row's score. -/
def scoreD (p : FVec F S32x8x1024 .f32) (w : Vec F S1024 .f32) (b : Vec F S1 .f32) : FVec F S32x8 .f32 :=
  addf (multiReduction .add [2] S32x8 (mulf p (rowD w)) 0x00000000#32 reduces_S32x8x1024_S32x8 (.inl rfl) rfl)
    (broadcastTo S32x8 (shapeCast S1x1 b shapeCasts_S1_S1x1) broadcasts_S1x1_S32x8)

/-! ## The whole tail -/

/-- `x_c` as the body reads it. -/
def xcB (v : Vec F S32x8x1024 .f32) : FVec F S32x8x1024 .f32 := shapeCast S32x8x1024 v shapeCasts_S32x8x1024_S32x8x1024

/-- The first residual row, normalised. -/
def h1B (x0 x1 : Vec F S32x8x1024 .f32) (x2 : Vec F S1024x1024 .fp8e4m3) (x3 x4 x5 x6 : Vec F S1024 .f32) : FVec F S32x8x1024 .f32 :=
  normD (addf (xcB x1) (linO (codesD x0) (scalesD x0) x2 x3 x4)) x5 x6

/-- The hidden rows, from the first residual row. -/
def uB (h : FVec F S32x8x1024 .f32) (x7 : Vec F S1024x4096 .fp8e4m3) (x8 x9 : Vec F S4096 .f32) : FVec F S32x8x4096 .f32 :=
  geluF (linU (codesD h) (scalesD h) x7 x8 x9)

/-- The second residual row, before its normalisation. -/
def r2B (h : FVec F S32x8x1024 .f32) (u : FVec F S32x8x4096 .f32) (x10 : Vec F S4096x1024 .fp8e4m3) (x11 x12 : Vec F S1024 .f32) : FVec F S32x8x1024 .f32 :=
  addf h (linF (codesF u) (scalesF u) x10 x11 x12)

/-! ## The printed values are these -/

/-- The codes of the context. -/
theorem pay5_eq (v : Vec F S32x8x1024 .f32) : k0_pay5 v = codesD v := rfl

/-- Their scales. -/
theorem pay6_eq (v : Vec F S32x8x1024 .f32) : k0_pay6 v = scalesD v := rfl

/-- The first residual row. -/
theorem pay7_eq (q : FVec F S32x8x1024 .fp8e4m3) (p : FVec F S32x8 .f32) (w : Vec F S1024x1024 .fp8e4m3) (s b : Vec F S1024 .f32)
    (x : Vec F S32x8x1024 .f32) (g n : Vec F S1024 .f32) : k0_pay7 q p w s b x g n = normD (addf (xcB x) (linO q p w s b)) g n := rfl

/-- Its largest magnitudes. -/
theorem pay8_eq (q : FVec F S32x8x1024 .fp8e4m3) (p : FVec F S32x8 .f32) (w : Vec F S1024x1024 .fp8e4m3) (s b : Vec F S1024 .f32)
    (x : Vec F S32x8x1024 .f32) (g n : Vec F S1024 .f32) : k0_pay8 q p w s b x g n = maxD (k0_pay7 q p w s b x g n) := rfl

/-- Its codes. -/
theorem pay10_eq (h : FVec F S32x8x1024 .f32) : k0_pay10 h (maxD h) = codesD h := rfl

/-- Their scales. -/
theorem pay11_eq (h : FVec F S32x8x1024 .f32) : k0_pay11 (maxD h) = scalesD h := rfl

/-- The hidden rows. -/
theorem pay14_eq (h : FVec F S32x8x1024 .f32) (w : Vec F S1024x4096 .fp8e4m3) (s b : Vec F S4096 .f32) :
    k0_pay14 (k0_pay12 h (maxD h) w) (k0_pay13 (maxD h)) s b = geluF (linU (codesD h) (scalesD h) w s b) := rfl

/-- Their scales' exponents. -/
theorem pay15_eq (y c : FVec F S32x8x4096 .f32) (s b : Vec F S4096 .f32) : k0_pay15 y c s b = expV (maxF (k0_pay14 y c s b)) := rfl

/-- Their codes. -/
theorem pay17_eq (y c : FVec F S32x8x4096 .f32) (s b : Vec F S4096 .f32) :
    k0_pay17 (k0_pay16 y c s b) (Scalar.ofBits .f32 0xC3E00000#32) = codesF (k0_pay14 y c s b) := rfl

/-- Their scales. -/
theorem pay18_eq (y c : FVec F S32x8x4096 .f32) (s b : Vec F S4096 .f32) : k0_pay18 (k0_pay15 y c s b) = scalesF (k0_pay14 y c s b) := rfl

/-- The second residual row before its normalisation. -/
theorem pay19_eq (h : FVec F S32x8x1024 .f32) (e : FVec F S32x8 .f32) (q : FVec F S32x8x4096 .f32) (z : F .f32) (w : Vec F S4096x1024 .fp8e4m3)
    (s b : Vec F S1024 .f32) : k0_pay19 h e q z w s b = addf h (linF (k0_pay17 q z) (k0_pay18 e) w s b) := rfl

/-- The second residual row. -/
theorem pay1_eq (h : FVec F S32x8x1024 .f32) (e : FVec F S32x8 .f32) (q : FVec F S32x8x4096 .f32) (z : F .f32) (w : Vec F S4096x1024 .fp8e4m3)
    (s b g n : Vec F S1024 .f32) :
    k0_pay1 g n (k0_pay21 h e q z w s b) (k0_pay22 h e q z w s b) k0_pay23 = normD (k0_pay19 h e q z w s b) g n := rfl

/-- The pooled row. -/
theorem pay2_eq (g n : Vec F S1024 .f32) (v : FVec F S32x8x1 .f32) (d : FVec F S32x8x1024 .f32) (e : FVec F S32x8x1 .f32)
    (w : Vec F S1024x1024 .f32) (b : Vec F S1024 .f32) : k0_pay2 g n v d e w b = poolD (k0_pay1 g n v d e) w b := rfl

/-- The score. -/
theorem pay3_eq (g n : Vec F S1024 .f32) (v : FVec F S32x8x1 .f32) (d : FVec F S32x8x1024 .f32) (e : FVec F S32x8x1 .f32)
    (w : Vec F S1024x1024 .f32) (b a : Vec F S1024 .f32) (k : Vec F S1 .f32) : k0_pay3 g n v d e w b a k = scoreD (k0_pay2 g n v d e w b) a k := rfl

/-! ## What each buffer holds -/

section stores

variable (x0 x1 : Vec F S32x8x1024 .f32) (x2 : Vec F S1024x1024 .fp8e4m3) (x3 x4 x5 x6 : Vec F S1024 .f32) (x7 : Vec F S1024x4096 .fp8e4m3)
  (x8 x9 : Vec F S4096 .f32) (x10 : Vec F S4096x1024 .fp8e4m3) (x11 x12 x13 x14 : Vec F S1024 .f32) (x15 : Vec F S1024x1024 .f32)
  (x16 x17 : Vec F S1024 .f32) (x18 : Vec F S1 .f32)

/-- The whole of an array of tokens is the array. -/
theorem ldD (v : Vec F S32x8x1024 .f32) : View.ld v r0_0 = v :=
  View.ld_unit_zero (S := S32x8x1024) (off := ![0, 0, 0]) (by funext a; fin_cases a <;> rfl) _ v

/-- The whole of a square of codes is the square. -/
theorem ldWq (v : Vec F S1024x1024 .fp8e4m3) : View.ld v r0_2 = v :=
  View.ld_unit_zero (S := S1024x1024) (off := ![0, 0]) (by funext a; fin_cases a <;> rfl) _ v

/-- The whole of a square is the square. -/
theorem ldW (v : Vec F S1024x1024 .f32) : View.ld v r0_2 = v :=
  View.ld_unit_zero (S := S1024x1024) (off := ![0, 0]) (by funext a; fin_cases a <;> rfl) _ v

/-- The whole of a row of 1024 is the row. -/
theorem ldR (v : Vec F S1024 .f32) : View.ld v r0_3 = v :=
  View.ld_unit_zero (S := S1024) (off := ![0]) (by funext a; fin_cases a; rfl) _ v

/-- The whole of the first hidden weight is the weight. -/
theorem ldW1 (v : Vec F S1024x4096 .fp8e4m3) : View.ld v r0_4 = v :=
  View.ld_unit_zero (S := S1024x4096) (off := ![0, 0]) (by funext a; fin_cases a <;> rfl) _ v

/-- The whole of a row of 4096 is the row. -/
theorem ldRF (v : Vec F S4096 .f32) : View.ld v r0_5 = v :=
  View.ld_unit_zero (S := S4096) (off := ![0]) (by funext a; fin_cases a; rfl) _ v

/-- The whole of the second hidden weight is the weight. -/
theorem ldW2 (v : Vec F S4096x1024 .fp8e4m3) : View.ld v r0_7 = v :=
  View.ld_unit_zero (S := S4096x1024) (off := ![0, 0]) (by funext a; fin_cases a <;> rfl) _ v

/-- The whole of a single number is the number. -/
theorem ldS (v : Vec F S1 .f32) : View.ld v r0_8 = v :=
  View.ld_unit_zero (S := S1) (off := ![0]) (by funext a; fin_cases a; rfl) _ v

/-- The first residual row as the body carries it. -/
theorem pay26_eq : k0_pay26 x0 x1 x2 x3 x4 x5 x6 x7 x8 x9 x10 x11 x12 x13 x14 x15 x16 x17 x18 = h1B x0 x1 x2 x3 x4 x5 x6 := by
  unfold k0_pay26 k0_pay25 k0_pay24
  rw [ldD x0, ldD x1, ldWq x2, ldR x3, ldR x4, ldR x5, ldR x6, pay7_eq, pay5_eq, pay6_eq]
  rfl

/-- Its largest magnitudes as the body carries them. -/
theorem pay27_eq : k0_pay27 x0 x1 x2 x3 x4 x5 x6 x7 x8 x9 x10 x11 x12 x13 x14 x15 x16 x17 x18 = maxD (h1B x0 x1 x2 x3 x4 x5 x6) := by
  rw [← pay26_eq x0 x1 x2 x3 x4 x5 x6 x7 x8 x9 x10 x11 x12 x13 x14 x15 x16 x17 x18]
  exact pay8_eq (k0_pay24 x0 x1 x2 x3 x4 x5 x6 x7 x8 x9 x10 x11 x12 x13 x14 x15 x16 x17 x18) (k0_pay25 x0 x1 x2 x3 x4 x5 x6 x7 x8 x9 x10 x11 x12 x13 x14 x15 x16 x17 x18) _ _ _ _ _ _

/-- The hidden rows as the body carries them. -/
theorem hidden_eq : k0_pay14 (k0_pay28 x0 x1 x2 x3 x4 x5 x6 x7 x8 x9 x10 x11 x12 x13 x14 x15 x16 x17 x18) (k0_pay29 x0 x1 x2 x3 x4 x5 x6 x7 x8 x9 x10 x11 x12 x13 x14 x15 x16 x17 x18) x8 x9 = uB (h1B x0 x1 x2 x3 x4 x5 x6) x7 x8 x9 := by
  unfold k0_pay28 k0_pay29
  rw [pay26_eq, pay27_eq, ldW1, pay14_eq]
  rfl

/-- Their codes as the body carries them. -/
theorem pay31_eq : k0_pay17 (k0_pay31 x0 x1 x2 x3 x4 x5 x6 x7 x8 x9 x10 x11 x12 x13 x14 x15 x16 x17 x18) (Scalar.ofBits .f32 0xC3E00000#32) = codesF (uB (h1B x0 x1 x2 x3 x4 x5 x6) x7 x8 x9) := by
  rw [← hidden_eq x0 x1 x2 x3 x4 x5 x6 x7 x8 x9 x10 x11 x12 x13 x14 x15 x16 x17 x18]
  unfold k0_pay31
  rw [ldRF, ldRF, pay17_eq]

/-- Their scales as the body carries them. -/
theorem pay30_eq : k0_pay18 (k0_pay30 x0 x1 x2 x3 x4 x5 x6 x7 x8 x9 x10 x11 x12 x13 x14 x15 x16 x17 x18) = scalesF (uB (h1B x0 x1 x2 x3 x4 x5 x6) x7 x8 x9) := by
  rw [← hidden_eq x0 x1 x2 x3 x4 x5 x6 x7 x8 x9 x10 x11 x12 x13 x14 x15 x16 x17 x18]
  unfold k0_pay30
  rw [ldRF, ldRF, pay18_eq]

/-- The second residual row. -/
def h2B : FVec F S32x8x1024 .f32 :=
  normD (r2B (h1B x0 x1 x2 x3 x4 x5 x6) (uB (h1B x0 x1 x2 x3 x4 x5 x6) x7 x8 x9) x10 x11 x12) x13 x14

/-- The second residual row as the body carries it. -/
theorem h2_eq : k0_pay1 x13 x14 (k0_pay32 x0 x1 x2 x3 x4 x5 x6 x7 x8 x9 x10 x11 x12 x13 x14 x15 x16 x17 x18) (k0_pay33 x0 x1 x2 x3 x4 x5 x6 x7 x8 x9 x10 x11 x12 x13 x14 x15 x16 x17 x18) (k0_pay34 x0 x1 x2 x3 x4 x5 x6 x7 x8 x9 x10 x11 x12 x13 x14 x15 x16 x17 x18) = h2B x0 x1 x2 x3 x4 x5 x6 x7 x8 x9 x10 x11 x12 x13 x14 := by
  unfold k0_pay32 k0_pay33 k0_pay34
  rw [ldW2, ldR, ldR, pay1_eq, pay19_eq, pay31_eq, pay30_eq, pay26_eq]
  rfl

/-- The scores. -/
theorem out0_19_eq : out0_19 x0 x1 x2 x3 x4 x5 x6 x7 x8 x9 x10 x11 x12 x13 x14 x15 x16 x17 x18 = scoreD (poolD (h2B x0 x1 x2 x3 x4 x5 x6 x7 x8 x9 x10 x11 x12 x13 x14) x15 x16) x17 x18 := by
  unfold out0_19
  rw [View.canon_unit_zero (S := S32x8) (off := ![0, 0]) (by funext a; fin_cases a <;> rfl)]
  rw [pay3_eq, pay2_eq, ldR x13, ldR x14, h2_eq, ldW x15, ldR x16, ldR x17, ldS x18]

/-- The pooled rows. -/
theorem out0_20_eq : out0_20 x0 x1 x2 x3 x4 x5 x6 x7 x8 x9 x10 x11 x12 x13 x14 x15 x16 x17 x18 = poolD (h2B x0 x1 x2 x3 x4 x5 x6 x7 x8 x9 x10 x11 x12 x13 x14) x15 x16 := by
  unfold out0_20
  rw [View.canon_unit_zero (S := S32x8x1024) (off := ![0, 0, 0]) (by funext a; fin_cases a <;> rfl)]
  rw [pay2_eq, ldR x13, ldR x14, h2_eq, ldW x15, ldR x16]

/-- The second residual rows. -/
theorem out0_21_eq : out0_21 x0 x1 x2 x3 x4 x5 x6 x7 x8 x9 x10 x11 x12 x13 x14 x15 x16 x17 x18 = h2B x0 x1 x2 x3 x4 x5 x6 x7 x8 x9 x10 x11 x12 x13 x14 := by
  unfold out0_21
  rw [View.canon_unit_zero (S := S32x8x1024) (off := ![0, 0, 0]) (by funext a; fin_cases a <;> rfl)]
  rw [ldR x13, ldR x14, h2_eq]

/-- The codes of the context. -/
theorem out0_22_eq : out0_22 x0 x1 x2 x3 x4 x5 x6 x7 x8 x9 x10 x11 x12 x13 x14 x15 x16 x17 x18 = codesD x0 := by
  unfold out0_22
  rw [View.canon_unit_zero (S := S32x8x1024) (off := ![0, 0, 0]) (by funext a; fin_cases a <;> rfl)]
  rw [ldD x0, pay5_eq]

/-- Their scales. -/
theorem out0_23_eq : out0_23 x0 x1 x2 x3 x4 x5 x6 x7 x8 x9 x10 x11 x12 x13 x14 x15 x16 x17 x18 = scalesD x0 := by
  unfold out0_23
  rw [View.canon_unit_zero (S := S32x8) (off := ![0, 0]) (by funext a; fin_cases a <;> rfl)]
  rw [ldD x0, pay6_eq]

/-- The codes of the first residual rows. -/
theorem out0_24_eq : out0_24 x0 x1 x2 x3 x4 x5 x6 x7 x8 x9 x10 x11 x12 x13 x14 x15 x16 x17 x18 = codesD (h1B x0 x1 x2 x3 x4 x5 x6) := by
  unfold out0_24
  rw [View.canon_unit_zero (S := S32x8x1024) (off := ![0, 0, 0]) (by funext a; fin_cases a <;> rfl)]
  rw [pay26_eq, pay27_eq, pay10_eq]

/-- Their scales. -/
theorem out0_25_eq : out0_25 x0 x1 x2 x3 x4 x5 x6 x7 x8 x9 x10 x11 x12 x13 x14 x15 x16 x17 x18 = scalesD (h1B x0 x1 x2 x3 x4 x5 x6) := by
  unfold out0_25
  rw [View.canon_unit_zero (S := S32x8) (off := ![0, 0]) (by funext a; fin_cases a <;> rfl)]
  rw [pay27_eq, pay11_eq]

/-- The codes of the hidden rows. -/
theorem out0_26_eq : out0_26 x0 x1 x2 x3 x4 x5 x6 x7 x8 x9 x10 x11 x12 x13 x14 x15 x16 x17 x18 = codesF (uB (h1B x0 x1 x2 x3 x4 x5 x6) x7 x8 x9) := by
  unfold out0_26
  rw [View.canon_unit_zero (S := S32x8x4096) (off := ![0, 0, 0]) (by funext a; fin_cases a <;> rfl)]
  rw [pay31_eq]

/-- Their scales. -/
theorem out0_27_eq : out0_27 x0 x1 x2 x3 x4 x5 x6 x7 x8 x9 x10 x11 x12 x13 x14 x15 x16 x17 x18 = scalesF (uB (h1B x0 x1 x2 x3 x4 x5 x6) x7 x8 x9) := by
  unfold out0_27
  rw [View.canon_unit_zero (S := S32x8) (off := ![0, 0]) (by funext a; fin_cases a <;> rfl)]
  rw [pay30_eq]

end stores

end Cert.FfnTail.Ref

end
-- ==== Proof.FfnTail.RefRead.lean ====
/- THE SECOND REFERENCE'S WORDS READ AT A TOKEN, over the extended reals. -/
module

public import proofs.«01_k».proof.Proof.FfnTail.RefVocab
public import proofs.«01_k».proof.Proof.FfnTail.Spec

@[expose] public section

noncomputable section

namespace Cert.FfnTail.Ref

open Cert.TailReferenceIdeal Cert.TailReferenceIdeal.Gen Idealize.ShloMosaic Idealize.ShloMosaic.Pointwise Cert.KV
open Cert.KV.Ref (pick_apply mulf_const_at exp2_at)

/-- A token's row of an array of tokens. -/
def atTok {n : ℕ} (v : (⟨3, ![32, 8, n]⟩ : Shape).Idx → EReal) (b : Fin 32) (p : Fin 8) : Fin n → EReal := fun k => v (ix3 b p k)

/-! ## The quantiser -/

/-- A candidate. -/
theorem candV_apply (b : Fin 32) (p : Fin 8) (k : Fin 252) : (candV (ix3 b p k) : Ideal .f32) = rCand k := by
  pointwise [candV]
  rfl

/-- The least candidate. -/
theorem leastV_apply (t : FVec Ideal S32x8 .f32) (q : FVec Ideal S32x8x252 .f32) (b : Fin 32) (p : Fin 8) :
    leastV t q (ix2 b p) = Finset.univ.fold min (Ideal.ofBits .f32 0x7F800000#32 : EReal) fun k : Fin 252 =>
      Scalar.select (FloatOps.cmpf .olt (t (ix2 b p)) (FloatOps.exp2 (q (ix3 b p k)))) (q (ix3 b p k)) (Scalar.ofBits .f32 0x7F800000#32) := by
  pointwise [leastV]

/-- The exponent of a token's scale. -/
theorem expV_apply (a : FVec Ideal S32x8 .f32) (b : Fin 32) (p : Fin 8) : expV a (ix2 b p) = rExp (gateT a (ix2 b p)) := by
  unfold expV
  apply pick_apply
  rw [leastV_apply]
  simp only [candV_apply]

/-- The largest magnitude of a token's row of 1024. -/
theorem maxD_apply (v : FVec Ideal S32x8x1024 .f32) (b : Fin 32) (p : Fin 8) : maxD v (ix2 b p) = rowMax (atTok v b p) := by
  pointwise [maxD]
  rfl

/-- The same times 1/448. -/
theorem gateD_apply (v : FVec Ideal S32x8x1024 .f32) (b : Fin 32) (p : Fin 8) : gateT (maxD v) (ix2 b p) = rowT (atTok v b p) := by
  unfold rowT
  rw [← maxD_apply]
  unfold gateT
  rw [mulf_const_at]

/-- An entry over the scale of exponent `e`, clipped. -/
theorem clipD_apply (v : FVec Ideal S32x8x1024 .f32) (e : FVec Ideal S32x8 .f32) (b : Fin 32) (p : Fin 8) (k : Fin 1024) :
    (truncf .fp8e4m3 (minimumf (broadcast S32x8x1024 (Scalar.ofBits .f32 0x43E00000#32)) (maximumf (broadcast S32x8x1024 (Scalar.ofBits .f32 0xC3E00000#32))
      (mulf v (broadcastTo S32x8x1024 (shapeCast S32x8x1 (exp2 (subf (broadcast S32x8 (Scalar.ofBits .f32 0x00000000#32)) e)) shapeCasts_S32x8_S32x8x1)
        broadcasts_S32x8x1_S32x8x1024)))) bitsLt_fp8e4m3_f32 : FVec Ideal S32x8x1024 .fp8e4m3) (ix3 b p k)
      = min (Ideal.ofBits .f32 0x43E00000#32 : EReal) (max (Ideal.ofBits .f32 0xC3E00000#32)
      ((v (ix3 b p k) : EReal) * FloatOps.exp2 (FloatOps.subf (Scalar.ofBits .f32 0x00000000#32) (e (ix2 b p)) : Ideal .f32))) := by
  pointwise []

/-- The codes of a token's row of 1024. -/
theorem codesD_apply (v : FVec Ideal S32x8x1024 .f32) (b : Fin 32) (p : Fin 8) (k : Fin 1024) : codesD v (ix3 b p k) = rowCode (atTok v b p) k := by
  unfold codesD
  rw [clipD_apply, expV_apply, gateD_apply]
  rfl

/-- The scale of a token's row of 1024. -/
theorem scalesD_apply (v : FVec Ideal S32x8x1024 .f32) (b : Fin 32) (p : Fin 8) : scalesD v (ix2 b p) = rowScale (atTok v b p) := by
  unfold scalesD rowScale rScale
  rw [exp2_at, expV_apply, gateD_apply]

/-- The largest magnitude of a token's row of 4096. -/
theorem maxF_apply (v : FVec Ideal S32x8x4096 .f32) (b : Fin 32) (p : Fin 8) : maxF v (ix2 b p) = rowMax (atTok v b p) := by
  pointwise [maxF]
  rfl

/-- The same times 1/448. -/
theorem gateF_apply (v : FVec Ideal S32x8x4096 .f32) (b : Fin 32) (p : Fin 8) : gateT (maxF v) (ix2 b p) = rowT (atTok v b p) := by
  unfold rowT
  rw [← maxF_apply]
  unfold gateT
  rw [mulf_const_at]

/-- An entry over the scale of exponent `e`, clipped. -/
theorem clipF_apply (v : FVec Ideal S32x8x4096 .f32) (e : FVec Ideal S32x8 .f32) (b : Fin 32) (p : Fin 8) (k : Fin 4096) :
    (truncf .fp8e4m3 (minimumf (broadcast S32x8x4096 (Scalar.ofBits .f32 0x43E00000#32)) (maximumf (broadcast S32x8x4096 (Scalar.ofBits .f32 0xC3E00000#32))
      (mulf v (broadcastTo S32x8x4096 (shapeCast S32x8x1 (exp2 (subf (broadcast S32x8 (Scalar.ofBits .f32 0x00000000#32)) e)) shapeCasts_S32x8_S32x8x1)
        broadcasts_S32x8x1_S32x8x4096)))) bitsLt_fp8e4m3_f32 : FVec Ideal S32x8x4096 .fp8e4m3) (ix3 b p k)
      = min (Ideal.ofBits .f32 0x43E00000#32 : EReal) (max (Ideal.ofBits .f32 0xC3E00000#32)
      ((v (ix3 b p k) : EReal) * FloatOps.exp2 (FloatOps.subf (Scalar.ofBits .f32 0x00000000#32) (e (ix2 b p)) : Ideal .f32))) := by
  pointwise []

/-- The codes of a token's row of 4096. -/
theorem codesF_apply (v : FVec Ideal S32x8x4096 .f32) (b : Fin 32) (p : Fin 8) (k : Fin 4096) : codesF v (ix3 b p k) = rowCode (atTok v b p) k := by
  unfold codesF
  rw [clipF_apply, expV_apply, gateF_apply]
  rfl

/-- The scale of a token's row of 4096. -/
theorem scalesF_apply (v : FVec Ideal S32x8x4096 .f32) (b : Fin 32) (p : Fin 8) : scalesF v (ix2 b p) = rowScale (atTok v b p) := by
  unfold scalesF rowScale rScale
  rw [exp2_at, expV_apply, gateF_apply]

/-! ## The products -/

/-- A token's row of 1024 among the 256 rows. -/
theorem toRowsD {φ : FTy} (q : FVec Ideal S32x8x1024 φ) (b : Fin 32) (p : Fin 8) (k : Fin 1024) :
    shapeCast S256x1024 q shapeCasts_S32x8x1024_S256x1024 (ix2 (rowOf b p) k) = q (ix3 b p k) := by
  pointwise []
  rw [batchOf_row, tokenOf_row]

/-- A row of 1024 given back to its token. -/
theorem ofRowsD {φ : FTy} (A : FVec Ideal S256x1024 φ) (b : Fin 32) (p : Fin 8) (k : Fin 1024) :
    shapeCast S32x8x1024 A shapeCasts_S256x1024_S32x8x1024 (ix3 b p k) = A (ix2 (rowOf b p) k) := by
  pointwise []
  rfl

/-- A token's row of 4096 among the 256 rows. -/
theorem toRowsF {φ : FTy} (q : FVec Ideal S32x8x4096 φ) (b : Fin 32) (p : Fin 8) (k : Fin 4096) :
    shapeCast S256x4096 q shapeCasts_S32x8x4096_S256x4096 (ix2 (rowOf b p) k) = q (ix3 b p k) := by
  pointwise []
  rw [batchOf_row, tokenOf_row]

/-- A row of 4096 given back to its token. -/
theorem ofRowsF {φ : FTy} (A : FVec Ideal S256x4096 φ) (b : Fin 32) (p : Fin 8) (k : Fin 4096) :
    shapeCast S32x8x4096 A shapeCasts_S256x4096_S32x8x4096 (ix3 b p k) = A (ix2 (rowOf b p) k) := by
  pointwise []
  rfl

/-- The output projection's product of rows. -/
theorem mmO_apply (q : FVec Ideal S256x1024 .fp8e4m3) (w : Vec Ideal S1024x1024 .fp8e4m3) (r : Fin 256) (j : Fin 1024) :
    (matmul dot_S256x1024_S1024x1024_S256x1024_1_0_0_1_n_n none (φ₂ := .fp8e4m3) q w (constant S256x1024 .f32 0x00000000#32) : FVec Ideal S256x1024 .f32) (ix2 r j)
      = ∑ k : Fin 1024, (q (ix2 r k) : EReal) * w (ix2 k j) := by
  pointwise []

/-- The output projection's product at an entry. -/
theorem prodO_apply (q : FVec Ideal S32x8x1024 .fp8e4m3) (w : Vec Ideal S1024x1024 .fp8e4m3) (b : Fin 32) (p : Fin 8) (j : Fin 1024) :
    prodO q w (ix3 b p j) = ∑ k : Fin 1024, (q (ix3 b p k) : EReal) * w (ix2 k j) := by
  unfold prodO
  rw [ofRowsD, mmO_apply]
  simp only [toRowsD]

/-- The output projection at an entry. -/
theorem linO_apply (v : FVec Ideal S32x8x1024 .f32) (w : Vec Ideal S1024x1024 .fp8e4m3) (s z : Vec Ideal S1024 .f32) (b : Fin 32) (p : Fin 8) (j : Fin 1024) :
    linO (codesD v) (scalesD v) w s z (ix3 b p j)
      = lin (rowCode (atTok v b p)) (rowScale (atTok v b p)) (fun k j => w (ix2 k j)) (fun j => s (ix1 j)) (fun j => z (ix1 j)) j := by
  pointwise [linO, colD, rowD]
  rw [prodO_apply]
  simp only [codesD_apply, scalesD_apply]
  rfl

/-- The first hidden layer's product of rows. -/
theorem mmU_apply (q : FVec Ideal S256x1024 .fp8e4m3) (w : Vec Ideal S1024x4096 .fp8e4m3) (r : Fin 256) (j : Fin 4096) :
    (matmul dot_S256x1024_S1024x4096_S256x4096_1_0_0_1_n_n none (φ₂ := .fp8e4m3) q w (constant S256x4096 .f32 0x00000000#32) : FVec Ideal S256x4096 .f32) (ix2 r j)
      = ∑ k : Fin 1024, (q (ix2 r k) : EReal) * w (ix2 k j) := by
  pointwise []

/-- The first hidden layer's product at an entry. -/
theorem prodU_apply (q : FVec Ideal S32x8x1024 .fp8e4m3) (w : Vec Ideal S1024x4096 .fp8e4m3) (b : Fin 32) (p : Fin 8) (j : Fin 4096) :
    prodU q w (ix3 b p j) = ∑ k : Fin 1024, (q (ix3 b p k) : EReal) * w (ix2 k j) := by
  unfold prodU
  rw [ofRowsF, mmU_apply]
  simp only [toRowsD]

/-- The first hidden layer at an entry. -/
theorem linU_apply (v : FVec Ideal S32x8x1024 .f32) (w : Vec Ideal S1024x4096 .fp8e4m3) (s z : Vec Ideal S4096 .f32) (b : Fin 32) (p : Fin 8) (j : Fin 4096) :
    linU (codesD v) (scalesD v) w s z (ix3 b p j)
      = lin (rowCode (atTok v b p)) (rowScale (atTok v b p)) (fun k j => w (ix2 k j)) (fun j => s (ix1 j)) (fun j => z (ix1 j)) j := by
  pointwise [linU, colF, rowF]
  rw [prodU_apply]
  simp only [codesD_apply, scalesD_apply]
  rfl

/-- The second hidden layer's product of rows. -/
theorem mmF_apply (q : FVec Ideal S256x4096 .fp8e4m3) (w : Vec Ideal S4096x1024 .fp8e4m3) (r : Fin 256) (j : Fin 1024) :
    (matmul dot_S256x4096_S4096x1024_S256x1024_1_0_0_1_n_n none (φ₂ := .fp8e4m3) q w (constant S256x1024 .f32 0x00000000#32) : FVec Ideal S256x1024 .f32) (ix2 r j)
      = ∑ k : Fin 4096, (q (ix2 r k) : EReal) * w (ix2 k j) := by
  pointwise []

/-- The second hidden layer's product at an entry. -/
theorem prodF_apply (q : FVec Ideal S32x8x4096 .fp8e4m3) (w : Vec Ideal S4096x1024 .fp8e4m3) (b : Fin 32) (p : Fin 8) (j : Fin 1024) :
    prodF q w (ix3 b p j) = ∑ k : Fin 4096, (q (ix3 b p k) : EReal) * w (ix2 k j) := by
  unfold prodF
  rw [ofRowsD, mmF_apply]
  simp only [toRowsF]

/-- The second hidden layer at an entry. -/
theorem linF_apply (v : FVec Ideal S32x8x4096 .f32) (w : Vec Ideal S4096x1024 .fp8e4m3) (s z : Vec Ideal S1024 .f32) (b : Fin 32) (p : Fin 8) (j : Fin 1024) :
    linF (codesF v) (scalesF v) w s z (ix3 b p j)
      = lin (rowCode (atTok v b p)) (rowScale (atTok v b p)) (fun k j => w (ix2 k j)) (fun j => s (ix1 j)) (fun j => z (ix1 j)) j := by
  pointwise [linF, colD, rowD]
  rw [prodF_apply]
  simp only [codesF_apply, scalesF_apply]
  rfl

/-! ## The normalisation and the activation -/

/-- A row's mean. -/
theorem meanD_apply (z : FVec Ideal S32x8x1024 .f32) (b : Fin 32) (p : Fin 8) : meanD z (ix3 b p 0) = mean (atTok z b p) := by
  pointwise [meanD]
  rfl

/-- A row less its mean. -/
theorem centD_apply (z : FVec Ideal S32x8x1024 .f32) (b : Fin 32) (p : Fin 8) (k : Fin 1024) :
    centD z (ix3 b p k) = (atTok z b p k - mean (atTok z b p) : EReal) := by
  pointwise [centD]
  rw [meanD_apply]
  rfl

/-- The squares of a row less its mean. -/
theorem sqD_row (z : FVec Ideal S32x8x1024 .f32) (b : Fin 32) (p : Fin 8) :
    atTok (mulf (centD z) (centD z) : FVec Ideal S32x8x1024 .f32) b p
      = fun k => (atTok z b p k - mean (atTok z b p)) * (atTok z b p k - mean (atTok z b p)) := by
  funext k
  show (centD z (ix3 b p k) : EReal) * centD z (ix3 b p k) = _
  rw [centD_apply]

/-- The reciprocal of a row's deviation. -/
theorem rdevD_apply (z : FVec Ideal S32x8x1024 .f32) (b : Fin 32) (p : Fin 8) : rdevD z (ix3 b p 0) = rdev (atTok z b p) := by
  pointwise [rdevD]
  rw [meanD_apply, sqD_row]
  rfl

/-- A row's normalisation. -/
theorem normD_row (z : FVec Ideal S32x8x1024 .f32) (g n : Vec Ideal S1024 .f32) (b : Fin 32) (p : Fin 8) :
    atTok (normD z g n) b p = norm (fun j => g (ix1 j)) (fun j => n (ix1 j)) (atTok z b p) := by
  funext k
  show normD z g n (ix3 b p k) = _
  pointwise [normD, rowD]
  rw [centD_apply, rdevD_apply]
  rfl

/-- The activation at an entry. -/
theorem geluF_apply (z : FVec Ideal S32x8x4096 .f32) (b : Fin 32) (p : Fin 8) (j : Fin 4096) : geluF z (ix3 b p j) = act (z (ix3 b p j)) := by
  pointwise [geluF]
  rfl

/-! ## The body's rows -/

section body

variable (x0 x1 : Vec Ideal S32x8x1024 .f32) (x2 : Vec Ideal S1024x1024 .fp8e4m3) (x3 x4 x5 x6 : Vec Ideal S1024 .f32) (x7 : Vec Ideal S1024x4096 .fp8e4m3)
  (x8 x9 : Vec Ideal S4096 .f32) (x10 : Vec Ideal S4096x1024 .fp8e4m3) (x11 x12 x13 x14 : Vec Ideal S1024 .f32) (x15 : Vec Ideal S1024x1024 .f32)
  (x16 x17 : Vec Ideal S1024 .f32) (x18 : Vec Ideal S1 .f32) (b : Fin 32) (p : Fin 8)

/-- `x_c` as read. -/
theorem xcB_apply (k : Fin 1024) : xcB x1 (ix3 b p k) = x1 (ix3 b p k) := by
  pointwise [xcB]

/-- The first residual row. -/
theorem h1B_row : atTok (h1B x0 x1 x2 x3 x4 x5 x6) b p
    = rowH1 (par x2 x3 x4 x5 x6 x7 x8 x9 x10 x11 x12 x13 x14 x15 x16 x17 x18) (atTok x0 b p) (atTok x1 b p) := by
  unfold h1B rowH1
  rw [normD_row]
  refine congrArg (norm (fun j => x5 (ix1 j)) (fun j => x6 (ix1 j))) (funext fun j => ?_)
  show (xcB x1 (ix3 b p j) : EReal) + linO (codesD x0) (scalesD x0) x2 x3 x4 (ix3 b p j) = _
  rw [linO_apply, xcB_apply]
  rfl

/-- The hidden row. -/
theorem uB_row (h : FVec Ideal S32x8x1024 .f32) : atTok (uB h x7 x8 x9) b p
    = rowU (par x2 x3 x4 x5 x6 x7 x8 x9 x10 x11 x12 x13 x14 x15 x16 x17 x18) (atTok h b p) := by
  funext j
  show uB h x7 x8 x9 (ix3 b p j) = _
  unfold uB
  rw [geluF_apply, linU_apply]
  rfl

/-- The second residual row. -/
theorem h2B_row : atTok (h2B x0 x1 x2 x3 x4 x5 x6 x7 x8 x9 x10 x11 x12 x13 x14) b p
    = rowH2 (par x2 x3 x4 x5 x6 x7 x8 x9 x10 x11 x12 x13 x14 x15 x16 x17 x18)
      (rowH1 (par x2 x3 x4 x5 x6 x7 x8 x9 x10 x11 x12 x13 x14 x15 x16 x17 x18) (atTok x0 b p) (atTok x1 b p)) := by
  rw [← h1B_row x0 x1 x2 x3 x4 x5 x6 x7 x8 x9 x10 x11 x12 x13 x14 x15 x16 x17 x18 b p]
  unfold h2B rowH2
  rw [normD_row, ← uB_row x2 x3 x4 x5 x6 x7 x8 x9 x10 x11 x12 x13 x14 x15 x16 x17 x18 b p]
  refine congrArg (norm (fun j => x13 (ix1 j)) (fun j => x14 (ix1 j))) (funext fun j => ?_)
  generalize h1B x0 x1 x2 x3 x4 x5 x6 = h
  show (h (ix3 b p j) : EReal) + linF (codesF (uB h x7 x8 x9)) (scalesF (uB h x7 x8 x9)) x10 x11 x12 (ix3 b p j) = _
  rw [linF_apply]
  rfl

/-- The pooler's product of rows. -/
theorem mmP_apply (q : FVec Ideal S256x1024 .f32) (w : Vec Ideal S1024x1024 .f32) (r : Fin 256) (j : Fin 1024) :
    (matmul dot_S256x1024_S1024x1024_S256x1024_1_0_0_1_n_n (some .fp32) (φ₂ := .f32) q w (constant S256x1024 .f32 0x00000000#32) : FVec Ideal S256x1024 .f32) (ix2 r j)
      = ∑ k : Fin 1024, (q (ix2 r k) : EReal) * w (ix2 k j) := by
  pointwise []

/-- The hyperbolic tangent of an entry with a row's entry added. -/
theorem tanhD_apply (y : FVec Ideal S32x8x1024 .f32) (z : Vec Ideal S1024 .f32) (j : Fin 1024) :
    (tanh (addf y (rowD z)) : FVec Ideal S32x8x1024 .f32) (ix3 b p j) = Ideal.tanh ((y (ix3 b p j) : EReal) + z (ix1 j)) := by
  pointwise [rowD]

/-- The pooled row. -/
theorem poolD_row (h : FVec Ideal S32x8x1024 .f32) : atTok (poolD h x15 x16) b p
    = rowP (par x2 x3 x4 x5 x6 x7 x8 x9 x10 x11 x12 x13 x14 x15 x16 x17 x18) (atTok h b p) := by
  funext j
  show poolD h x15 x16 (ix3 b p j) = _
  unfold poolD
  rw [tanhD_apply, ofRowsD, mmP_apply]
  simp only [toRowsD]
  rfl

/-- The score. -/
theorem scoreD_apply (y : FVec Ideal S32x8x1024 .f32) : scoreD y x17 x18 (ix2 b p)
    = rowS (par x2 x3 x4 x5 x6 x7 x8 x9 x10 x11 x12 x13 x14 x15 x16 x17 x18) (atTok y b p) := by
  pointwise [scoreD, rowD]
  rfl

end body

end Cert.FfnTail.Ref

end
-- ==== Proof.FfnTail.RefRun.lean ====
/- WHAT THE SECOND REFERENCE'S RESULT ARRAYS HOLD: its one store into each is the mathematics of the argument arrays. -/
module

public import proofs.«01_k».proof.Proof.FfnTail.RefRead

@[expose] public section

noncomputable section

namespace Cert.FfnTail.Ref

open Cert.TailReferenceIdeal Cert.TailReferenceIdeal.Gen Idealize.ShloMosaic Idealize.ShloMosaic.TcCoe Idealize.ShloMosaic.Pointwise Idealize.SL.Sem
open Idealize.ShloMosaic.Pipeline (Dat Window)
open Cert.KV (rowCode rowScale)

variable (m : (ℓ : Loc nD τ sig) → Buf (Elt Ideal) ℓ) (c : Dev nD)

/-! ## What the call finds -/

/-- `x_c` by tokens. -/
theorem V_main_v0 (b : Fin 32) (p : Fin 8) (d : Fin 1024) : V m c main_v0 (ix3 b p d) = m ((c : Thread nD τ).loc main_arg1) (ix2 (rowOf b p) d) := by
  have e : V m c main_v0 = shapeCast S32x8x1024 (m ((c : Thread nD τ).loc main_arg1)) shapeCasts_S256x1024_S32x8x1024 := by
    show StableHlo.after hostOps0 (fun b => m (c, b)) _ = _
    simp only [hostOps0]
    after_results
    rfl
  rw [e]
  exact ofRowsD (φ := .f32) _ b p d

/-- Operand 1, whole. -/
theorem iblk1_eq (t : Fin cfg0.N) : (iblk m c 1 t : Vec Ideal S32x8x1024 .f32) = V m c main_v0 := by
  funext y
  show V m c main_v0 ((win0_1.rect t).emb y) = V m c main_v0 y
  refine congrArg (V m c main_v0) (funext fun a => Fin.ext ?_)
  exact Window.rect_emb_val_of_index_zero win0_1 t a (by fin_cases a <;> rfl) y

/-- Operand 0, whole. -/
theorem iblk0_eq (t : Fin cfg0.N) : (iblk m c 0 t : Vec Ideal S32x8x1024 .f32) = m ((c : Thread nD τ).loc main_arg0) := by
  rw [← V_main_arg0 m c]
  funext y
  show V m c main_arg0 ((win0_0.rect t).emb y) = V m c main_arg0 y
  refine congrArg (V m c main_arg0) (funext fun a => Fin.ext ?_)
  exact Window.rect_emb_val_of_index_zero win0_0 t a (by fin_cases a <;> rfl) y

/-- Operand 2, whole. -/
theorem iblk2_eq (t : Fin cfg0.N) : (iblk m c 2 t : Vec Ideal S1024x1024 .fp8e4m3) = m ((c : Thread nD τ).loc main_arg2) := by
  rw [← V_main_arg2 m c]
  funext y
  show V m c main_arg2 ((win0_2.rect t).emb y) = V m c main_arg2 y
  refine congrArg (V m c main_arg2) (funext fun a => Fin.ext ?_)
  exact Window.rect_emb_val_of_index_zero win0_2 t a (by fin_cases a <;> rfl) y

/-- Operand 3, whole. -/
theorem iblk3_eq (t : Fin cfg0.N) : (iblk m c 3 t : Vec Ideal S1024 .f32) = m ((c : Thread nD τ).loc main_arg3) := by
  rw [← V_main_arg3 m c]
  funext y
  show V m c main_arg3 ((win0_3.rect t).emb y) = V m c main_arg3 y
  refine congrArg (V m c main_arg3) (funext fun a => Fin.ext ?_)
  exact Window.rect_emb_val_of_index_zero win0_3 t a (by fin_cases a; rfl) y

/-- Operand 4, whole. -/
theorem iblk4_eq (t : Fin cfg0.N) : (iblk m c 4 t : Vec Ideal S1024 .f32) = m ((c : Thread nD τ).loc main_arg4) := by
  rw [← V_main_arg4 m c]
  funext y
  show V m c main_arg4 ((win0_4.rect t).emb y) = V m c main_arg4 y
  refine congrArg (V m c main_arg4) (funext fun a => Fin.ext ?_)
  exact Window.rect_emb_val_of_index_zero win0_4 t a (by fin_cases a; rfl) y

/-- Operand 5, whole. -/
theorem iblk5_eq (t : Fin cfg0.N) : (iblk m c 5 t : Vec Ideal S1024 .f32) = m ((c : Thread nD τ).loc main_arg5) := by
  rw [← V_main_arg5 m c]
  funext y
  show V m c main_arg5 ((win0_5.rect t).emb y) = V m c main_arg5 y
  refine congrArg (V m c main_arg5) (funext fun a => Fin.ext ?_)
  exact Window.rect_emb_val_of_index_zero win0_5 t a (by fin_cases a; rfl) y

/-- Operand 6, whole. -/
theorem iblk6_eq (t : Fin cfg0.N) : (iblk m c 6 t : Vec Ideal S1024 .f32) = m ((c : Thread nD τ).loc main_arg6) := by
  rw [← V_main_arg6 m c]
  funext y
  show V m c main_arg6 ((win0_6.rect t).emb y) = V m c main_arg6 y
  refine congrArg (V m c main_arg6) (funext fun a => Fin.ext ?_)
  exact Window.rect_emb_val_of_index_zero win0_6 t a (by fin_cases a; rfl) y

/-- Operand 7, whole. -/
theorem iblk7_eq (t : Fin cfg0.N) : (iblk m c 7 t : Vec Ideal S1024x4096 .fp8e4m3) = m ((c : Thread nD τ).loc main_arg7) := by
  rw [← V_main_arg7 m c]
  funext y
  show V m c main_arg7 ((win0_7.rect t).emb y) = V m c main_arg7 y
  refine congrArg (V m c main_arg7) (funext fun a => Fin.ext ?_)
  exact Window.rect_emb_val_of_index_zero win0_7 t a (by fin_cases a <;> rfl) y

/-- Operand 8, whole. -/
theorem iblk8_eq (t : Fin cfg0.N) : (iblk m c 8 t : Vec Ideal S4096 .f32) = m ((c : Thread nD τ).loc main_arg8) := by
  rw [← V_main_arg8 m c]
  funext y
  show V m c main_arg8 ((win0_8.rect t).emb y) = V m c main_arg8 y
  refine congrArg (V m c main_arg8) (funext fun a => Fin.ext ?_)
  exact Window.rect_emb_val_of_index_zero win0_8 t a (by fin_cases a; rfl) y

/-- Operand 9, whole. -/
theorem iblk9_eq (t : Fin cfg0.N) : (iblk m c 9 t : Vec Ideal S4096 .f32) = m ((c : Thread nD τ).loc main_arg9) := by
  rw [← V_main_arg9 m c]
  funext y
  show V m c main_arg9 ((win0_9.rect t).emb y) = V m c main_arg9 y
  refine congrArg (V m c main_arg9) (funext fun a => Fin.ext ?_)
  exact Window.rect_emb_val_of_index_zero win0_9 t a (by fin_cases a; rfl) y

/-- Operand 10, whole. -/
theorem iblk10_eq (t : Fin cfg0.N) : (iblk m c 10 t : Vec Ideal S4096x1024 .fp8e4m3) = m ((c : Thread nD τ).loc main_arg10) := by
  rw [← V_main_arg10 m c]
  funext y
  show V m c main_arg10 ((win0_10.rect t).emb y) = V m c main_arg10 y
  refine congrArg (V m c main_arg10) (funext fun a => Fin.ext ?_)
  exact Window.rect_emb_val_of_index_zero win0_10 t a (by fin_cases a <;> rfl) y

/-- Operand 11, whole. -/
theorem iblk11_eq (t : Fin cfg0.N) : (iblk m c 11 t : Vec Ideal S1024 .f32) = m ((c : Thread nD τ).loc main_arg11) := by
  rw [← V_main_arg11 m c]
  funext y
  show V m c main_arg11 ((win0_11.rect t).emb y) = V m c main_arg11 y
  refine congrArg (V m c main_arg11) (funext fun a => Fin.ext ?_)
  exact Window.rect_emb_val_of_index_zero win0_11 t a (by fin_cases a; rfl) y

/-- Operand 12, whole. -/
theorem iblk12_eq (t : Fin cfg0.N) : (iblk m c 12 t : Vec Ideal S1024 .f32) = m ((c : Thread nD τ).loc main_arg12) := by
  rw [← V_main_arg12 m c]
  funext y
  show V m c main_arg12 ((win0_12.rect t).emb y) = V m c main_arg12 y
  refine congrArg (V m c main_arg12) (funext fun a => Fin.ext ?_)
  exact Window.rect_emb_val_of_index_zero win0_12 t a (by fin_cases a; rfl) y

/-- Operand 13, whole. -/
theorem iblk13_eq (t : Fin cfg0.N) : (iblk m c 13 t : Vec Ideal S1024 .f32) = m ((c : Thread nD τ).loc main_arg13) := by
  rw [← V_main_arg13 m c]
  funext y
  show V m c main_arg13 ((win0_13.rect t).emb y) = V m c main_arg13 y
  refine congrArg (V m c main_arg13) (funext fun a => Fin.ext ?_)
  exact Window.rect_emb_val_of_index_zero win0_13 t a (by fin_cases a; rfl) y

/-- Operand 14, whole. -/
theorem iblk14_eq (t : Fin cfg0.N) : (iblk m c 14 t : Vec Ideal S1024 .f32) = m ((c : Thread nD τ).loc main_arg14) := by
  rw [← V_main_arg14 m c]
  funext y
  show V m c main_arg14 ((win0_14.rect t).emb y) = V m c main_arg14 y
  refine congrArg (V m c main_arg14) (funext fun a => Fin.ext ?_)
  exact Window.rect_emb_val_of_index_zero win0_14 t a (by fin_cases a; rfl) y

/-- Operand 15, whole. -/
theorem iblk15_eq (t : Fin cfg0.N) : (iblk m c 15 t : Vec Ideal S1024x1024 .f32) = m ((c : Thread nD τ).loc main_arg15) := by
  rw [← V_main_arg15 m c]
  funext y
  show V m c main_arg15 ((win0_15.rect t).emb y) = V m c main_arg15 y
  refine congrArg (V m c main_arg15) (funext fun a => Fin.ext ?_)
  exact Window.rect_emb_val_of_index_zero win0_15 t a (by fin_cases a <;> rfl) y

/-- Operand 16, whole. -/
theorem iblk16_eq (t : Fin cfg0.N) : (iblk m c 16 t : Vec Ideal S1024 .f32) = m ((c : Thread nD τ).loc main_arg16) := by
  rw [← V_main_arg16 m c]
  funext y
  show V m c main_arg16 ((win0_16.rect t).emb y) = V m c main_arg16 y
  refine congrArg (V m c main_arg16) (funext fun a => Fin.ext ?_)
  exact Window.rect_emb_val_of_index_zero win0_16 t a (by fin_cases a; rfl) y

/-- Operand 17, whole. -/
theorem iblk17_eq (t : Fin cfg0.N) : (iblk m c 17 t : Vec Ideal S1024 .f32) = m ((c : Thread nD τ).loc main_arg17) := by
  rw [← V_main_arg17 m c]
  funext y
  show V m c main_arg17 ((win0_17.rect t).emb y) = V m c main_arg17 y
  refine congrArg (V m c main_arg17) (funext fun a => Fin.ext ?_)
  exact Window.rect_emb_val_of_index_zero win0_17 t a (by fin_cases a; rfl) y

/-- Operand 18, whole. -/
theorem iblk18_eq (t : Fin cfg0.N) : (iblk m c 18 t : Vec Ideal S1 .f32) = m ((c : Thread nD τ).loc main_arg18) := by
  rw [← V_main_arg18 m c]
  funext y
  show V m c main_arg18 ((win0_18.rect t).emb y) = V m c main_arg18 y
  refine congrArg (V m c main_arg18) (funext fun a => Fin.ext ?_)
  exact Window.rect_emb_val_of_index_zero win0_18 t a (by fin_cases a; rfl) y

/-! ## The body's words of what it finds -/

/-- The weights. -/
def aPar : Par := par (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The first residual rows. -/
def aH1 : FVec Ideal S32x8x1024 .f32 := h1B (m ((c : Thread nD τ).loc main_arg0)) (V m c main_v0) (m ((c : Thread nD τ).loc main_arg2)) (m ((c : Thread nD τ).loc main_arg3)) (m ((c : Thread nD τ).loc main_arg4)) (m ((c : Thread nD τ).loc main_arg5)) (m ((c : Thread nD τ).loc main_arg6))

/-- The hidden rows. -/
def aU : FVec Ideal S32x8x4096 .f32 := uB (aH1 m c) (m ((c : Thread nD τ).loc main_arg7)) (m ((c : Thread nD τ).loc main_arg8)) (m ((c : Thread nD τ).loc main_arg9))

/-- The second residual rows. -/
def aH2 : FVec Ideal S32x8x1024 .f32 := h2B (m ((c : Thread nD τ).loc main_arg0)) (V m c main_v0) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The pooled rows. -/
def aP : FVec Ideal S32x8x1024 .f32 := poolD (aH2 m c) (m ((c : Thread nD τ).loc main_arg15)) (m ((c : Thread nD τ).loc main_arg16))

/-- A token's row of `x_c`. -/
theorem aX_row (b : Fin 32) (p : Fin 8) : atTok (V m c main_v0) b p = rowXc (m ((c : Thread nD τ).loc main_arg1)) b p :=
  funext fun d => V_main_v0 m c b p d

/-- A token's first residual row. -/
theorem aH1_row (b : Fin 32) (p : Fin 8) : atTok (aH1 m c) b p = tokH1 (aPar m c) (m ((c : Thread nD τ).loc main_arg0)) (m ((c : Thread nD τ).loc main_arg1)) b p := by
  unfold aH1 tokH1
  rw [← aX_row m c b p]
  exact h1B_row (m ((c : Thread nD τ).loc main_arg0)) (V m c main_v0) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) b p

/-- A token's hidden row. -/
theorem aU_row (b : Fin 32) (p : Fin 8) : atTok (aU m c) b p = rowU (aPar m c) (tokH1 (aPar m c) (m ((c : Thread nD τ).loc main_arg0)) (m ((c : Thread nD τ).loc main_arg1)) b p) := by
  rw [← aH1_row m c b p]
  exact uB_row (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) b p (aH1 m c)

/-- A token's second residual row. -/
theorem aH2_row (b : Fin 32) (p : Fin 8) : atTok (aH2 m c) b p = tokH2 (aPar m c) (m ((c : Thread nD τ).loc main_arg0)) (m ((c : Thread nD τ).loc main_arg1)) b p := by
  unfold aH2 tokH2 tokH1
  rw [← aX_row m c b p]
  exact h2B_row (m ((c : Thread nD τ).loc main_arg0)) (V m c main_v0) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) b p

/-- A token's pooled row. -/
theorem aP_row (b : Fin 32) (p : Fin 8) : atTok (aP m c) b p = rowP (aPar m c) (tokH2 (aPar m c) (m ((c : Thread nD τ).loc main_arg0)) (m ((c : Thread nD τ).loc main_arg1)) b p) := by
  rw [← aH2_row m c b p]
  exact poolD_row (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) b p (aH2 m c)

/-! ## The arrays after the call -/

/-- The one grid point. -/
def t0 : Fin cfg0.N := ⟨0, by decide⟩

/-- What the grid point writes back of the scores. -/
theorem flushed19 (t : Fin cfg0.N) : (dats m 0 c).flushed 19 t = scoreD (aP m c) (m ((c : Thread nD τ).loc main_arg17)) (m ((c : Thread nD τ).loc main_arg18)) := by
  have e : (dats m 0 c).flushed 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_19]
  rw [e, out0_19_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq]
  try rfl

/-- The array of the scores, entry by entry. -/
theorem arr19_at (i : S32x8.Idx) : (dats m 0 c).arrAt 19 cfg0.N i = (scoreD (aP m c) (m ((c : Thread nD τ).loc main_arg17)) (m ((c : Thread nD τ).loc main_arg18)) : Vec Ideal S32x8 _) i := by
  have e : i = ((cfg0.win 19).blk t0).view.emb i := by
    show _ = (win0_19.rect t0).emb i
    funext a
    exact Fin.ext (Window.rect_emb_val_of_index_zero win0_19 t0 a (by fin_cases a <;> rfl) _).symm
  rw [e, (dats m 0 c).arrAt_emb_eq_flushed 19 Value.disjoint19 t0 (flush0_19 _), ← e]
  exact congrFun (flushed19 m c t0) i

/-- The array of the scores. -/
theorem arr19 : (dats m 0 c).arrAt 19 cfg0.N = valScore (aPar m c) (m ((c : Thread nD τ).loc main_arg0)) (m ((c : Thread nD τ).loc main_arg1)) := by
  refine funext fun (i : S32x8.Idx) => (arr19_at m c i).trans ?_
  obtain ⟨b, p, rfl⟩ : ∃ (b : Fin 32) (p : Fin 8), i = ix2 b p := ⟨i 0, i 1, by funext a; fin_cases a <;> rfl⟩
  exact (scoreD_apply (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) b p (aP m c)).trans (congrArg (rowS (aPar m c)) (aP_row m c b p))

/-- What the grid point writes back of the pooled rows. -/
theorem flushed20 (t : Fin cfg0.N) : (dats m 0 c).flushed 20 t = aP m c := by
  have e : (dats m 0 c).flushed 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_20]
  rw [e, out0_20_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  try rfl

/-- The array of the pooled rows, entry by entry. -/
theorem arr20_at (i : S32x8x1024.Idx) : (dats m 0 c).arrAt 20 cfg0.N i = (aP m c : Vec Ideal S32x8x1024 _) i := by
  have e : i = ((cfg0.win 20).blk t0).view.emb i := by
    show _ = (win0_20.rect t0).emb i
    funext a
    exact Fin.ext (Window.rect_emb_val_of_index_zero win0_20 t0 a (by fin_cases a <;> rfl) _).symm
  rw [e, (dats m 0 c).arrAt_emb_eq_flushed 20 Value.disjoint20 t0 (flush0_20 _), ← e]
  exact congrFun (flushed20 m c t0) i

/-- The array of the pooled rows. -/
theorem arr20 : (dats m 0 c).arrAt 20 cfg0.N = valPool (aPar m c) (m ((c : Thread nD τ).loc main_arg0)) (m ((c : Thread nD τ).loc main_arg1)) := by
  refine funext fun (i : S32x8x1024.Idx) => (arr20_at m c i).trans ?_
  obtain ⟨b, p, d, rfl⟩ : ∃ (b : Fin 32) (p : Fin 8) (d : Fin 1024), i = ix3 b p d := ⟨i 0, i 1, i 2, by funext a; fin_cases a <;> rfl⟩
  exact congrFun (aP_row m c b p) d

/-- What the grid point writes back of the second residual rows. -/
theorem flushed21 (t : Fin cfg0.N) : (dats m 0 c).flushed 21 t = aH2 m c := by
  have e : (dats m 0 c).flushed 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_21]
  rw [e, out0_21_eq, iblk0_eq, iblk1_eq, iblk2_eq, iblk3_eq, iblk4_eq, iblk5_eq, iblk6_eq, iblk7_eq, iblk8_eq, iblk9_eq, iblk10_eq, iblk11_eq, iblk12_eq, iblk13_eq, iblk14_eq]
  try rfl

/-- The array of the second residual rows, entry by entry. -/
theorem arr21_at (i : S32x8x1024.Idx) : (dats m 0 c).arrAt 21 cfg0.N i = (aH2 m c : Vec Ideal S32x8x1024 _) i := by
  have e : i = ((cfg0.win 21).blk t0).view.emb i := by
    show _ = (win0_21.rect t0).emb i
    funext a
    exact Fin.ext (Window.rect_emb_val_of_index_zero win0_21 t0 a (by fin_cases a <;> rfl) _).symm
  rw [e, (dats m 0 c).arrAt_emb_eq_flushed 21 Value.disjoint21 t0 (flush0_21 _), ← e]
  exact congrFun (flushed21 m c t0) i

/-- The array of the second residual rows. -/
theorem arr21 : (dats m 0 c).arrAt 21 cfg0.N = valH2 (aPar m c) (m ((c : Thread nD τ).loc main_arg0)) (m ((c : Thread nD τ).loc main_arg1)) := by
  refine funext fun (i : S32x8x1024.Idx) => (arr21_at m c i).trans ?_
  obtain ⟨b, p, d, rfl⟩ : ∃ (b : Fin 32) (p : Fin 8) (d : Fin 1024), i = ix3 b p d := ⟨i 0, i 1, i 2, by funext a; fin_cases a <;> rfl⟩
  exact congrFun (aH2_row m c b p) d

/-- What the grid point writes back of the context's codes. -/
theorem flushed22 (t : Fin cfg0.N) : (dats m 0 c).flushed 22 t = codesD (F := Ideal) (m ((c : Thread nD τ).loc main_arg0)) := by
  have e : (dats m 0 c).flushed 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_22]
  rw [e, out0_22_eq, iblk0_eq]
  try rfl

/-- The array of the context's codes, entry by entry. -/
theorem arr22_at (i : S32x8x1024.Idx) : (dats m 0 c).arrAt 22 cfg0.N i = (codesD (F := Ideal) (m ((c : Thread nD τ).loc main_arg0)) : Vec Ideal S32x8x1024 _) i := by
  have e : i = ((cfg0.win 22).blk t0).view.emb i := by
    show _ = (win0_22.rect t0).emb i
    funext a
    exact Fin.ext (Window.rect_emb_val_of_index_zero win0_22 t0 a (by fin_cases a <;> rfl) _).symm
  rw [e, (dats m 0 c).arrAt_emb_eq_flushed 22 Value.disjoint22 t0 (flush0_22 _), ← e]
  exact congrFun (flushed22 m c t0) i

/-- The array of the context's codes. -/
theorem arr22 : (dats m 0 c).arrAt 22 cfg0.N = valCq (m ((c : Thread nD τ).loc main_arg0)) := by
  refine funext fun (i : S32x8x1024.Idx) => (arr22_at m c i).trans ?_
  obtain ⟨b, p, d, rfl⟩ : ∃ (b : Fin 32) (p : Fin 8) (d : Fin 1024), i = ix3 b p d := ⟨i 0, i 1, i 2, by funext a; fin_cases a <;> rfl⟩
  exact codesD_apply (m ((c : Thread nD τ).loc main_arg0)) b p d

/-- What the grid point writes back of the context's scales. -/
theorem flushed23 (t : Fin cfg0.N) : (dats m 0 c).flushed 23 t = scalesD (F := Ideal) (m ((c : Thread nD τ).loc main_arg0)) := by
  have e : (dats m 0 c).flushed 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_23]
  rw [e, out0_23_eq, iblk0_eq]
  try rfl

/-- The array of the context's scales, entry by entry. -/
theorem arr23_at (i : S32x8.Idx) : (dats m 0 c).arrAt 23 cfg0.N i = (scalesD (F := Ideal) (m ((c : Thread nD τ).loc main_arg0)) : Vec Ideal S32x8 _) i := by
  have e : i = ((cfg0.win 23).blk t0).view.emb i := by
    show _ = (win0_23.rect t0).emb i
    funext a
    exact Fin.ext (Window.rect_emb_val_of_index_zero win0_23 t0 a (by fin_cases a <;> rfl) _).symm
  rw [e, (dats m 0 c).arrAt_emb_eq_flushed 23 Value.disjoint23 t0 (flush0_23 _), ← e]
  exact congrFun (flushed23 m c t0) i

/-- The array of the context's scales. -/
theorem arr23 : (dats m 0 c).arrAt 23 cfg0.N = valCs (m ((c : Thread nD τ).loc main_arg0)) := by
  refine funext fun (i : S32x8.Idx) => (arr23_at m c i).trans ?_
  obtain ⟨b, p, rfl⟩ : ∃ (b : Fin 32) (p : Fin 8), i = ix2 b p := ⟨i 0, i 1, by funext a; fin_cases a <;> rfl⟩
  exact scalesD_apply (m ((c : Thread nD τ).loc main_arg0)) b p

/-- What the grid point writes back of the first residual rows' codes. -/
theorem flushed24 (t : Fin cfg0.N) : (dats m 0 c).flushed 24 t = codesD (aH1 m c) := by
  have e : (dats m 0 c).flushed 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_24]
  rw [e, out0_24_eq, iblk0_eq, iblk1_eq, iblk2_eq, iblk3_eq, iblk4_eq, iblk5_eq, iblk6_eq]
  try rfl

/-- The array of the first residual rows' codes, entry by entry. -/
theorem arr24_at (i : S32x8x1024.Idx) : (dats m 0 c).arrAt 24 cfg0.N i = (codesD (aH1 m c) : Vec Ideal S32x8x1024 _) i := by
  have e : i = ((cfg0.win 24).blk t0).view.emb i := by
    show _ = (win0_24.rect t0).emb i
    funext a
    exact Fin.ext (Window.rect_emb_val_of_index_zero win0_24 t0 a (by fin_cases a <;> rfl) _).symm
  rw [e, (dats m 0 c).arrAt_emb_eq_flushed 24 Value.disjoint24 t0 (flush0_24 _), ← e]
  exact congrFun (flushed24 m c t0) i

/-- The array of the first residual rows' codes. -/
theorem arr24 : (dats m 0 c).arrAt 24 cfg0.N = valHq (aPar m c) (m ((c : Thread nD τ).loc main_arg0)) (m ((c : Thread nD τ).loc main_arg1)) := by
  refine funext fun (i : S32x8x1024.Idx) => (arr24_at m c i).trans ?_
  obtain ⟨b, p, d, rfl⟩ : ∃ (b : Fin 32) (p : Fin 8) (d : Fin 1024), i = ix3 b p d := ⟨i 0, i 1, i 2, by funext a; fin_cases a <;> rfl⟩
  exact (codesD_apply (aH1 m c) b p d).trans (congrArg (fun f => rowCode f d) (aH1_row m c b p))

/-- What the grid point writes back of the first residual rows' scales. -/
theorem flushed25 (t : Fin cfg0.N) : (dats m 0 c).flushed 25 t = scalesD (aH1 m c) := by
  have e : (dats m 0 c).flushed 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_25]
  rw [e, out0_25_eq, iblk0_eq, iblk1_eq, iblk2_eq, iblk3_eq, iblk4_eq, iblk5_eq, iblk6_eq]
  try rfl

/-- The array of the first residual rows' scales, entry by entry. -/
theorem arr25_at (i : S32x8.Idx) : (dats m 0 c).arrAt 25 cfg0.N i = (scalesD (aH1 m c) : Vec Ideal S32x8 _) i := by
  have e : i = ((cfg0.win 25).blk t0).view.emb i := by
    show _ = (win0_25.rect t0).emb i
    funext a
    exact Fin.ext (Window.rect_emb_val_of_index_zero win0_25 t0 a (by fin_cases a <;> rfl) _).symm
  rw [e, (dats m 0 c).arrAt_emb_eq_flushed 25 Value.disjoint25 t0 (flush0_25 _), ← e]
  exact congrFun (flushed25 m c t0) i

/-- The array of the first residual rows' scales. -/
theorem arr25 : (dats m 0 c).arrAt 25 cfg0.N = valHs (aPar m c) (m ((c : Thread nD τ).loc main_arg0)) (m ((c : Thread nD τ).loc main_arg1)) := by
  refine funext fun (i : S32x8.Idx) => (arr25_at m c i).trans ?_
  obtain ⟨b, p, rfl⟩ : ∃ (b : Fin 32) (p : Fin 8), i = ix2 b p := ⟨i 0, i 1, by funext a; fin_cases a <;> rfl⟩
  exact (scalesD_apply (aH1 m c) b p).trans (congrArg rowScale (aH1_row m c b p))

/-- What the grid point writes back of the hidden rows' codes. -/
theorem flushed26 (t : Fin cfg0.N) : (dats m 0 c).flushed 26 t = codesF (aU m c) := by
  have e : (dats m 0 c).flushed 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_26]
  rw [e, out0_26_eq, iblk0_eq, iblk1_eq, iblk2_eq, iblk3_eq, iblk4_eq, iblk5_eq, iblk6_eq, iblk7_eq, iblk8_eq, iblk9_eq]
  try rfl

/-- The array of the hidden rows' codes, entry by entry. -/
theorem arr26_at (i : S32x8x4096.Idx) : (dats m 0 c).arrAt 26 cfg0.N i = (codesF (aU m c) : Vec Ideal S32x8x4096 _) i := by
  have e : i = ((cfg0.win 26).blk t0).view.emb i := by
    show _ = (win0_26.rect t0).emb i
    funext a
    exact Fin.ext (Window.rect_emb_val_of_index_zero win0_26 t0 a (by fin_cases a <;> rfl) _).symm
  rw [e, (dats m 0 c).arrAt_emb_eq_flushed 26 Value.disjoint26 t0 (flush0_26 _), ← e]
  exact congrFun (flushed26 m c t0) i

/-- The array of the hidden rows' codes. -/
theorem arr26 : (dats m 0 c).arrAt 26 cfg0.N = valUq (aPar m c) (m ((c : Thread nD τ).loc main_arg0)) (m ((c : Thread nD τ).loc main_arg1)) := by
  refine funext fun (i : S32x8x4096.Idx) => (arr26_at m c i).trans ?_
  obtain ⟨b, p, d, rfl⟩ : ∃ (b : Fin 32) (p : Fin 8) (d : Fin 4096), i = ix3 b p d := ⟨i 0, i 1, i 2, by funext a; fin_cases a <;> rfl⟩
  exact (codesF_apply (aU m c) b p d).trans (congrArg (fun f => rowCode f d) (aU_row m c b p))

/-- What the grid point writes back of the hidden rows' scales. -/
theorem flushed27 (t : Fin cfg0.N) : (dats m 0 c).flushed 27 t = scalesF (aU m c) := by
  have e : (dats m 0 c).flushed 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
    rw [← after0_27]
  rw [e, out0_27_eq, iblk0_eq, iblk1_eq, iblk2_eq, iblk3_eq, iblk4_eq, iblk5_eq, iblk6_eq, iblk7_eq, iblk8_eq, iblk9_eq]
  try rfl

/-- The array of the hidden rows' scales, entry by entry. -/
theorem arr27_at (i : S32x8.Idx) : (dats m 0 c).arrAt 27 cfg0.N i = (scalesF (aU m c) : Vec Ideal S32x8 _) i := by
  have e : i = ((cfg0.win 27).blk t0).view.emb i := by
    show _ = (win0_27.rect t0).emb i
    funext a
    exact Fin.ext (Window.rect_emb_val_of_index_zero win0_27 t0 a (by fin_cases a <;> rfl) _).symm
  rw [e, (dats m 0 c).arrAt_emb_eq_flushed 27 Value.disjoint27 t0 (flush0_27 _), ← e]
  exact congrFun (flushed27 m c t0) i

/-- The array of the hidden rows' scales. -/
theorem arr27 : (dats m 0 c).arrAt 27 cfg0.N = valUs (aPar m c) (m ((c : Thread nD τ).loc main_arg0)) (m ((c : Thread nD τ).loc main_arg1)) := by
  refine funext fun (i : S32x8.Idx) => (arr27_at m c i).trans ?_
  obtain ⟨b, p, rfl⟩ : ∃ (b : Fin 32) (p : Fin 8), i = ix2 b p := ⟨i 0, i 1, by funext a; fin_cases a <;> rfl⟩
  exact (scalesF_apply (aU m c) b p).trans (congrArg rowScale (aU_row m c b p))

end Cert.FfnTail.Ref

end
-- ==== Proof.FfnTail.Equal.lean ====
/- THE SECOND EQUATION: from the same arguments the second kernel and its reference both run, and their nine results are
   the same arrays. -/
module

public import proofs.«01_k».proof.Proof.FfnTail.Run
public import proofs.«01_k».proof.Proof.FfnTail.RefRun
public import proofs.«01_k».proof.Defs

@[expose] public section

noncomputable section

namespace Cert.FfnTail

open Idealize.ShloMosaic Idealize.ShloMosaic.TcCoe Idealize.SL.Sem

section kernel

open Cert.TailIdeal Cert.TailIdeal.Gen

variable (m : (ℓ : Loc nD τ sig) → Buf (Elt Ideal) ℓ) (g : Dev nD → PrngReg)

/-- Result 1 as the mathematics of the kernel's arguments. -/
def res1 (c : Dev nD) := valScore (kPar m c) (m ((c : Thread nD τ).loc main_arg0)) (m ((c : Thread nD τ).loc main_arg1))

/-- Result 2 as the mathematics of the kernel's arguments. -/
def res2 (c : Dev nD) := valPool (kPar m c) (m ((c : Thread nD τ).loc main_arg0)) (m ((c : Thread nD τ).loc main_arg1))

/-- Result 3 as the mathematics of the kernel's arguments. -/
def res3 (c : Dev nD) := valH2 (kPar m c) (m ((c : Thread nD τ).loc main_arg0)) (m ((c : Thread nD τ).loc main_arg1))

/-- Result 4 as the mathematics of the kernel's arguments. -/
def res4 (c : Dev nD) := valCq (m ((c : Thread nD τ).loc main_arg0))

/-- Result 5 as the mathematics of the kernel's arguments. -/
def res5 (c : Dev nD) := valCs (m ((c : Thread nD τ).loc main_arg0))

/-- Result 6 as the mathematics of the kernel's arguments. -/
def res6 (c : Dev nD) := valHq (kPar m c) (m ((c : Thread nD τ).loc main_arg0)) (m ((c : Thread nD τ).loc main_arg1))

/-- Result 7 as the mathematics of the kernel's arguments. -/
def res7 (c : Dev nD) := valHs (kPar m c) (m ((c : Thread nD τ).loc main_arg0)) (m ((c : Thread nD τ).loc main_arg1))

/-- Result 8 as the mathematics of the kernel's arguments. -/
def res8 (c : Dev nD) := valUq (kPar m c) (m ((c : Thread nD τ).loc main_arg0)) (m ((c : Thread nD τ).loc main_arg1))

/-- Result 9 as the mathematics of the kernel's arguments. -/
def res9 (c : Dev nD) := valUs (kPar m c) (m ((c : Thread nD τ).loc main_arg0)) (m ((c : Thread nD τ).loc main_arg1))

set_option maxHeartbeats 4000000 in
/-- The kernel runs, ends with the nine results as the mathematics of its arguments, and leaves the arguments as they were. -/
theorem kernel_run : θ_run (defs (F := Ideal)) (onTc (τ := τ) (main (F := Ideal))) ⟨m, fun _ => 0, g⟩ fun r => ∀ c : Dev nD,
    r.2.mem ((c : Thread nD τ).loc main_v2) = res1 m c
    ∧ r.2.mem ((c : Thread nD τ).loc main_v3) = res2 m c
    ∧ r.2.mem ((c : Thread nD τ).loc main_v4) = res3 m c
    ∧ r.2.mem ((c : Thread nD τ).loc main_v5) = res4 m c
    ∧ r.2.mem ((c : Thread nD τ).loc main_v6) = res5 m c
    ∧ r.2.mem ((c : Thread nD τ).loc main_v7) = res6 m c
    ∧ r.2.mem ((c : Thread nD τ).loc main_v8) = res7 m c
    ∧ r.2.mem ((c : Thread nD τ).loc main_v9) = res8 m c
    ∧ r.2.mem ((c : Thread nD τ).loc main_v10) = res9 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18) :=
  (θ_run defs _ _).mono (fun _ h c => ⟨((h c).2 main_v2 (Pipeline.mem_restRefs_of main_v2 (by decide) (by decide))).trans (ret_v2 m c),
    ((h c).2 main_v3 (Pipeline.mem_restRefs_of main_v3 (by decide) (by decide))).trans (ret_v3 m c),
    ((h c).2 main_v4 (Pipeline.mem_restRefs_of main_v4 (by decide) (by decide))).trans (ret_v4 m c),
    ((h c).2 main_v5 (Pipeline.mem_restRefs_of main_v5 (by decide) (by decide))).trans (ret_v5 m c),
    ((h c).2 main_v6 (Pipeline.mem_restRefs_of main_v6 (by decide) (by decide))).trans (ret_v6 m c),
    ((h c).2 main_v7 (Pipeline.mem_restRefs_of main_v7 (by decide) (by decide))).trans (ret_v7 m c),
    ((h c).2 main_v8 (Pipeline.mem_restRefs_of main_v8 (by decide) (by decide))).trans (ret_v8 m c),
    ((h c).2 main_v9 (Pipeline.mem_restRefs_of main_v9 (by decide) (by decide))).trans (ret_v9 m c),
    ((h c).2 main_v10 (Pipeline.mem_restRefs_of main_v10 (by decide) (by decide))).trans (ret_v10 m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c))),
    ((h c).1 18).trans (((dats m 0 c).arrAt_in 18 rfl _).trans ((A_eq m c 18).trans (V_main_arg18 m c)))⟩) (run_main m g)

end kernel

/-- The second kernel and its reference, from the same arguments, end with the same nine results. -/
theorem algebraic : Cert.algebraic_TailIdeal_TailReferenceIdeal (hTailIdeal := Cert.TailIdeal.Gen.facts)
    (hTailReferenceIdeal := Cert.TailReferenceIdeal.Gen.facts) := by
  intro m g m' g' _ hargs
  refine ⟨res1 m, res2 m, res3 m, res4 m, res5 m, res6 m, res7 m, res8 m, res9 m, kernel_run m g, ?_⟩
  refine (θ_run Cert.TailReferenceIdeal.defs _ _).mono (fun r h c => ?_) (Cert.TailReferenceIdeal.Value.run_blocks m' g')
  obtain ⟨h1, h2, h3, h4, h5, h6, h7, h8, h9, hrest⟩ := h c
  obtain ⟨e0, e1, e2, e3, e4, e5, e6, e7, e8, e9, e10, e11, e12, e13, e14, e15, e16, e17, e18⟩ := hargs c
  have eP : Ref.aPar m' c = kPar m c := by
    unfold Ref.aPar kPar
    rw [e2, e3, e4, e5, e6, e7, e8, e9, e10, e11, e12, e13, e14, e15, e16, e17, e18]
  rw [Ref.arr19, eP, e0, e1] at h1
  rw [Ref.arr20, eP, e0, e1] at h2
  rw [Ref.arr21, eP, e0, e1] at h3
  rw [Ref.arr22, e0] at h4
  rw [Ref.arr23, e0] at h5
  rw [Ref.arr24, eP, e0, e1] at h6
  rw [Ref.arr25, eP, e0, e1] at h7
  rw [Ref.arr26, eP, e0, e1] at h8
  rw [Ref.arr27, eP, e0, e1] at h9
  exact ⟨h1, h2, h3, h4, h5, h6, h7, h8, h9, hrest⟩

end Cert.FfnTail

end
-- ==== Proof.Attn.Spec.lean ====
/- THE MATHEMATICS OF ONE HEAD'S ATTENTION for one token, over the extended reals: what both the kernel and the reference
   compute. -/
module

public import proofs.«01_k».proof.Proof.KV.Spec

@[expose] public section

noncomputable section

namespace Cert.Attend

open Idealize.ShloMosaic Idealize.ShloMosaic.Pointwise

/-- One past the last position of a token that starts at `a`, the next starting at `b`: at most 256 positions. -/
def stop (a b : BitVec 32) : BitVec 32 := Scalar.addi a (Scalar.minsi (Scalar.subi b a) 256#32)

/-- Whether position `s` is the token's: from its start to its stop. -/
def inTok (a b : BitVec 32) (s : Fin 2048) : BitVec 1 :=
  Scalar.andi (Scalar.cmpi .sge (BitVec.ofNat 32 s.val) a) (Scalar.cmpi .slt (BitVec.ofNat 32 s.val) b)

/-- The scores of the query `q` against the keys `k`, whose scales are `g`; outside the token they are minus infinity. -/
def score (q : Fin 64 → EReal) (k : Fin 64 → Fin 2048 → EReal) (g : Fin 2048 → EReal) (ok : Fin 2048 → BitVec 1) (s : Fin 2048) : EReal :=
  Scalar.select (ok s) ((∑ d : Fin 64, q d * k d s) * g s) (Ideal.ofBits .f32 0xFF800000#32)

/-- The largest of a row. -/
def top (f : Fin 2048 → EReal) : EReal := Finset.univ.fold max (Ideal.ofBits .f32 0xFF800000#32) f

/-- A row's exponentials, less its largest. -/
def expo (f : Fin 2048 → EReal) (s : Fin 2048) : EReal := Ideal.exp (f s - top f)

/-- The softmax of a row. -/
def soft (f : Fin 2048 → EReal) (s : Fin 2048) : EReal := Ideal.div (expo f s) (∑ t : Fin 2048, expo f t)

/-- The values `v`, whose scales are `g`, weighted by the softmax of the scores. -/
def mix (f : Fin 2048 → EReal) (g : Fin 2048 → EReal) (v : Fin 64 → Fin 2048 → EReal) (d : Fin 64) : EReal :=
  ∑ s : Fin 2048, (soft f s * g s) * v d s

/-! ## The result -/

/-- The column of a row of 1024 that holds entry `d` of head `h`. -/
def colOf (h : Fin 16) (d : Fin 64) : Fin 1024 := ⟨64 * h.val + d.val, by omega⟩

/-- The row of `q` of token `p` of sequence `b`. -/
def tokOf (b : Fin 32) (p : Fin 8) : Fin 256 := ⟨8 * b.val + p.val, by omega⟩

/-- The scores of token `p` of sequence `b`, by head `h`. -/
def specScore (C : (⟨2, ![32, 9]⟩ : Shape).Idx → BitVec 32) (Q : (⟨2, ![256, 1024]⟩ : Shape).Idx → EReal) (K : (⟨3, ![32, 1024, 2048]⟩ : Shape).Idx → EReal)
    (S : (⟨3, ![32, 16, 2048]⟩ : Shape).Idx → EReal) (b : Fin 32) (p : Fin 8) (h : Fin 16) : Fin 2048 → EReal :=
  score (fun d => Q (ix2 (tokOf b p) (colOf h d))) (fun d s => K (ix3 b (colOf h d) s)) (fun s => S (ix3 b h s))
    (inTok (C (ix2 b p.castSucc)) (stop (C (ix2 b p.castSucc)) (C (ix2 b p.succ))))

/-- The context: every token's values, head by head. -/
def valCtx (C : (⟨2, ![32, 9]⟩ : Shape).Idx → BitVec 32) (Q : (⟨2, ![256, 1024]⟩ : Shape).Idx → EReal) (K : (⟨3, ![32, 1024, 2048]⟩ : Shape).Idx → EReal)
    (S : (⟨3, ![32, 16, 2048]⟩ : Shape).Idx → EReal) (V : (⟨3, ![32, 1024, 2048]⟩ : Shape).Idx → EReal) (R : (⟨3, ![32, 16, 2048]⟩ : Shape).Idx → EReal) :
    (⟨3, ![32, 8, 1024]⟩ : Shape).Idx → EReal := fun i =>
  mix (specScore C Q K S (i 0) (i 1) (Cert.KV.headOf (i 2))) (fun s => R (ix3 (i 0) (Cert.KV.headOf (i 2)) s))
    (fun d s => V (ix3 (i 0) (colOf (Cert.KV.headOf (i 2)) d) s)) (Cert.KV.inHead (i 2))

end Cert.Attend

end
-- ==== Proof.Attn.Vocab.lean ====
/- THE ATTENTION CALL'S BODY IN ITS OWN WORDS: the mask, the rows of four heads one above the other, their softmax and the
   block each head keeps of the product with the values, each stated once for the four groups of heads. -/
module

public import proofs.«01_k».proof.Proof.Attn.Spec
public import proofs.«01_k».proof.Proof.Gen.AttnIdeal.Frame

@[expose] public section

noncomputable section

namespace Cert.Attend

open Cert.AttnIdeal Cert.AttnIdeal.Gen Idealize.ShloMosaic

variable {F : FTy → Type} [FloatOps F]

/-! ## The mask -/

/-- Each position of a row. -/
def posI : IVec S32x2048 32 := iota .tc S32x2048 32 [1] iota_S32x2048_d1_w32

/-- The positions of the rows of token `p`, among those already marked. -/
def mark (v : IVec S32x2048 1) (p : BitVec 32) (a b : BitVec 32) : IVec S32x2048 1 :=
  ori v (andi (andi (cmpi .eq k0_pay2 (broadcast S32x2048 p)) (cmpi .sge posI (broadcast S32x2048 a))) (cmpi .slt posI (broadcast S32x2048 (stop a b))))

/-- The positions of every row's token. -/
def maskB (u0 u1 u2 u3 u4 u5 u6 u7 u8 : BitVec 32) : IVec S32x2048 1 :=
  mark (mark (mark (mark (mark (mark (mark (mark (broadcast S32x2048 0#1) 0#32 u0 u1) 1#32 u1 u2) 2#32 u2 u3) 3#32 u3 u4) 4#32 u4 u5) 5#32 u5 u6) 6#32 u6 u7) 7#32 u7 u8

/-- The entries of a row that belong to its head. -/
def diagB : IVec S32x256 1 :=
  k0_pay14 k0_pay10 (iota .tc S32x256 32 [1] iota_S32x256_d1_w32) 64#32 k0_pay11 k0_pay12 k0_pay13

/-! ## One group of four heads -/

/-- The queries of eight tokens four times over, each copy keeping its own head's entries. -/
def lhsG (q : FVec F S8x256 .bf16) : FVec F S32x256 .bf16 :=
  truncf .bf16 (select diagB (concatenate S32x256 0 [⟨S8x256, extf .f32 q bitsLt_bf16_f32⟩, ⟨S8x256, extf .f32 q bitsLt_bf16_f32⟩, ⟨S8x256, extf .f32 q bitsLt_bf16_f32⟩, ⟨S8x256, extf .f32 q bitsLt_bf16_f32⟩] concatenates_S8x256_S8x256_S8x256_S8x256_S32x256_d0)
    (broadcast S32x256 (Scalar.ofBits .f32 0x00000000#32))) bitsLt_bf16_f32

/-- A head's scales, for eight tokens. -/
def rowG (a : Vec F S1x1x2048 .f32) : FVec F S8x2048 .f32 :=
  broadcastTo S8x2048 (shapeCast S1x2048 (shapeCast S1x2048 a shapeCasts_S1x1x2048_S1x2048) shapeCasts_S1x2048_S1x2048) broadcasts_S1x2048_S8x2048

/-- Four heads' scales, one above the other. -/
def repG (a0 a1 a2 a3 : Vec F S1x1x2048 .f32) : FVec F S32x2048 .f32 :=
  concatenate S32x2048 0 [⟨S8x2048, rowG a0⟩, ⟨S8x2048, rowG a1⟩, ⟨S8x2048, rowG a2⟩, ⟨S8x2048, rowG a3⟩] concatenates_S8x2048_S8x2048_S8x2048_S8x2048_S32x2048_d0

/-- The scores, those outside the mask at the least value. -/
def scoreG (mask : IVec S32x2048 1) (l : FVec F S32x256 .bf16) (k : Vec F S1x256x2048 .fp8e4m3) (r : FVec F S32x2048 .f32) : FVec F S32x2048 .f32 :=
  select mask (mulf (matmul dot_S32x256_S256x2048_S32x2048_1_0_0_1_n_n none l
      (shapeCast S256x2048 k shapeCasts_S1x256x2048_S256x2048 : FVec F S256x2048 .fp8e4m3) (constant S32x2048 .f32 0x00000000#32)) r)
    (broadcast S32x2048 (Scalar.ofBits .f32 0xFF800000#32))

/-- The exponentials of each row less its largest. -/
def expG (s : FVec F S32x2048 .f32) : FVec F S32x2048 .f32 :=
  exp (subf s (broadcastTo S32x2048 (shapeCast S32x1 (multiReduction .maximumf [1] S32 s 0xFF800000#32 reduces_S32x2048_S32 (.inl rfl) rfl) shapeCasts_S32_S32x1) broadcasts_S32x1_S32x2048))

/-- Each row over its sum. -/
def normG (e : FVec F S32x2048 .f32) : FVec F S32x2048 .f32 :=
  divf e (broadcastTo S32x2048 (shapeCast S32x1 (multiReduction .add [1] S32 e 0x00000000#32 reduces_S32x2048_S32 (.inl rfl) rfl) shapeCasts_S32_S32x1) broadcasts_S32x1_S32x2048)

/-- The product with the values, each row keeping its own head's entries. -/
def oG (p r : FVec F S32x2048 .f32) (v : Vec F S1x256x2048 .fp8e4m3) : FVec F S32x256 .f32 :=
  select diagB (matmul dot_S32x2048_S256x2048_S32x256_1_1_0_0_n_n none (truncf .bf16 (mulf p r) bitsLt_bf16_f32)
      (shapeCast S256x2048 v shapeCasts_S1x256x2048_S256x2048 : FVec F S256x2048 .fp8e4m3) (constant S32x256 .f32 0x00000000#32))
    (broadcast S32x256 (Scalar.ofBits .f32 0x00000000#32))

/-- The four copies of the eight tokens, summed. -/
def outG (o : FVec F S32x256 .f32) : FVec F S1x8x256 .f32 :=
  shapeCast S1x8x256 (addf (addf (addf (extractStridedSlice S8x256 ![0, 0] o slices_S32x256_o0_0_S8x256) (extractStridedSlice S8x256 ![8, 0] o slices_S32x256_o8_0_S8x256))
    (extractStridedSlice S8x256 ![16, 0] o slices_S32x256_o16_0_S8x256)) (extractStridedSlice S8x256 ![24, 0] o slices_S32x256_o24_0_S8x256)) shapeCasts_S8x256_S1x8x256

/-- A group's result. -/
def groupG (mask : IVec S32x2048 1) (q : FVec F S8x256 .bf16) (k : Vec F S1x256x2048 .fp8e4m3) (a0 a1 a2 a3 : Vec F S1x1x2048 .f32)
    (v : Vec F S1x256x2048 .fp8e4m3) (b0 b1 b2 b3 : Vec F S1x1x2048 .f32) : FVec F S1x8x256 .f32 :=
  outG (oG (normG (expG (scoreG mask (lhsG q) k (repG a0 a1 a2 a3)))) (repG b0 b1 b2 b3) v)

/-- The tokens' queries. -/
def qB (x : Vec F S1x8x1024 .bf16) : FVec F S8x1024 .bf16 := shapeCast S8x1024 x shapeCasts_S1x8x1024_S8x1024

end Cert.Attend

end
-- ==== Proof.Attn.Stores.lean ====
/- THE PRINTED BODY IS THE ATTENTION CALL'S OWN WORDS: what the output window's buffer holds after one grid point, as four
   stores of `Vocab`'s function of the input blocks. -/
module

public import proofs.«01_k».proof.Proof.Attn.Vocab
public import Idealize.ShloMosaic.Lib.Pipeline.Value

@[expose] public section

set_option maxRecDepth 16384

noncomputable section

namespace Cert.Attend

open Cert.AttnIdeal Cert.AttnIdeal.Gen Idealize.ShloMosaic

variable {F : FTy → Type} [FloatOps F]

/-- The word of the first row of a one-by-one block. -/
def wordAt (x : Vec F S32x9 .i32) (off : Fin 2 → ℕ) (inb : ∀ a, off a + S1x1.size a ≤ S32x9.size a) : BitVec 32 :=
  View.ld x (Rect.unit (s := S32x9) off S1x1.size inb) (Shape.Idx.first (s := S1x1) (by decide))

/-- The mask at a grid point. -/
def maskAt (i : grid0.Coords) (x : Vec F S32x9 .i32) : IVec S32x2048 1 :=
  maskB (wordAt x (k0_off1 i) (k0_off1_inb i)) (wordAt x (k0_off2 i) (k0_off2_inb i)) (wordAt x (k0_off3 i) (k0_off3_inb i))
    (wordAt x (k0_off4 i) (k0_off4_inb i)) (wordAt x (k0_off5 i) (k0_off5_inb i)) (wordAt x (k0_off6 i) (k0_off6_inb i))
    (wordAt x (k0_off7 i) (k0_off7_inb i)) (wordAt x (k0_off8 i) (k0_off8_inb i)) (wordAt x (k0_off9 i) (k0_off9_inb i))

/-- What a load reads of a whole buffer. -/
theorem readAt_unread {sp : Space} {s : Shape} {e : EltTy} (a : Memref sig .tc sp s e) (h : a.IsWhole) (x : Vec F s e) (r : Rect s) :
    View.readAt (Elt F) a.view r.toLoadRect (h.unread x) = View.ld x r := by
  show View.ld (a.view.read (Elt F) (h.unread x)) r = _
  rw [h.read_unread]

variable (c : Dev nD) (i : grid0.Coords) (arg1 : Memref sig .tc .smem S32x9 .i32) (harg1 : arg1.IsWhole) (arg2 : Memref sig .tc .vmem S1x8x1024 .bf16) (harg2 : arg2.IsWhole)
  (arg3 : Memref sig .tc .vmem S1x1024x2048 .fp8e4m3) (harg3 : arg3.IsWhole) (arg4 : Memref sig .tc .vmem S1x16x2048 .f32) (harg4 : arg4.IsWhole)
  (arg5 : Memref sig .tc .vmem S1x1024x2048 .fp8e4m3) (harg5 : arg5.IsWhole) (arg6 : Memref sig .tc .vmem S1x16x2048 .f32) (harg6 : arg6.IsWhole)
  (arg7 : Memref sig .tc .vmem S1x8x1024 .f32) (harg7 : arg7.IsWhole)
  (x0 : Vec F S32x9 .i32) (x1 : Vec F S1x8x1024 .bf16) (x2 : Vec F S1x1024x2048 .fp8e4m3) (x3 : Vec F S1x16x2048 .f32) (x4 : Vec F S1x1024x2048 .fp8e4m3) (x5 : Vec F S1x16x2048 .f32)

/-- The first token's mark. -/
theorem pay3_eq (u0 u1 : BitVec 32) : k0_pay3 (F := F) u0 u1 = mark (broadcast S32x2048 0#1) 0#32 u0 u1 := rfl

/-- The next three tokens' marks. -/
theorem pay5_eq (w : IVec S32x2048 1) (a b d e : BitVec 32) :
    k0_pay5 (F := F) k0_pay2 posI w a (stop a b) k0_pay4 b d d e = mark (mark (mark w 1#32 a b) 2#32 b d) 3#32 d e := rfl

/-- Three more. -/
theorem pay7_eq (w : IVec S32x2048 1) (a b d e : BitVec 32) :
    k0_pay7 (F := F) k0_pay2 posI w a (stop a b) (k0_pay6 k0_pay2) b d d e = mark (mark (mark w 4#32 a b) 5#32 b d) 6#32 d e := rfl

/-- The last. -/
theorem pay9_eq (w : IVec S32x2048 1) (a b : BitVec 32) : k0_pay9 (F := F) posI w a (stop a b) (k0_pay8 k0_pay2) = mark w 7#32 a b := rfl

/-- A word of the array of starts, as the body loads it. -/
theorem word_eq (off : Fin 2 → ℕ) (inb : ∀ a, off a + S1x1.size a ≤ S32x9.size a) :
    View.readAt (Elt F) arg1.view (Rect.unit (s := S32x9) off S1x1.size inb).toLoadRect (harg1.unread x0) (Shape.Idx.first (s := S1x1) (by decide)) = wordAt x0 off inb := by
  rw [readAt_unread]
  rfl

/-- The mask the body carries from part to part. -/
theorem mask_eq : kernelRun0_A.sl.r_12 c i arg1 harg1 x0 = maskAt i x0 := by
  unfold maskAt maskB
  rw [← pay9_eq (F := F), ← pay7_eq (F := F), ← pay5_eq (F := F), ← pay3_eq (F := F),
    ← word_eq arg1 harg1 x0 (k0_off1 i) (k0_off1_inb i), ← word_eq arg1 harg1 x0 (k0_off2 i) (k0_off2_inb i), ← word_eq arg1 harg1 x0 (k0_off3 i) (k0_off3_inb i),
    ← word_eq arg1 harg1 x0 (k0_off4 i) (k0_off4_inb i), ← word_eq arg1 harg1 x0 (k0_off5 i) (k0_off5_inb i), ← word_eq arg1 harg1 x0 (k0_off6 i) (k0_off6_inb i),
    ← word_eq arg1 harg1 x0 (k0_off7 i) (k0_off7_inb i), ← word_eq arg1 harg1 x0 (k0_off8 i) (k0_off8_inb i), ← word_eq arg1 harg1 x0 (k0_off9 i) (k0_off9_inb i)]
  rfl

section groups

variable (w : IVec S32x2048 1) (x : Vec F S1x8x1024 .bf16) (k v : Vec F S1x256x2048 .fp8e4m3) (a0 a1 a2 a3 b0 b1 b2 b3 : Vec F S1x1x2048 .f32)

/-- The first group's printed words. -/
theorem group0_eq : k0_pay20 (k0_pay17 w diagB (k0_pay15 k0_pay10 (iota .tc S32x256 32 [1] iota_S32x256_d1_w32) 64#32 k0_pay11 k0_pay12 k0_pay13 x k) (k0_pay16 a0 a1 a2 a3) b0 b1 b2 b3 v)
      (k0_pay18 w diagB (k0_pay15 k0_pay10 (iota .tc S32x256 32 [1] iota_S32x256_d1_w32) 64#32 k0_pay11 k0_pay12 k0_pay13 x k) (k0_pay16 a0 a1 a2 a3) b0 b1 b2 b3 v)
      (k0_pay19 w diagB (k0_pay15 k0_pay10 (iota .tc S32x256 32 [1] iota_S32x256_d1_w32) 64#32 k0_pay11 k0_pay12 k0_pay13 x k) (k0_pay16 a0 a1 a2 a3) b0 b1 b2 b3 v)
    = groupG w (extractStridedSlice S8x256 ![0, 0] (qB x) slices_S8x1024_o0_0_S8x256) k a0 a1 a2 a3 v b0 b1 b2 b3 := rfl

/-- The second's. -/
theorem group1_eq : k0_pay25 (k0_pay23 w diagB (k0_pay21 diagB x k a0 a1 a2 a3) (Scalar.ofBits .f32 0xFF800000#32) b0 b1 b2 b3 v)
      (k0_pay24 w diagB (k0_pay21 diagB x k a0 a1 a2 a3) (Scalar.ofBits .f32 0xFF800000#32) b0 b1 b2 b3 v)
    = groupG w (extractStridedSlice S8x256 ![0, 256] (qB x) slices_S8x1024_o0_256_S8x256) k a0 a1 a2 a3 v b0 b1 b2 b3 := rfl

/-- The third's. -/
theorem group2_eq : k0_pay28 (k0_pay27 diagB (k0_pay26 w diagB x k a0 a1 a2 a3) b0 b1 b2 b3 v)
    = groupG w (extractStridedSlice S8x256 ![0, 512] (qB x) slices_S8x1024_o0_512_S8x256) k a0 a1 a2 a3 v b0 b1 b2 b3 := rfl

/-- The fourth's. -/
theorem group3_eq : k0_pay1 (k0_pay31 diagB (k0_pay29 w diagB x k a0 a1 a2 a3) (k0_pay30 w diagB x k a0 a1 a2 a3) b0 b1 b2 b3 v)
    = groupG w (extractStridedSlice S8x256 ![0, 768] (qB x) slices_S8x1024_o0_768_S8x256) k a0 a1 a2 a3 v b0 b1 b2 b3 := rfl

end groups

/-- The tokens' queries, loaded whole. -/
theorem ldq : View.ld x1 (Rect.unit (s := S1x8x1024) ![0, 0, 0] S1x8x1024.size inb_S1x8x1024_S1x8x1024_0_0_0) = x1 :=
  View.ld_unit_zero (S := S1x8x1024) (off := ![0, 0, 0]) (by funext a; fin_cases a <;> rfl) _ _

/-- The group's queries, keys, values and scales as the body loads them. -/
def grp (i : grid0.Coords) (x0 : Vec F S32x9 .i32) (q : FVec F S8x256 .bf16) (x2 : Vec F S1x1024x2048 .fp8e4m3) (x3 : Vec F S1x16x2048 .f32) (x4 : Vec F S1x1024x2048 .fp8e4m3) (x5 : Vec F S1x16x2048 .f32)
    (o h0 h1 h2 h3 : ℕ) (ho : ∀ a, (![0, o, 0] : Fin 3 → ℕ) a + S1x256x2048.size a ≤ S1x1024x2048.size a)
    (e0 : ∀ a, (![0, h0, 0] : Fin 3 → ℕ) a + S1x1x2048.size a ≤ S1x16x2048.size a) (e1 : ∀ a, (![0, h1, 0] : Fin 3 → ℕ) a + S1x1x2048.size a ≤ S1x16x2048.size a)
    (e2 : ∀ a, (![0, h2, 0] : Fin 3 → ℕ) a + S1x1x2048.size a ≤ S1x16x2048.size a) (e3 : ∀ a, (![0, h3, 0] : Fin 3 → ℕ) a + S1x1x2048.size a ≤ S1x16x2048.size a) : FVec F S1x8x256 .f32 :=
  groupG (maskAt i x0) q (View.ld x2 (Rect.unit (s := S1x1024x2048) ![0, o, 0] S1x256x2048.size ho))
    (View.ld x3 (Rect.unit (s := S1x16x2048) ![0, h0, 0] S1x1x2048.size e0)) (View.ld x3 (Rect.unit (s := S1x16x2048) ![0, h1, 0] S1x1x2048.size e1))
    (View.ld x3 (Rect.unit (s := S1x16x2048) ![0, h2, 0] S1x1x2048.size e2)) (View.ld x3 (Rect.unit (s := S1x16x2048) ![0, h3, 0] S1x1x2048.size e3))
    (View.ld x4 (Rect.unit (s := S1x1024x2048) ![0, o, 0] S1x256x2048.size ho))
    (View.ld x5 (Rect.unit (s := S1x16x2048) ![0, h0, 0] S1x1x2048.size e0)) (View.ld x5 (Rect.unit (s := S1x16x2048) ![0, h1, 0] S1x1x2048.size e1))
    (View.ld x5 (Rect.unit (s := S1x16x2048) ![0, h2, 0] S1x1x2048.size e2)) (View.ld x5 (Rect.unit (s := S1x16x2048) ![0, h3, 0] S1x1x2048.size e3))

/-- Store 0 of the body. -/
theorem store0_eq : k0_pay20 (kernelRun0_A.sl.r_16 c i arg1 harg1 arg2 harg2 arg3 harg3 arg4 harg4 arg5 harg5 arg6 harg6 x0 x1 x2 x3 x4 x5) (kernelRun0_A.sl.r_17 c i arg1 harg1 arg2 harg2 arg3 harg3 arg4 harg4 arg5 harg5 arg6 harg6 x0 x1 x2 x3 x4 x5) (kernelRun0_A.sl.r_18 c i arg1 harg1 arg2 harg2 arg3 harg3 arg4 harg4 arg5 harg5 arg6 harg6 x0 x1 x2 x3 x4 x5) =
    grp i x0 (extractStridedSlice S8x256 ![0, 0] (qB x1) slices_S8x1024_o0_0_S8x256) x2 x3 x4 x5 0 0 1 2 3 inb_S1x1024x2048_S1x256x2048_0_0_0
      inb_S1x16x2048_S1x1x2048_0_0_0 inb_S1x16x2048_S1x1x2048_0_1_0 inb_S1x16x2048_S1x1x2048_0_2_0 inb_S1x16x2048_S1x1x2048_0_3_0 := by
  refine (group0_eq (kernelRun0_A.sl.r_12 c i arg1 harg1 x0) _ _ _ _ _ _ _ _ _ _ _).trans ?_
  rw [mask_eq]
  simp only [readAt_unread]
  rw [ldq]
  rfl

/-- Store 1 of the body. -/
theorem store1_eq : k0_pay25 (kernelRun0_A.sl.r_20 c i arg1 harg1 arg2 harg2 arg3 harg3 arg4 harg4 arg5 harg5 arg6 harg6 x0 x1 x2 x3 x4 x5) (kernelRun0_A.sl.r_21 c i arg1 harg1 arg2 harg2 arg3 harg3 arg4 harg4 arg5 harg5 arg6 harg6 x0 x1 x2 x3 x4 x5) =
    grp i x0 (extractStridedSlice S8x256 ![0, 256] (qB x1) slices_S8x1024_o0_256_S8x256) x2 x3 x4 x5 256 4 5 6 7 inb_S1x1024x2048_S1x256x2048_0_256_0
      inb_S1x16x2048_S1x1x2048_0_4_0 inb_S1x16x2048_S1x1x2048_0_5_0 inb_S1x16x2048_S1x1x2048_0_6_0 inb_S1x16x2048_S1x1x2048_0_7_0 := by
  refine (group1_eq (kernelRun0_A.sl.r_12 c i arg1 harg1 x0) _ _ _ _ _ _ _ _ _ _ _).trans ?_
  rw [mask_eq]
  simp only [readAt_unread]
  rw [ldq]
  rfl

/-- Store 2 of the body. -/
theorem store2_eq : k0_pay28 (kernelRun0_A.sl.r_23 c i arg1 harg1 arg2 harg2 arg3 harg3 arg4 harg4 arg5 harg5 arg6 harg6 x0 x1 x2 x3 x4 x5) =
    grp i x0 (extractStridedSlice S8x256 ![0, 512] (qB x1) slices_S8x1024_o0_512_S8x256) x2 x3 x4 x5 512 8 9 10 11 inb_S1x1024x2048_S1x256x2048_0_512_0
      inb_S1x16x2048_S1x1x2048_0_8_0 inb_S1x16x2048_S1x1x2048_0_9_0 inb_S1x16x2048_S1x1x2048_0_10_0 inb_S1x16x2048_S1x1x2048_0_11_0 := by
  refine (group2_eq (kernelRun0_A.sl.r_12 c i arg1 harg1 x0) _ _ _ _ _ _ _ _ _ _ _).trans ?_
  rw [mask_eq]
  simp only [readAt_unread]
  rw [ldq]
  rfl

/-- Store 3 of the body. -/
theorem store3_eq : k0_pay1 (kernelRun0_A.sl.r_26 c i arg1 harg1 arg2 harg2 arg3 harg3 arg4 harg4 arg5 harg5 arg6 harg6 x0 x1 x2 x3 x4 x5) =
    grp i x0 (extractStridedSlice S8x256 ![0, 768] (qB x1) slices_S8x1024_o0_768_S8x256) x2 x3 x4 x5 768 12 13 14 15 inb_S1x1024x2048_S1x256x2048_0_768_0
      inb_S1x16x2048_S1x1x2048_0_12_0 inb_S1x16x2048_S1x1x2048_0_13_0 inb_S1x16x2048_S1x1x2048_0_14_0 inb_S1x16x2048_S1x1x2048_0_15_0 := by
  refine (group3_eq (kernelRun0_A.sl.r_12 c i arg1 harg1 x0) _ _ _ _ _ _ _ _ _ _ _).trans ?_
  rw [mask_eq]
  simp only [readAt_unread]
  rw [ldq]
  rfl

/-- The output buffer: four stores, one per group of four heads. -/
theorem out0_eq : out0_A_6 c i arg1 harg1 arg2 harg2 arg3 harg3 arg4 harg4 arg5 harg5 arg6 harg6 arg7 harg7 x0 x1 x2 x3 x4 x5 = View.canon
    [⟨Rect.unit (s := S1x8x1024) ![0, 0, 768] S1x8x256.size inb_S1x8x1024_S1x8x256_0_0_768,
        grp i x0 (extractStridedSlice S8x256 ![0, 768] (qB x1) slices_S8x1024_o0_768_S8x256) x2 x3 x4 x5 768 12 13 14 15 inb_S1x1024x2048_S1x256x2048_0_768_0
          inb_S1x16x2048_S1x1x2048_0_12_0 inb_S1x16x2048_S1x1x2048_0_13_0 inb_S1x16x2048_S1x1x2048_0_14_0 inb_S1x16x2048_S1x1x2048_0_15_0⟩,
      ⟨Rect.unit (s := S1x8x1024) ![0, 0, 512] S1x8x256.size inb_S1x8x1024_S1x8x256_0_0_512,
        grp i x0 (extractStridedSlice S8x256 ![0, 512] (qB x1) slices_S8x1024_o0_512_S8x256) x2 x3 x4 x5 512 8 9 10 11 inb_S1x1024x2048_S1x256x2048_0_512_0
          inb_S1x16x2048_S1x1x2048_0_8_0 inb_S1x16x2048_S1x1x2048_0_9_0 inb_S1x16x2048_S1x1x2048_0_10_0 inb_S1x16x2048_S1x1x2048_0_11_0⟩,
      ⟨Rect.unit (s := S1x8x1024) ![0, 0, 256] S1x8x256.size inb_S1x8x1024_S1x8x256_0_0_256,
        grp i x0 (extractStridedSlice S8x256 ![0, 256] (qB x1) slices_S8x1024_o0_256_S8x256) x2 x3 x4 x5 256 4 5 6 7 inb_S1x1024x2048_S1x256x2048_0_256_0
          inb_S1x16x2048_S1x1x2048_0_4_0 inb_S1x16x2048_S1x1x2048_0_5_0 inb_S1x16x2048_S1x1x2048_0_6_0 inb_S1x16x2048_S1x1x2048_0_7_0⟩,
      ⟨Rect.unit (s := S1x8x1024) ![0, 0, 0] S1x8x256.size inb_S1x8x1024_S1x8x256_0_0_0,
        grp i x0 (extractStridedSlice S8x256 ![0, 0] (qB x1) slices_S8x1024_o0_0_S8x256) x2 x3 x4 x5 0 0 1 2 3 inb_S1x1024x2048_S1x256x2048_0_0_0
          inb_S1x16x2048_S1x1x2048_0_0_0 inb_S1x16x2048_S1x1x2048_0_1_0 inb_S1x16x2048_S1x1x2048_0_2_0 inb_S1x16x2048_S1x1x2048_0_3_0⟩] := by
  unfold out0_A_6
  rw [View.read_writes_junk_eq_canon]
  rw [← store0_eq c i arg1 harg1 arg2 harg2 arg3 harg3 arg4 harg4 arg5 harg5 arg6 harg6 x0 x1 x2 x3 x4 x5,
    ← store1_eq c i arg1 harg1 arg2 harg2 arg3 harg3 arg4 harg4 arg5 harg5 arg6 harg6 x0 x1 x2 x3 x4 x5,
    ← store2_eq c i arg1 harg1 arg2 harg2 arg3 harg3 arg4 harg4 arg5 harg5 arg6 harg6 x0 x1 x2 x3 x4 x5,
    ← store3_eq c i arg1 harg1 arg2 harg2 arg3 harg3 arg4 harg4 arg5 harg5 arg6 harg6 x0 x1 x2 x3 x4 x5]
  rfl

end Cert.Attend

end
-- ==== Proof.Attn.Read.lean ====
/- THE ATTENTION CALL'S WORDS READ AT AN INDEX, over the extended reals. -/
module

public import proofs.«01_k».proof.Proof.Attn.Vocab
public import Idealize.ShloMosaic.Lib.Pipeline.Value

@[expose] public section

noncomputable section

namespace Cert.Attend

open Cert.AttnIdeal Cert.AttnIdeal.Gen Idealize.ShloMosaic Idealize.ShloMosaic.Pointwise

/-- The row of copy `j` of token `p`. -/
def rowAt (j : Fin 4) (p : Fin 8) : Fin 32 := ⟨8 * j.val + p.val, by omega⟩

/-- The column of entry `d` of the group's head `j`. -/
def colAt (j : Fin 4) (d : Fin 64) : Fin 256 := ⟨64 * j.val + d.val, by omega⟩

/-! ## The masks -/

/-- Which token a row is of. -/
theorem pay2_first : ∀ r : Fin 32, k0_pay2 (ix2 r (0 : Fin 2048)) = BitVec.ofNat 32 (r.val % 8) := by decide +kernel

/-- The same at every position. -/
theorem pay2_apply (j : Fin 4) (p : Fin 8) (s : Fin 2048) : k0_pay2 (ix2 (rowAt j p) s) = BitVec.ofNat 32 p.val := by
  have e : k0_pay2 (ix2 (rowAt j p) s) = k0_pay2 (ix2 (rowAt j p) (0 : Fin 2048)) := rfl
  rw [e, pay2_first]
  exact congrArg (BitVec.ofNat 32) (by show (8 * j.val + p.val) % 8 = p.val; omega)

/-- A mark at a position. -/
theorem mark_apply (v : IVec S32x2048 1) (n : BitVec 32) (a b : BitVec 32) (j : Fin 4) (p : Fin 8) (s : Fin 2048) :
    mark v n a b (ix2 (rowAt j p) s) = Scalar.ori (v (ix2 (rowAt j p) s)) (Scalar.andi (Scalar.andi (Scalar.cmpi .eq (BitVec.ofNat 32 p.val) n)
      (Scalar.cmpi .sge (BitVec.ofNat 32 s.val) a)) (Scalar.cmpi .slt (BitVec.ofNat 32 s.val) (stop a b))) := by
  rw [← pay2_apply j p s]
  have e : posI (ix2 (rowAt j p) s) = BitVec.ofNat 32 s.val := by pointwise [posI]
  rw [← e]
  rfl

/-- Whether a row's entry belongs to its head. -/
theorem diagB_apply : ∀ (r : Fin 32) (e : Fin 256), diagB (ix2 r e) = if r.val / 8 = e.val / 64 then 1#1 else 0#1 := by decide +kernel

/-! ## The rows of four heads -/

/-- The queries. -/
theorem lhsG_apply (q : FVec Ideal S8x256 .bf16) (j : Fin 4) (p : Fin 8) (e : Fin 256) :
    lhsG q (ix2 (rowAt j p) e) = Scalar.select (diagB (ix2 (rowAt j p) e)) (q (ix2 p e)) (Scalar.ofBits .f32 0x00000000#32 : Ideal .f32) := by
  have h : (concatenate S32x256 0 [⟨S8x256, extf .f32 q bitsLt_bf16_f32⟩, ⟨S8x256, extf .f32 q bitsLt_bf16_f32⟩, ⟨S8x256, extf .f32 q bitsLt_bf16_f32⟩, ⟨S8x256, extf .f32 q bitsLt_bf16_f32⟩] concatenates_S8x256_S8x256_S8x256_S8x256_S32x256_d0 : FVec Ideal S32x256 .f32)
      (ix2 (rowAt j p) e) = q (ix2 p e) :=
    concatenate_ofFn_apply (t := S32x256) (s₁ := S8x256) 0 (N := 4) (fun _ => extf .f32 q bitsLt_bf16_f32) concatenates_S8x256_S8x256_S8x256_S8x256_S32x256_d0 rfl 8 rfl _ j
      (by show (8 * j.val + p.val) / 8 = j.val; omega) (ix2 p e) (by show p.val = (8 * j.val + p.val) % 8; omega)
      (fun b hb => by fin_cases b <;> first | exact absurd rfl hb | rfl)
  rw [← h]
  rfl

/-- The scales. -/
theorem repG_apply (a0 a1 a2 a3 : Vec Ideal S1x1x2048 .f32) (j : Fin 4) (p : Fin 8) (s : Fin 2048) :
    repG a0 a1 a2 a3 (ix2 (rowAt j p) s) = (![a0, a1, a2, a3] : Fin 4 → Vec Ideal S1x1x2048 .f32) j (ix3 0 0 s) := by
  have h : repG a0 a1 a2 a3 (ix2 (rowAt j p) s) = rowG ((![a0, a1, a2, a3] : Fin 4 → Vec Ideal S1x1x2048 .f32) j) (ix2 p s) :=
    concatenate_ofFn_apply (t := S32x2048) (s₁ := S8x2048) 0 (N := 4) (fun n => rowG ((![a0, a1, a2, a3] : Fin 4 → Vec Ideal S1x1x2048 .f32) n)) concatenates_S8x2048_S8x2048_S8x2048_S8x2048_S32x2048_d0 rfl 8 rfl _ j
      (by show (8 * j.val + p.val) / 8 = j.val; omega) (ix2 p s) (by show p.val = (8 * j.val + p.val) % 8; omega)
      (fun b hb => by fin_cases b <;> first | exact absurd rfl hb | rfl)
  rw [h]
  generalize (![a0, a1, a2, a3] : Fin 4 → Vec Ideal S1x1x2048 .f32) j = a
  pointwise [rowG]

/-- A score, as the product gives it. -/
theorem scoreG_apply (w : IVec S32x2048 1) (l : FVec Ideal S32x256 .bf16) (k : Vec Ideal S1x256x2048 .fp8e4m3) (r : FVec Ideal S32x2048 .f32) (i : Fin 32) (s : Fin 2048) :
    scoreG w l k r (ix2 i s) = Scalar.select (w (ix2 i s)) (((∑ e : Fin 256, (l (ix2 i e) : EReal) * k (ix3 0 e s)) * r (ix2 i s) : EReal)) (Ideal.ofBits .f32 0xFF800000#32 : EReal) := by
  pointwise [scoreG]

/-- A row's exponentials. -/
theorem expG_apply (f : FVec Ideal S32x2048 .f32) (i : Fin 32) (s : Fin 2048) :
    expG f (ix2 i s) = expo (fun t => f (ix2 i t)) s := by
  pointwise [expG]
  unfold expo top
  with_reducible rfl

/-- A row over its sum. -/
theorem normG_apply (f : FVec Ideal S32x2048 .f32) (i : Fin 32) (s : Fin 2048) :
    normG f (ix2 i s) = FloatOps.divf (f (ix2 i s)) (∑ t : Fin 2048, (f (ix2 i t) : EReal) : EReal) := by
  pointwise [normG]

/-- The product with the values. -/
theorem oG_apply (f r : FVec Ideal S32x2048 .f32) (v : Vec Ideal S1x256x2048 .fp8e4m3) (i : Fin 32) (e : Fin 256) :
    oG f r v (ix2 i e) = Scalar.select (diagB (ix2 i e)) ((∑ s : Fin 2048, ((f (ix2 i s) : EReal) * r (ix2 i s)) * v (ix3 0 e s) : EReal)) (Scalar.ofBits .f32 0x00000000#32 : Ideal .f32) := by
  pointwise [oG]

/-- The four copies of a token, summed. -/
theorem outG_apply (o : FVec Ideal S32x256 .f32) (p : Fin 8) (e : Fin 256) :
    outG o (ix3 0 p e) = (((o (ix2 (rowAt 0 p) e) : EReal) + o (ix2 (rowAt 1 p) e)) + o (ix2 (rowAt 2 p) e)) + o (ix2 (rowAt 3 p) e) := by
  have h0 : rowAt 0 p = ⟨p.val, by omega⟩ := Fin.ext (by show 8 * 0 + p.val = p.val; omega)
  rw [h0]
  pointwise [outG]
  rfl

end Cert.Attend

end
-- ==== Proof.Attn.Group.lean ====
/- A GROUP OF FOUR HEADS computes each head's attention: the rows outside a head's block are zero and add nothing. -/
module

public import proofs.«01_k».proof.Proof.Attn.Read

@[expose] public section

noncomputable section

namespace Cert.Attend

open Cert.AttnIdeal Cert.AttnIdeal.Gen Idealize.ShloMosaic Idealize.ShloMosaic.Pointwise

/-! ## The mask -/

/-- A mark reads as the token's positions on that token's rows, and changes no other. -/
theorem mark_hit (v : IVec S32x2048 1) (n : ℕ) (hn : n < 8) (a b : BitVec 32) (j : Fin 4) (p : Fin 8) (s : Fin 2048) :
    mark v (BitVec.ofNat 32 n) a b (ix2 (rowAt j p) s) = if p.val = n then Scalar.ori (v (ix2 (rowAt j p) s)) (inTok a (stop a b) s) else v (ix2 (rowAt j p) s) := by
  rw [mark_apply]
  by_cases h : p.val = n
  · rw [if_pos h, h]
    show v _ ||| ((BitVec.ofBool (BitVec.ofNat 32 n == BitVec.ofNat 32 n) &&& _) &&& _) = _
    rw [beq_self_eq_true]
    show v _ ||| ((1#1 &&& _) &&& _) = v _ ||| (_ &&& _)
    rw [show (1#1 : BitVec 1) = BitVec.allOnes 1 from rfl, BitVec.allOnes_and]
  · rw [if_neg h]
    have hne : (BitVec.ofNat 32 p.val == BitVec.ofNat 32 n) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    show v _ ||| ((BitVec.ofBool (BitVec.ofNat 32 p.val == BitVec.ofNat 32 n) &&& _) &&& _) = _
    rw [hne]
    show v _ ||| ((0#1 &&& _) &&& _) = _
    rw [BitVec.zero_and, BitVec.zero_and, BitVec.or_zero]

/-- The mask of a token's row. -/
theorem maskB_apply (u : Fin 9 → BitVec 32) (j : Fin 4) (p : Fin 8) (s : Fin 2048) :
    maskB (u 0) (u 1) (u 2) (u 3) (u 4) (u 5) (u 6) (u 7) (u 8) (ix2 (rowAt j p) s) = inTok (u p.castSucc) (stop (u p.castSucc) (u p.succ)) s := by
  have z (x : BitVec 1) : Scalar.ori 0#1 x = x := BitVec.zero_or
  have hb : (broadcast S32x2048 0#1 : IVec S32x2048 1) (ix2 (rowAt j p) s) = 0#1 := rfl
  unfold maskB
  rw [mark_hit _ 7 (by omega), mark_hit _ 6 (by omega), mark_hit _ 5 (by omega), mark_hit _ 4 (by omega), mark_hit _ 3 (by omega), mark_hit _ 2 (by omega), mark_hit _ 1 (by omega), mark_hit _ 0 (by omega), hb]
  clear hb
  obtain ⟨n, hn⟩ := p
  interval_cases n <;> simp [z] <;> rfl

/-! ## Sums over a head's block -/

/-- The block an entry is in. -/
theorem diag_row (j : Fin 4) (p : Fin 8) (a : Fin 4) (d : Fin 64) : diagB (ix2 (rowAt j p) (colAt a d)) = if j = a then 1#1 else 0#1 := by
  rw [diagB_apply]
  have e1 : (rowAt j p).val / 8 = j.val := by show (8 * j.val + p.val) / 8 = j.val; omega
  have e2 : (colAt a d).val / 64 = a.val := by show (64 * a.val + d.val) / 64 = a.val; omega
  rw [e1, e2]
  by_cases h : j = a
  · rw [if_pos h, if_pos (congrArg Fin.val h)]
  · rw [if_neg h, if_neg fun e => h (Fin.ext e)]

/-- A sum over 256 columns, block by block. -/
theorem sum_blocks (f : Fin 256 → EReal) : ∑ e : Fin 256, f e = ∑ a : Fin 4, ∑ d : Fin 64, f (colAt a d) := by
  rw [← Fintype.sum_prod_type' (f := fun (a : Fin 4) (d : Fin 64) => f (colAt a d))]
  exact (Fintype.sum_equiv (finProdFinEquiv (m := 4) (n := 64)) (fun x => f (colAt x.1 x.2)) f
    (fun x => congrArg f (Fin.ext (by show 64 * x.1.val + x.2.val = x.2.val + 64 * x.1.val; omega)))).symm

/-- A sum whose terms outside a head's block are products of zero is the sum over the block. -/
theorem sum_head (q k : Fin 256 → EReal) (j : Fin 4) (p : Fin 8) :
    ∑ e : Fin 256, (Scalar.select (diagB (ix2 (rowAt j p) e)) (q e) (Scalar.ofBits .f32 0x00000000#32 : Ideal .f32) : EReal) * k e =
      ∑ d : Fin 64, q (colAt j d) * k (colAt j d) := by
  rw [sum_blocks, Finset.sum_eq_single j]
  · refine Finset.sum_congr rfl fun d _ => ?_
    rw [diag_row, if_pos rfl]
    rfl
  · intro a _ ha
    refine Finset.sum_eq_zero fun d _ => ?_
    rw [diag_row, if_neg (Ne.symm ha)]
    show Ideal.ofBits .f32 0x00000000#32 * k _ = 0
    rw [Ideal.ofBits_zero_f32, zero_mul]
  · exact fun h => absurd (Finset.mem_univ j) h

/-! ## The group -/

/-- A group's result at token `p`, entry `d` of head `j`. -/
theorem groupG_apply (w : IVec S32x2048 1) (q : FVec Ideal S8x256 .bf16) (k : Vec Ideal S1x256x2048 .fp8e4m3) (a0 a1 a2 a3 : Vec Ideal S1x1x2048 .f32)
    (v : Vec Ideal S1x256x2048 .fp8e4m3) (b0 b1 b2 b3 : Vec Ideal S1x1x2048 .f32) (j : Fin 4) (p : Fin 8) (d : Fin 64) :
    groupG w q k a0 a1 a2 a3 v b0 b1 b2 b3 (ix3 0 p (colAt j d)) =
      mix (score (fun d => q (ix2 p (colAt j d))) (fun d s => k (ix3 0 (colAt j d) s)) (fun s => (![a0, a1, a2, a3] : Fin 4 → Vec Ideal S1x1x2048 .f32) j (ix3 0 0 s))
          (fun s => w (ix2 (rowAt j p) s)))
        (fun s => (![b0, b1, b2, b3] : Fin 4 → Vec Ideal S1x1x2048 .f32) j (ix3 0 0 s)) (fun d s => v (ix3 0 (colAt j d) s)) d := by
  unfold groupG
  have hs : (fun s => scoreG w (lhsG q) k (repG a0 a1 a2 a3) (ix2 (rowAt j p) s)) =
      score (fun d => q (ix2 p (colAt j d))) (fun d s => k (ix3 0 (colAt j d) s)) (fun s => (![a0, a1, a2, a3] : Fin 4 → Vec Ideal S1x1x2048 .f32) j (ix3 0 0 s))
        (fun s => w (ix2 (rowAt j p) s)) := by
    funext s
    rw [scoreG_apply, repG_apply]
    simp only [lhsG_apply]
    rw [sum_head (fun e => q (ix2 p e)) (fun e => k (ix3 0 e s)) j p]
    rfl
  have hn (s : Fin 2048) : normG (expG (scoreG w (lhsG q) k (repG a0 a1 a2 a3))) (ix2 (rowAt j p) s) =
      soft (score (fun d => q (ix2 p (colAt j d))) (fun d s => k (ix3 0 (colAt j d) s)) (fun s => (![a0, a1, a2, a3] : Fin 4 → Vec Ideal S1x1x2048 .f32) j (ix3 0 0 s))
        (fun s => w (ix2 (rowAt j p) s))) s := by
    rw [normG_apply]
    simp only [expG_apply]
    rw [hs]
    rfl
  have ho (i : Fin 4) : oG (normG (expG (scoreG w (lhsG q) k (repG a0 a1 a2 a3)))) (repG b0 b1 b2 b3) v (ix2 (rowAt i p) (colAt j d)) =
      if i = j then mix (score (fun d => q (ix2 p (colAt j d))) (fun d s => k (ix3 0 (colAt j d) s)) (fun s => (![a0, a1, a2, a3] : Fin 4 → Vec Ideal S1x1x2048 .f32) j (ix3 0 0 s))
          (fun s => w (ix2 (rowAt j p) s)))
        (fun s => (![b0, b1, b2, b3] : Fin 4 → Vec Ideal S1x1x2048 .f32) j (ix3 0 0 s)) (fun d s => v (ix3 0 (colAt j d) s)) d else (0 : EReal) := by
    rw [oG_apply, diag_row]
    by_cases h : i = j
    · rw [if_pos h, if_pos h, h]
      refine (if_pos rfl).trans (Finset.sum_congr rfl fun s _ => ?_)
      rw [hn, repG_apply]
    · rw [if_neg h, if_neg h]
      exact (if_neg (by decide)).trans Ideal.ofBits_zero_f32
  rw [outG_apply, ho, ho, ho, ho]
  fin_cases j <;> simp

end Cert.Attend

end
-- ==== Proof.Attn.Blocks.lean ====
/- WHAT ONE GRID POINT OF THE ATTENTION CALL LEAVES in its output window's buffer, index by index. -/
module

public import proofs.«01_k».proof.Proof.Attn.Stores
public import proofs.«01_k».proof.Proof.Attn.Group

@[expose] public section

noncomputable section

namespace Cert.Attend

open Cert.AttnIdeal Cert.AttnIdeal.Gen Idealize.ShloMosaic Idealize.ShloMosaic.Pointwise

/-! ## The loads of one group -/

/-- Head `j` of group `n`. -/
def headAt (n j : Fin 4) : Fin 16 := ⟨4 * n.val + j.val, by omega⟩

/-- A group's rows of the keys or values. -/
theorem ld_rows (x : Vec Ideal S1x1024x2048 .fp8e4m3) (n j : Fin 4) {o : ℕ} (ho : o = 256 * n.val)
    (inb : ∀ a, (![0, o, 0] : Fin 3 → ℕ) a + S1x256x2048.size a ≤ S1x1024x2048.size a) (d : Fin 64) (s : Fin 2048) :
    View.ld x (Rect.unit (s := S1x1024x2048) ![0, o, 0] S1x256x2048.size inb) (ix3 0 (colAt j d) s) = x (ix3 0 (colOf (headAt n j) d) s) := by
  refine congrArg x (funext fun a => Fin.ext ?_)
  fin_cases a
  · rfl
  · show o + 1 * (64 * j.val + d.val) = 64 * (4 * n.val + j.val) + d.val
    omega
  · show 0 + 1 * s.val = s.val
    omega

/-- A head's row of the scales. -/
theorem ld_scale (x : Vec Ideal S1x16x2048 .f32) (h : Fin 16) {o : ℕ} (ho : o = h.val)
    (inb : ∀ a, (![0, o, 0] : Fin 3 → ℕ) a + S1x1x2048.size a ≤ S1x16x2048.size a) (s : Fin 2048) :
    View.ld x (Rect.unit (s := S1x16x2048) ![0, o, 0] S1x1x2048.size inb) (ix3 0 0 s) = x (ix3 0 h s) := by
  refine congrArg x (funext fun a => Fin.ext ?_)
  fin_cases a
  · rfl
  · show o + 1 * 0 = h.val
    omega
  · show 0 + 1 * s.val = s.val
    omega

/-- A group's columns of the queries. -/
theorem q_cols (x : Vec Ideal S1x8x1024 .bf16) (n j : Fin 4) {o : ℕ} (ho : o = 256 * n.val) (hs : S8x1024.Slices ![0, o] S8x256) (p : Fin 8) (d : Fin 64) :
    extractStridedSlice S8x256 ![0, o] (qB x) hs (ix2 p (colAt j d)) = x (ix3 0 p (colOf (headAt n j) d)) := by
  have e : qB x (ix2 p (colOf (headAt n j) d)) = x (ix3 0 p (colOf (headAt n j) d)) := by pointwise [qB]
  rw [← e]
  refine congrArg (qB x) (funext fun a => Fin.ext ?_)
  fin_cases a
  · show 0 + p.val = p.val
    omega
  · show o + (64 * j.val + d.val) = 64 * (4 * n.val + j.val) + d.val
    omega

/-- The word of token `p`. -/
theorem wordAt_apply (x : Vec Ideal S32x9 .i32) (off : Fin 2 → ℕ) (inb : ∀ a, off a + S1x1.size a ≤ S32x9.size a) (b : Fin 32) (p : Fin 9) (h0 : off 0 = b.val) (h1 : off 1 = p.val) :
    wordAt x off inb = x (ix2 b p) := by
  unfold wordAt
  refine congrArg x (funext fun a => Fin.ext ?_)
  fin_cases a
  · show off 0 + 1 * 0 = b.val
    omega
  · show off 1 + 1 * 0 = p.val
    omega

/-- The mask of a token's row at the grid point of sequence `b`. -/
theorem maskAt_apply (i : grid0.Coords) (x : Vec Ideal S32x9 .i32) (b : Fin 32) (hb : (i 0).val = b.val) (j : Fin 4) (p : Fin 8) (s : Fin 2048) :
    maskAt i x (ix2 (rowAt j p) s) = inTok (x (ix2 b p.castSucc)) (stop (x (ix2 b p.castSucc)) (x (ix2 b p.succ))) s := by
  have hn : (BitVec.ofNat 32 (i 0).val).toNat = b.val := by
    rw [hb, BitVec.toNat_ofNat, Nat.mod_eq_of_lt (by omega)]
  rw [← maskB_apply (fun n => x (ix2 b n)) j p s]
  unfold maskAt
  rw [wordAt_apply x (k0_off1 i) _ b 0 hn rfl, wordAt_apply x (k0_off2 i) _ b 1 hn rfl, wordAt_apply x (k0_off3 i) _ b 2 hn rfl,
    wordAt_apply x (k0_off4 i) _ b 3 hn rfl, wordAt_apply x (k0_off5 i) _ b 4 hn rfl, wordAt_apply x (k0_off6 i) _ b 5 hn rfl,
    wordAt_apply x (k0_off7 i) _ b 6 hn rfl, wordAt_apply x (k0_off8 i) _ b 7 hn rfl, wordAt_apply x (k0_off9 i) _ b 8 hn rfl]

/-! ## One block -/

/-- The context of a block's token, at a column. -/
def blkCtx (b : Fin 32) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (p : Fin 8) (h : Fin 16) (d : Fin 64) : EReal :=
  mix (score (fun d => x1 (ix3 0 p (colOf h d))) (fun d s => x2 (ix3 0 (colOf h d) s)) (fun s => x3 (ix3 0 h s))
      (inTok (x0 (ix2 b p.castSucc)) (stop (x0 (ix2 b p.castSucc)) (x0 (ix2 b p.succ)))))
    (fun s => x5 (ix3 0 h s)) (fun d s => x4 (ix3 0 (colOf h d) s)) d

/-- A group's store. -/
theorem grp_apply (i : grid0.Coords) (b : Fin 32) (hb : (i 0).val = b.val) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (n : Fin 4) {o h0 h1 h2 h3 : ℕ} (ho : o = 256 * n.val) (e0 : h0 = 4 * n.val) (e1 : h1 = 4 * n.val + 1) (e2 : h2 = 4 * n.val + 2) (e3 : h3 = 4 * n.val + 3)
    (hs : S8x1024.Slices ![0, o] S8x256) (i0 i1 i2 i3 i4) (p : Fin 8) (j : Fin 4) (d : Fin 64) :
    grp i x0 (extractStridedSlice S8x256 ![0, o] (qB x1) hs) x2 x3 x4 x5 o h0 h1 h2 h3 i0 i1 i2 i3 i4 (ix3 0 p (colAt j d)) =
      blkCtx b x0 x1 x2 x3 x4 x5 p (headAt n j) d := by
  unfold grp blkCtx
  rw [groupG_apply]
  have hq : (fun d : Fin 64 => extractStridedSlice S8x256 ![0, o] (qB x1) hs (ix2 p (colAt j d))) = fun d => x1 (ix3 0 p (colOf (headAt n j) d)) :=
    funext fun d => q_cols x1 n j ho hs p d
  have hk (x : Vec Ideal S1x1024x2048 .fp8e4m3) : (fun (d : Fin 64) (s : Fin 2048) => View.ld x (Rect.unit (s := S1x1024x2048) ![0, o, 0] S1x256x2048.size i0) (ix3 0 (colAt j d) s)) =
      fun d s => x (ix3 0 (colOf (headAt n j) d) s) := funext fun d => funext fun s => ld_rows x n j ho i0 d s
  have hm : (fun s => maskAt i x0 (ix2 (rowAt j p) s)) = inTok (x0 (ix2 b p.castSucc)) (stop (x0 (ix2 b p.castSucc)) (x0 (ix2 b p.succ))) :=
    funext fun s => maskAt_apply i x0 b hb j p s
  have hsc (x : Vec Ideal S1x16x2048 .f32) (s : Fin 2048) : (![View.ld x (Rect.unit (s := S1x16x2048) ![0, h0, 0] S1x1x2048.size i1), View.ld x (Rect.unit (s := S1x16x2048) ![0, h1, 0] S1x1x2048.size i2),
      View.ld x (Rect.unit (s := S1x16x2048) ![0, h2, 0] S1x1x2048.size i3), View.ld x (Rect.unit (s := S1x16x2048) ![0, h3, 0] S1x1x2048.size i4)] : Fin 4 → Vec Ideal S1x1x2048 .f32) j (ix3 0 0 s) = x (ix3 0 (headAt n j) s) := by
    fin_cases j
    · exact ld_scale x (headAt n 0) e0 i1 s
    · exact ld_scale x (headAt n 1) e1 i2 s
    · exact ld_scale x (headAt n 2) e2 i3 s
    · exact ld_scale x (headAt n 3) e3 i4 s
  rw [hm, hq, hk, hk, funext (hsc x3), funext (hsc x5)]

/-- The column a head's entry is, given back. -/
theorem colOf_head (e : Fin 1024) : colOf (Cert.KV.headOf e) (Cert.KV.inHead e) = e :=
  Fin.ext (by show 64 * (e.val / 64) + e.val % 64 = e.val; omega)

/-- Where group `n`'s store puts an entry. -/
theorem idx_store (n : Fin 4) {o : ℕ} (ho : o = 256 * n.val) (inb : ∀ a, (![0, 0, o] : Fin 3 → ℕ) a + S1x8x256.size a ≤ S1x8x1024.size a) (p : Fin 8) (j : Fin 4) (d : Fin 64) :
    (Rect.unit (s := S1x8x1024) ![0, 0, o] S1x8x256.size inb).idx (ix3 0 p (colAt j d)) = ix3 0 p (colOf (headAt n j) d) := by
  refine funext fun a => Fin.ext ?_
  fin_cases a
  · rfl
  · show 0 + 1 * p.val = p.val
    omega
  · show o + 1 * (64 * j.val + d.val) = 64 * (4 * n.val + j.val) + d.val
    omega

/-- A block's context at an index. -/
def blkAt (b : Fin 32) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (y : S1x8x1024.Idx) : EReal :=
  blkCtx b x0 x1 x2 x3 x4 x5 (y 1) (Cert.KV.headOf (y 2)) (Cert.KV.inHead (y 2))

/-- At a head's column. -/
theorem blkAt_col (b : Fin 32) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (p : Fin 8) (h : Fin 16) (d : Fin 64) : blkAt b x0 x1 x2 x3 x4 x5 (ix3 0 p (colOf h d)) = blkCtx b x0 x1 x2 x3 x4 x5 p h d := by
  have e1 : Cert.KV.headOf (colOf h d) = h := Fin.ext (by show (64 * h.val + d.val) / 64 = h.val; omega)
  have e2 : Cert.KV.inHead (colOf h d) = d := Fin.ext (by show (64 * h.val + d.val) % 64 = d.val; omega)
  show blkCtx b x0 x1 x2 x3 x4 x5 p (Cert.KV.headOf (colOf h d)) (Cert.KV.inHead (colOf h d)) = _
  rw [e1, e2]

/-- A group's store holds the block's context where it puts it. -/
theorem grp_at (i : grid0.Coords) (b : Fin 32) (hb : (i 0).val = b.val) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (n : Fin 4) {o h0 h1 h2 h3 : ℕ} (ho : o = 256 * n.val) (e0 : h0 = 4 * n.val) (e1 : h1 = 4 * n.val + 1) (e2 : h2 = 4 * n.val + 2) (e3 : h3 = 4 * n.val + 3)
    (hs : S8x1024.Slices ![0, o] S8x256) (i0 i1 i2 i3 i4) (inb : ∀ a, (![0, 0, o] : Fin 3 → ℕ) a + S1x8x256.size a ≤ S1x8x1024.size a) (u : S1x8x256.Idx) :
    grp i x0 (extractStridedSlice S8x256 ![0, o] (qB x1) hs) x2 x3 x4 x5 o h0 h1 h2 h3 i0 i1 i2 i3 i4 u =
      blkAt b x0 x1 x2 x3 x4 x5 ((Rect.unit (s := S1x8x1024) ![0, 0, o] S1x8x256.size inb).idx u) := by
  obtain ⟨p, j, d, rfl⟩ : ∃ (p : Fin 8) (j : Fin 4) (d : Fin 64), u = ix3 0 p (colAt j d) := by
    have h256 : (u 2).val < 256 := (u 2).isLt
    refine ⟨u 1, ⟨(u 2).val / 64, by omega⟩, ⟨(u 2).val % 64, by omega⟩, ?_⟩
    funext a
    fin_cases a
    · exact Fin.ext (by have : (u 0).val < 1 := (u 0).isLt; show (u 0).val = 0; omega)
    · rfl
    · exact Fin.ext (by show (u 2).val = 64 * ((u 2).val / 64) + (u 2).val % 64; omega)
  rw [idx_store n ho, blkAt_col]
  exact grp_apply i b hb x0 x1 x2 x3 x4 x5 n ho e0 e1 e2 e3 hs i0 i1 i2 i3 i4 p j d

/-- What the body leaves. -/
theorem out0_A_6_apply (c : Dev nD) (i : grid0.Coords) (arg1 : Memref sig .tc .smem S32x9 .i32) (harg1 : arg1.IsWhole) (arg2 : Memref sig .tc .vmem S1x8x1024 .bf16) (harg2 : arg2.IsWhole)
    (arg3 : Memref sig .tc .vmem S1x1024x2048 .fp8e4m3) (harg3 : arg3.IsWhole) (arg4 : Memref sig .tc .vmem S1x16x2048 .f32) (harg4 : arg4.IsWhole)
    (arg5 : Memref sig .tc .vmem S1x1024x2048 .fp8e4m3) (harg5 : arg5.IsWhole) (arg6 : Memref sig .tc .vmem S1x16x2048 .f32) (harg6 : arg6.IsWhole)
    (arg7 : Memref sig .tc .vmem S1x8x1024 .f32) (harg7 : arg7.IsWhole) (b : Fin 32) (hb : (i 0).val = b.val) (x0 : Vec Ideal S32x9 .i32) (x1 : Vec Ideal S1x8x1024 .bf16) (x2 : Vec Ideal S1x1024x2048 .fp8e4m3) (x3 : Vec Ideal S1x16x2048 .f32) (x4 : Vec Ideal S1x1024x2048 .fp8e4m3) (x5 : Vec Ideal S1x16x2048 .f32)
    (y : S1x8x1024.Idx) :
    out0_A_6 c i arg1 harg1 arg2 harg2 arg3 harg3 arg4 harg4 arg5 harg5 arg6 harg6 arg7 harg7 x0 x1 x2 x3 x4 x5 y = blkAt b x0 x1 x2 x3 x4 x5 y := by
  rw [out0_eq]
  refine View.canon_apply_of_pieces (Val := Elt Ideal) (S := S1x8x1024) (e := .f32) (fun y => blkAt b x0 x1 x2 x3 x4 x5 y) _ ?_ y ?_
  swap
  · exact View.cover_of_tiled _ ![1, 8, 256] (by rfl) y
  simp only [List.forall_mem_cons, List.not_mem_nil, false_imp_iff, implies_true, and_true]
  exact ⟨fun u => grp_at i b hb x0 x1 x2 x3 x4 x5 3 rfl rfl rfl rfl rfl _ _ _ _ _ _ _ u, fun u => grp_at i b hb x0 x1 x2 x3 x4 x5 2 rfl rfl rfl rfl rfl _ _ _ _ _ _ _ u,
    fun u => grp_at i b hb x0 x1 x2 x3 x4 x5 1 rfl rfl rfl rfl rfl _ _ _ _ _ _ _ u, fun u => grp_at i b hb x0 x1 x2 x3 x4 x5 0 rfl rfl rfl rfl rfl _ _ _ _ _ _ _ u⟩

end Cert.Attend

end
-- ==== Proof.Attn.Run.lean ====
/- WHAT THE ATTENTION CALL'S RESULT ARRAY HOLDS: every index lies in the block of one sequence, and holds what that
   sequence's grid point wrote there. -/
module

public import proofs.«01_k».proof.Proof.Attn.Blocks

@[expose] public section

noncomputable section

namespace Cert.Attend

open Cert.AttnIdeal Cert.AttnIdeal.Gen Idealize.ShloMosaic Idealize.ShloMosaic.TcCoe Idealize.ShloMosaic.Pointwise Idealize.SL.Sem
open Idealize.ShloMosaic.Pipeline (Dat Window)

variable (m : (ℓ : Loc nD τ sig) → Buf (Elt Ideal) ℓ) (c : Dev nD)

/-- A row of 1024 given back to its token. -/
theorem byTok {φ : FTy} (A : FVec Ideal S256x1024 φ) (b : Fin 32) (p : Fin 8) (e : Fin 1024) :
    shapeCast S32x8x1024 A shapeCasts_S256x1024_S32x8x1024 (ix3 b p e) = A (ix2 (tokOf b p) e) := by
  pointwise []
  exact congrArg (fun r => A (ix2 r e)) (Fin.ext (by show b.val * 8 + p.val = 8 * b.val + p.val; omega))

/-! ## What the call finds -/

/-- The grid point of sequence `b`. -/
def pt (b : Fin 32) : Fin cfg0.N := ⟨b.val, by show b.val < 32; omega⟩

/-- Its coordinate. -/
theorem pt_coord : ∀ b : Fin 32, (grid0.coords (pt b) 0).val = b.val := by decide +kernel

/-- `q` by tokens. -/
theorem V_main_v0 (b : Fin 32) (p : Fin 8) (e : Fin 1024) : V m c main_v0 (ix3 b p e) = m ((c : Thread nD τ).loc main_arg1) (ix2 (tokOf b p) e) := by
  have h : V m c main_v0 = shapeCast S32x8x1024 (m ((c : Thread nD τ).loc main_arg1)) shapeCasts_S256x1024_S32x8x1024 := by
    show StableHlo.after hostOps0 (fun b => m (c, b)) _ = _
    simp only [hostOps0]
    after_results
    rfl
  rw [h]
  exact byTok (φ := .bf16) _ b p e

/-- The token positions, whole at every point. -/
theorem iblk0_eq (t : Fin cfg0.N) : (iblk m c 0 t : Vec Ideal S32x9 .i32) = m ((c : Thread nD τ).loc main_arg0) := by
  rw [← V_main_arg0 m c]
  funext y
  show V m c main_arg0 ((win0_0.rect t).emb y) = V m c main_arg0 y
  refine congrArg (V m c main_arg0) (funext fun a => Fin.ext ?_)
  exact Window.rect_emb_val_of_index_zero win0_0 t a (by fin_cases a <;> rfl) y

/-- Where window 1's block lies. -/
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The block of `q`. -/
theorem iblk1_apply (b : Fin 32) (i : Fin 8) (j : Fin 1024) : iblk m c 1 (pt b) (ix3 0 i j) = m ((c : Thread nD τ).loc main_arg1) (ix2 (tokOf b i) j) := by
  rw [← V_main_v0 m c b i j]
  show V m c main_v0 ((win0_1.rect (pt b)).emb (ix3 0 i j)) = _
  refine congrArg (V m c main_v0) (funext fun a => Fin.ext ?_)
  rw [Window.rect_emb_val win0_1 (pt b) _ a rfl]
  obtain ⟨h0, h1, h2⟩ := idx1 (pt b)
  have hp : (pt b).val = b.val := rfl
  fin_cases a
  · show win0_1.index (pt b) 0 * 1 + 0 = b.val
    omega
  · show win0_1.index (pt b) 1 * 8 + i.val = i.val
    omega
  · show win0_1.index (pt b) 2 * 1024 + j.val = j.val
    omega

/-- Where window 2's block lies. -/
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The block of the keys. -/
theorem iblk2_apply (b : Fin 32) (i : Fin 1024) (j : Fin 2048) : iblk m c 2 (pt b) (ix3 0 i j) = m ((c : Thread nD τ).loc main_arg2) (ix3 b i j) := by
  rw [← V_main_arg2 m c]
  show V m c main_arg2 ((win0_2.rect (pt b)).emb (ix3 0 i j)) = _
  refine congrArg (V m c main_arg2) (funext fun a => Fin.ext ?_)
  rw [Window.rect_emb_val win0_2 (pt b) _ a rfl]
  obtain ⟨h0, h1, h2⟩ := idx2 (pt b)
  have hp : (pt b).val = b.val := rfl
  fin_cases a
  · show win0_2.index (pt b) 0 * 1 + 0 = b.val
    omega
  · show win0_2.index (pt b) 1 * 1024 + i.val = i.val
    omega
  · show win0_2.index (pt b) 2 * 2048 + j.val = j.val
    omega

/-- Where window 3's block lies. -/
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The block of the keys' scales. -/
theorem iblk3_apply (b : Fin 32) (i : Fin 16) (j : Fin 2048) : iblk m c 3 (pt b) (ix3 0 i j) = m ((c : Thread nD τ).loc main_arg3) (ix3 b i j) := by
  rw [← V_main_arg3 m c]
  show V m c main_arg3 ((win0_3.rect (pt b)).emb (ix3 0 i j)) = _
  refine congrArg (V m c main_arg3) (funext fun a => Fin.ext ?_)
  rw [Window.rect_emb_val win0_3 (pt b) _ a rfl]
  obtain ⟨h0, h1, h2⟩ := idx3 (pt b)
  have hp : (pt b).val = b.val := rfl
  fin_cases a
  · show win0_3.index (pt b) 0 * 1 + 0 = b.val
    omega
  · show win0_3.index (pt b) 1 * 16 + i.val = i.val
    omega
  · show win0_3.index (pt b) 2 * 2048 + j.val = j.val
    omega

/-- Where window 4's block lies. -/
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The block of the values. -/
theorem iblk4_apply (b : Fin 32) (i : Fin 1024) (j : Fin 2048) : iblk m c 4 (pt b) (ix3 0 i j) = m ((c : Thread nD τ).loc main_arg4) (ix3 b i j) := by
  rw [← V_main_arg4 m c]
  show V m c main_arg4 ((win0_4.rect (pt b)).emb (ix3 0 i j)) = _
  refine congrArg (V m c main_arg4) (funext fun a => Fin.ext ?_)
  rw [Window.rect_emb_val win0_4 (pt b) _ a rfl]
  obtain ⟨h0, h1, h2⟩ := idx4 (pt b)
  have hp : (pt b).val = b.val := rfl
  fin_cases a
  · show win0_4.index (pt b) 0 * 1 + 0 = b.val
    omega
  · show win0_4.index (pt b) 1 * 1024 + i.val = i.val
    omega
  · show win0_4.index (pt b) 2 * 2048 + j.val = j.val
    omega

/-- Where window 5's block lies. -/
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The block of the values' scales. -/
theorem iblk5_apply (b : Fin 32) (i : Fin 16) (j : Fin 2048) : iblk m c 5 (pt b) (ix3 0 i j) = m ((c : Thread nD τ).loc main_arg5) (ix3 b i j) := by
  rw [← V_main_arg5 m c]
  show V m c main_arg5 ((win0_5.rect (pt b)).emb (ix3 0 i j)) = _
  refine congrArg (V m c main_arg5) (funext fun a => Fin.ext ?_)
  rw [Window.rect_emb_val win0_5 (pt b) _ a rfl]
  obtain ⟨h0, h1, h2⟩ := idx5 (pt b)
  have hp : (pt b).val = b.val := rfl
  fin_cases a
  · show win0_5.index (pt b) 0 * 1 + 0 = b.val
    omega
  · show win0_5.index (pt b) 1 * 16 + i.val = i.val
    omega
  · show win0_5.index (pt b) 2 * 2048 + j.val = j.val
    omega

/-! ## The result array -/

/-- The context of a device's arguments. -/
def aCtx : (⟨3, ![32, 8, 1024]⟩ : Shape).Idx → EReal :=
  valCtx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What sequence `b`'s point writes back. -/
theorem flushed6 (b : Fin 32) (p : Fin 8) (e : Fin 1024) : (dats m 0 c).flushed 6 (pt b) (ix3 0 p e) = aCtx m c (ix3 b p e) := by
  have h : (dats m 0 c).flushed 6 (pt b) = outsAt0 m c (pt b) := by
    rw [← after0_6]
  rw [h]
  unfold outsAt0
  refine (out0_A_6_apply c (grid0.coords (pt b)) _ _ _ _ _ _ _ _ _ _ _ _ _ _ b (pt_coord b) _ _ _ _ _ _ (ix3 0 p e)).trans ?_
  show blkCtx b (iblk m c 0 (pt b)) (iblk m c 1 (pt b)) (iblk m c 2 (pt b)) (iblk m c 3 (pt b)) (iblk m c 4 (pt b)) (iblk m c 5 (pt b)) p (Cert.KV.headOf e) (Cert.KV.inHead e) = _
  unfold blkCtx
  rw [iblk0_eq, funext fun d => iblk1_apply m c b p (colOf (Cert.KV.headOf e) d), funext fun d => funext fun s => iblk2_apply m c b (colOf (Cert.KV.headOf e) d) s,
    funext fun s => iblk3_apply m c b (Cert.KV.headOf e) s, funext fun d => funext fun s => iblk4_apply m c b (colOf (Cert.KV.headOf e) d) s,
    funext fun s => iblk5_apply m c b (Cert.KV.headOf e) s]
  rfl

/-- Where window 6's block lies. -/
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

/-- Distinct points' blocks share no index. -/
theorem disjoint6 : ∀ t t' : Fin cfg0.N, (cfg0.win 6).flush t = true → (cfg0.win 6).flush t' = true → t ≠ t' →
    Disjoint ((cfg0.win 6).blk t).view.set ((cfg0.win 6).blk t').view.set := fun t t' _ _ hne =>
  (cfg0.win 6).disjoint_blk fun h => hne (Fin.ext (by
    have h0 : win0_6.index t 0 = win0_6.index t' 0 := congrFun h 0
    have a := idx6 t
    have b := idx6 t'
    omega))

/-- The context at an index. -/
theorem arr6_at (b : Fin 32) (p : Fin 8) (e : Fin 1024) : (dats m 0 c).arrAt 6 cfg0.N (ix3 b p e : S32x8x1024.Idx) = aCtx m c (ix3 b p e) := by
  have h : ((ix3 b p e) : S32x8x1024.Idx) = ((cfg0.win 6).blk (pt b)).view.emb (ix3 0 p e) := by
    show _ = (win0_6.rect (pt b)).emb (ix3 0 p e)
    funext a
    refine Fin.ext ?_
    rw [Window.rect_emb_val win0_6 (pt b) _ a rfl]
    obtain ⟨h0, h1, h2⟩ := idx6 (pt b)
    have hp : (pt b).val = b.val := rfl
    fin_cases a
    · show b.val = win0_6.index (pt b) 0 * 1 + 0
      omega
    · show p.val = win0_6.index (pt b) 1 * 8 + p.val
      omega
    · show e.val = win0_6.index (pt b) 2 * 1024 + e.val
      omega
  refine (congrArg (fun i : S32x8x1024.Idx => (dats m 0 c).arrAt 6 cfg0.N i) h).trans ?_
  exact ((dats m 0 c).arrAt_emb_eq_flushed 6 disjoint6 (pt b) (flush0_6 _) (ix3 0 p e)).trans (flushed6 m c b p e)

/-- The result array is the context. -/
theorem arr6 : (dats m 0 c).arrAt 6 cfg0.N = aCtx m c := by
  refine funext fun (i : S32x8x1024.Idx) => ?_
  obtain ⟨b, p, e, rfl⟩ : ∃ (b : Fin 32) (p : Fin 8) (e : Fin 1024), i = ix3 b p e := ⟨i 0, i 1, i 2, by funext a; fin_cases a <;> rfl⟩
  exact arr6_at m c b p e

end Cert.Attend

end
-- ==== Proof.Attn.RefRead.lean ====
/- THE ATTENTION REFERENCE'S WORDS READ AT AN INDEX, over the extended reals. -/
module

public import proofs.«01_k».proof.Proof.Attn.Spec
public import proofs.«01_k».proof.Proof.Gen.AttnReferenceIdeal.Value
public import Idealize.ShloMosaic.Lib.Pipeline.Value

@[expose] public section

noncomputable section

namespace Cert.Attend.Ref

open Cert.AttnReferenceIdeal Cert.AttnReferenceIdeal.Gen Idealize.ShloMosaic Idealize.ShloMosaic.Pointwise

/-- Head `h` of sequence `b` among the 512. -/
def bh (b : Fin 32) (h : Fin 16) : Fin 512 := ⟨b.val * 16 + h.val, by omega⟩

/-- Its sequence. -/
theorem bh_div (b : Fin 32) (h : Fin 16) (p : (bh b h).val / 16 < 32) : (⟨(bh b h).val / 16, p⟩ : Fin 32) = b :=
  Fin.ext (by show (b.val * 16 + h.val) / 16 = b.val; omega)

/-- Its head. -/
theorem bh_mod (b : Fin 32) (h : Fin 16) (p : (bh b h).val % 16 < 16) : (⟨(bh b h).val % 16, p⟩ : Fin 16) = h :=
  Fin.ext (by show (b.val * 16 + h.val) % 16 = h.val; omega)

/-! ## The reference's words -/

/-- Which positions are the token's. -/
def okR (v1 v6 : Vec Ideal S32x8 .i32) : IVec S32x16x8x2048 1 :=
  andi (cmpi .sge (iota .tc S32x16x8x2048 32 [3] iota_S32x16x8x2048_d3_w32) (broadcastTo S32x16x8x2048 (shapeCast S32x1x8x1 (shapeCast S32x8 v1 shapeCasts_S32x8_S32x8) shapeCasts_S32x8_S32x1x8x1) broadcasts_S32x1x8x1_S32x16x8x2048))
    (cmpi .slt (iota .tc S32x16x8x2048 32 [3] iota_S32x16x8x2048_d3_w32) (broadcastTo S32x16x8x2048 (shapeCast S32x1x8x1 (shapeCast S32x8 v6 shapeCasts_S32x8_S32x8) shapeCasts_S32x8_S32x1x8x1) broadcasts_S32x1x8x1_S32x16x8x2048))

/-- The queries. -/
def qR (q : Vec Ideal S32x16x8x64 .bf16) : FVec Ideal S512x8x64 .bf16 :=
  shapeCast S512x8x64 (shapeCast S32x16x8x64 q shapeCasts_S32x16x8x64_S32x16x8x64) shapeCasts_S32x16x8x64_S512x8x64

/-- The keys' products, head by head. -/
def rawR (q : FVec Ideal S512x8x64 .bf16) (k : FVec Ideal S512x64x2048 .bf16) : FVec Ideal S32x16x8x2048 .f32 :=
  shapeCast S32x16x8x2048 (matmul dot_S512x8x64_S512x64x2048_S512x8x2048_2_1_1_2_0_0 none q k (constant S512x8x2048 .f32 0x00000000#32)) shapeCasts_S512x8x2048_S32x16x8x2048

/-- A head's scales for every token. -/
def gR (g : Vec Ideal S32x16x2048 .f32) : FVec Ideal S32x16x8x2048 .f32 :=
  broadcastTo S32x16x8x2048 (shapeCast S32x16x1x2048 g shapeCasts_S32x16x2048_S32x16x1x2048) broadcasts_S32x16x1x2048_S32x16x8x2048

/-- The scores. -/
def scR (ok : IVec S32x16x8x2048 1) (a g : FVec Ideal S32x16x8x2048 .f32) : FVec Ideal S32x16x8x2048 .f32 :=
  select ok (mulf a g) (broadcast S32x16x8x2048 (Scalar.ofBits .f32 0xFF800000#32))

/-- The largest of each row. -/
def topR (f : FVec Ideal S32x16x8x2048 .f32) : FVec Ideal S32x16x8 .f32 :=
  multiReduction .maximumf [3] S32x16x8 f 0xFF800000#32 reduces_S32x16x8x2048_S32x16x8 (.inl rfl) rfl

/-- The scores less each row's `t`. -/
def lessR (f : FVec Ideal S32x16x8x2048 .f32) (t : FVec Ideal S32x16x8 .f32) : FVec Ideal S32x16x8x2048 .f32 :=
  subf f (broadcastTo S32x16x8x2048 (shapeCast S32x16x8x1 (maximumf (broadcast S32x16x8 (Scalar.ofBits .f32 0xFF800000#32)) t) shapeCasts_S32x16x8_S32x16x8x1) broadcasts_S32x16x8x1_S32x16x8x2048)

/-- The scores less their largest. -/
def subR (f : FVec Ideal S32x16x8x2048 .f32) : FVec Ideal S32x16x8x2048 .f32 := lessR f (topR f)

/-- The exponentials. -/
def expR (f : FVec Ideal S32x16x8x2048 .f32) : FVec Ideal S32x16x8x2048 .f32 := exp f

/-- Each row over its sum. -/
def normR (e : FVec Ideal S32x16x8x2048 .f32) : FVec Ideal S32x16x8x2048 .f32 :=
  divf e (broadcastTo S32x16x8x2048 (shapeCast S32x16x8x1 (multiReduction .add [3] S32x16x8 e 0x00000000#32 reduces_S32x16x8x2048_S32x16x8 (.inl rfl) rfl) shapeCasts_S32x16x8_S32x16x8x1) broadcasts_S32x16x8x1_S32x16x8x2048)

/-- The weights of the values. -/
def wR (p g : FVec Ideal S32x16x8x2048 .f32) : FVec Ideal S512x8x2048 .bf16 :=
  shapeCast S512x8x2048 (truncf .bf16 (mulf p g) bitsLt_bf16_f32) shapeCasts_S32x16x8x2048_S512x8x2048

/-- The weighted values, head by head. -/
def oR (w : FVec Ideal S512x8x2048 .bf16) (v : FVec Ideal S512x64x2048 .bf16) : FVec Ideal S32x16x8x64 .f32 :=
  shapeCast S32x16x8x64 (matmul dot_S512x8x2048_S512x64x2048_S512x8x64_2_2_1_1_0_0 none w v (constant S512x8x64 .f32 0x00000000#32)) shapeCasts_S512x8x64_S32x16x8x64

/-- A token's heads one after the other. -/
def ctxR (o : FVec Ideal S32x16x8x64 .f32) : FVec Ideal S32x8x1024 .f32 :=
  shapeCast S32x8x1024 (transpose S32x8x16x64 [0, 2, 1, 3] o transposes_S32x16x8x64_p0_2_1_3_S32x8x16x64) shapeCasts_S32x8x16x64_S32x8x1024

/-- The first payload. -/
theorem pay3_eq (v1 v6 : Vec Ideal S32x8 .i32) (q : Vec Ideal S32x16x8x64 .bf16) (k : Vec Ideal S32x16x64x2048 .fp8e4m3) (g : Vec Ideal S32x16x2048 .f32) :
    k0_pay3 v1 v6 q k g = subR (scR (okR v1 v6) (rawR (qR q) (k0_pay2 k)) (gR g)) := rfl

/-- The last payload. -/
theorem pay1_eq (v : FVec Ideal S512x64x2048 .bf16) (f : FVec Ideal S32x16x8x2048 .f32) (g : Vec Ideal S32x16x2048 .f32) :
    k0_pay1 v f g = ctxR (oR (wR (normR (expR f)) (gR g)) v) := rfl

/-! ## Their values -/

/-- The positions. -/
theorem okR_apply (v1 v6 : Vec Ideal S32x8 .i32) (b : Fin 32) (h : Fin 16) (p : Fin 8) (s : Fin 2048) :
    okR v1 v6 (ix4 b h p s) = inTok (v1 (ix2 b p)) (v6 (ix2 b p)) s := by
  pointwise [okR]
  rfl

/-- The queries. -/
theorem qR_apply (q : Vec Ideal S32x16x8x64 .bf16) (b : Fin 32) (h : Fin 16) (p : Fin 8) (d : Fin 64) :
    qR q (ix3 (bh b h) p d) = q (ix4 b h p d) := by
  pointwise [qR]
  rw [bh_div, bh_mod]

/-- The keys or values. -/
theorem pay2_apply (k : Vec Ideal S32x16x64x2048 .fp8e4m3) (b : Fin 32) (h : Fin 16) (d : Fin 64) (s : Fin 2048) :
    k0_pay2 k (ix3 (bh b h) d s) = k (ix4 b h d s) := by
  pointwise [k0_pay2]
  rw [bh_div, bh_mod]

/-- A product with the keys. -/
theorem rawR_apply (q : FVec Ideal S512x8x64 .bf16) (k : FVec Ideal S512x64x2048 .bf16) (b : Fin 32) (h : Fin 16) (p : Fin 8) (s : Fin 2048) :
    rawR q k (ix4 b h p s) = ∑ d : Fin 64, (q (ix3 (bh b h) p d) : EReal) * k (ix3 (bh b h) d s) := by
  pointwise [rawR]
  rfl

/-- A head's scales. -/
theorem gR_apply (g : Vec Ideal S32x16x2048 .f32) (b : Fin 32) (h : Fin 16) (p : Fin 8) (s : Fin 2048) : gR g (ix4 b h p s) = g (ix3 b h s) := by
  pointwise [gR]

/-- The largest of a row. -/
theorem topR_apply (f : FVec Ideal S32x16x8x2048 .f32) (b : Fin 32) (h : Fin 16) (p : Fin 8) : topR f (ix3 b h p) = top (fun t => f (ix4 b h p t)) := by
  pointwise [topR]
  unfold top
  with_reducible rfl

/-- A score less its row's `t`, which is no less than minus infinity. -/
theorem lessR_apply (f : FVec Ideal S32x16x8x2048 .f32) (t : FVec Ideal S32x16x8 .f32) (b : Fin 32) (h : Fin 16) (p : Fin 8) (s : Fin 2048) :
    lessR f t (ix4 b h p s) = (f (ix4 b h p s) : EReal) - max (Ideal.ofBits .f32 0xFF800000#32) (t (ix3 b h p)) := by
  pointwise [lessR]

/-- The largest of a row is no less than minus infinity. -/
theorem max_top (f : Fin 2048 → EReal) : max (Ideal.ofBits .f32 0xFF800000#32) (top f) = top f :=
  max_eq_right (by unfold top; rw [Finset.le_fold_max]; exact Or.inl le_rfl)

/-- A score less the largest. -/
theorem subR_apply (f : FVec Ideal S32x16x8x2048 .f32) (b : Fin 32) (h : Fin 16) (p : Fin 8) (s : Fin 2048) :
    subR f (ix4 b h p s) = (f (ix4 b h p s) : EReal) - top (fun t => f (ix4 b h p t)) := by
  unfold subR
  rw [lessR_apply, topR_apply, max_top]

/-- A score. -/
theorem scR_apply (ok : IVec S32x16x8x2048 1) (a g : FVec Ideal S32x16x8x2048 .f32) (i : S32x16x8x2048.Idx) :
    scR ok a g i = Scalar.select (ok i) (a i * g i : EReal) (Ideal.ofBits .f32 0xFF800000#32 : EReal) := rfl

/-- An exponential. -/
theorem expR_apply (f : FVec Ideal S32x16x8x2048 .f32) (i : S32x16x8x2048.Idx) : expR f i = Ideal.exp (f i) := rfl

/-- A row over its sum. -/
theorem normR_apply (f : FVec Ideal S32x16x8x2048 .f32) (b : Fin 32) (h : Fin 16) (p : Fin 8) (s : Fin 2048) :
    normR f (ix4 b h p s) = Ideal.div (f (ix4 b h p s)) (∑ t : Fin 2048, (f (ix4 b h p t) : EReal)) := by
  pointwise [normR]

/-- A weight. -/
theorem wR_apply (f g : FVec Ideal S32x16x8x2048 .f32) (b : Fin 32) (h : Fin 16) (p : Fin 8) (s : Fin 2048) :
    wR f g (ix3 (bh b h) p s) = (f (ix4 b h p s) : EReal) * g (ix4 b h p s) := by
  pointwise [wR]
  rw [bh_div, bh_mod]

/-- A product with the values. -/
theorem oR_apply (w : FVec Ideal S512x8x2048 .bf16) (v : FVec Ideal S512x64x2048 .bf16) (b : Fin 32) (h : Fin 16) (p : Fin 8) (d : Fin 64) :
    oR w v (ix4 b h p d) = ∑ s : Fin 2048, (w (ix3 (bh b h) p s) : EReal) * v (ix3 (bh b h) d s) := by
  pointwise [oR]
  rfl

/-- An entry of the context. -/
theorem ctxR_apply (o : FVec Ideal S32x16x8x64 .f32) (b : Fin 32) (p : Fin 8) (e : Fin 1024) :
    ctxR o (ix3 b p e) = o (ix4 b (Cert.KV.headOf e) p (Cert.KV.inHead e)) := by
  pointwise [ctxR]
  rfl

/-! ## The whole body -/

/-- The weighted values of a token's head are the mathematics of its rows. -/
theorem body_apply (v1 v6 : Vec Ideal S32x8 .i32) (q : Vec Ideal S32x16x8x64 .bf16) (k v : Vec Ideal S32x16x64x2048 .fp8e4m3) (g r : Vec Ideal S32x16x2048 .f32)
    (b : Fin 32) (p : Fin 8) (e : Fin 1024) :
    k0_pay1 (k0_pay2 v) (k0_pay3 v1 v6 q k g) r (ix3 b p e) =
      mix (score (fun d => q (ix4 b (Cert.KV.headOf e) p d)) (fun d s => k (ix4 b (Cert.KV.headOf e) d s)) (fun s => g (ix3 b (Cert.KV.headOf e) s))
          (inTok (v1 (ix2 b p)) (v6 (ix2 b p))))
        (fun s => r (ix3 b (Cert.KV.headOf e) s)) (fun d s => v (ix4 b (Cert.KV.headOf e) d s)) (Cert.KV.inHead e) := by
  rw [pay1_eq, pay3_eq, ctxR_apply, oR_apply]
  generalize Cert.KV.headOf e = h
  have hs : (fun s => scR (okR v1 v6) (rawR (qR q) (k0_pay2 k)) (gR g) (ix4 b h p s)) =
      score (fun d => q (ix4 b h p d)) (fun d s => k (ix4 b h d s)) (fun s => g (ix3 b h s)) (inTok (v1 (ix2 b p)) (v6 (ix2 b p))) := by
    funext s
    rw [scR_apply, okR_apply, rawR_apply, gR_apply]
    simp only [qR_apply, pay2_apply]
    rfl
  have he (s : Fin 2048) : expR (subR (scR (okR v1 v6) (rawR (qR q) (k0_pay2 k)) (gR g))) (ix4 b h p s) =
      expo (score (fun d => q (ix4 b h p d)) (fun d s => k (ix4 b h d s)) (fun s => g (ix3 b h s)) (inTok (v1 (ix2 b p)) (v6 (ix2 b p)))) s := by
    rw [expR_apply, subR_apply, hs]
    exact congrArg (fun f : Fin 2048 → EReal => Ideal.exp (f s - top _)) hs
  unfold mix
  refine Finset.sum_congr rfl fun s _ => ?_
  rw [wR_apply, normR_apply, gR_apply, pay2_apply]
  simp only [he]
  rfl

end Cert.Attend.Ref

end
-- ==== Proof.Attn.RefRun.lean ====
/- WHAT THE ATTENTION REFERENCE'S RESULT ARRAY HOLDS: its one store is the mathematics of the argument arrays. -/
module

public import proofs.«01_k».proof.Proof.Attn.RefRead

@[expose] public section

noncomputable section

namespace Cert.Attend.Ref

open Cert.AttnReferenceIdeal Cert.AttnReferenceIdeal.Gen Idealize.ShloMosaic Idealize.ShloMosaic.TcCoe Idealize.ShloMosaic.Pointwise Idealize.SL.Sem
open Idealize.ShloMosaic.Pipeline (Dat Window)

/-! ## Reshapes -/

/-- A token's heads. -/
theorem byHead {φ : FTy} (A : FVec Ideal S256x1024 φ) (b : Fin 32) (h : Fin 16) (p : Fin 8) (d : Fin 64) :
    transpose S32x16x8x64 [0, 2, 1, 3] (shapeCast S32x8x16x64 A shapeCasts_S256x1024_S32x8x16x64) transposes_S32x8x16x64_S32x16x8x64_0_2_1_3 (ix4 b h p d) = A (ix2 (tokOf b p) (colOf h d)) := by
  pointwise []
  exact congrArg A (funext fun a => Fin.ext (by fin_cases a; exacts [by show b.val * 8 + p.val = 8 * b.val + p.val; omega, by show h.val * 64 + d.val = 64 * h.val + d.val; omega]))

/-- A sequence's heads. -/
theorem rowsByHead {φ : FTy} (A : FVec Ideal S32x1024x2048 φ) (b : Fin 32) (h : Fin 16) (d : Fin 64) (s : Fin 2048) :
    shapeCast S32x16x64x2048 A shapeCasts_S32x1024x2048_S32x16x64x2048 (ix4 b h d s) = A (ix3 b (colOf h d) s) := by
  pointwise []
  exact congrArg (fun r => A (ix3 b r s)) (Fin.ext (by show h.val * 64 + d.val = 64 * h.val + d.val; omega))

/-! ## What the call finds -/

/-- The tokens' starts. -/
def startW (A : IVec S32x9 32) : IVec S32x8 32 := extractStridedSlice S32x8 ![0, 0] A slices_S32x9_S32x8_0_0

/-- The tokens' stops. -/
def stopW (A : IVec S32x9 32) : IVec S32x8 32 :=
  addi (startW A) (minsi (subi (extractStridedSlice S32x8 ![0, 1] A slices_S32x9_S32x8_0_1) (startW A)) (broadcastInDim S32x8 ![] bcast_S_S32x8 (constantI S_ 32 256#32)))

/-- A token's start. -/
theorem startW_apply (A : IVec S32x9 32) (b : Fin 32) (p : Fin 8) : startW A (ix2 b p) = A (ix2 b p.castSucc) := by
  refine congrArg A (funext fun a => Fin.ext ?_)
  fin_cases a
  · show 0 + b.val = b.val
    omega
  · show 0 + p.val = p.val
    omega

/-- A token's stop. -/
theorem stopW_apply (A : IVec S32x9 32) (b : Fin 32) (p : Fin 8) : stopW A (ix2 b p) = stop (A (ix2 b p.castSucc)) (A (ix2 b p.succ)) := by
  have e : extractStridedSlice S32x8 ![0, 1] A slices_S32x9_S32x8_0_1 (ix2 b p) = A (ix2 b p.succ) := by
    refine congrArg A (funext fun a => Fin.ext ?_)
    fin_cases a
    · show 0 + b.val = b.val
      omega
    · show 1 + p.val = p.val + 1
      omega
  rw [← e, ← startW_apply A b p]
  rfl

variable (m : (ℓ : Loc nD τ sig) → Buf (Elt Ideal) ℓ) (c : Dev nD)

/-- The starts. -/
theorem V_main_v0 : V m c main_v0 = startW (m ((c : Thread nD τ).loc main_arg0)) := by
  show StableHlo.after hostOps0 (fun b => m (c, b)) _ = _
  simp only [hostOps0]
  after_results
  rfl

/-- The stops. -/
theorem V_main_v5 : V m c main_v5 = stopW (m ((c : Thread nD τ).loc main_arg0)) := by
  show StableHlo.after hostOps0 (fun b => m (c, b)) _ = _
  simp only [hostOps0]
  after_results
  rfl

/-- `q` by heads. -/
theorem V_main_v7 : V m c main_v7 = transpose S32x16x8x64 [0, 2, 1, 3] (shapeCast S32x8x16x64 (m ((c : Thread nD τ).loc main_arg1)) shapeCasts_S256x1024_S32x8x16x64) transposes_S32x8x16x64_S32x16x8x64_0_2_1_3 := by
  show StableHlo.after hostOps0 (fun b => m (c, b)) _ = _
  simp only [hostOps0]
  after_results
  rfl

/-- The keys by heads. -/
theorem V_main_v8 : V m c main_v8 = shapeCast S32x16x64x2048 (m ((c : Thread nD τ).loc main_arg2)) shapeCasts_S32x1024x2048_S32x16x64x2048 := by
  show StableHlo.after hostOps0 (fun b => m (c, b)) _ = _
  simp only [hostOps0]
  after_results
  rfl

/-- The values by heads. -/
theorem V_main_v9 : V m c main_v9 = shapeCast S32x16x64x2048 (m ((c : Thread nD τ).loc main_arg4)) shapeCasts_S32x1024x2048_S32x16x64x2048 := by
  show StableHlo.after hostOps0 (fun b => m (c, b)) _ = _
  simp only [hostOps0]
  after_results
  rfl

/-- Operand 0, whole. -/
theorem iblk0_eq (t : Fin cfg0.N) : (iblk m c 0 t : Vec Ideal S32x8 .i32) = V m c main_v0 := by
  funext y
  show V m c main_v0 ((win0_0.rect t).emb y) = V m c main_v0 y
  refine congrArg (V m c main_v0) (funext fun a => Fin.ext ?_)
  exact Window.rect_emb_val_of_index_zero win0_0 t a (by fin_cases a <;> rfl) y

/-- Operand 1, whole. -/
theorem iblk1_eq (t : Fin cfg0.N) : (iblk m c 1 t : Vec Ideal S32x8 .i32) = V m c main_v5 := by
  funext y
  show V m c main_v5 ((win0_1.rect t).emb y) = V m c main_v5 y
  refine congrArg (V m c main_v5) (funext fun a => Fin.ext ?_)
  exact Window.rect_emb_val_of_index_zero win0_1 t a (by fin_cases a <;> rfl) y

/-- Operand 2, whole. -/
theorem iblk2_eq (t : Fin cfg0.N) : (iblk m c 2 t : Vec Ideal S32x16x8x64 .bf16) = V m c main_v7 := by
  funext y
  show V m c main_v7 ((win0_2.rect t).emb y) = V m c main_v7 y
  refine congrArg (V m c main_v7) (funext fun a => Fin.ext ?_)
  exact Window.rect_emb_val_of_index_zero win0_2 t a (by fin_cases a <;> rfl) y

/-- Operand 3, whole. -/
theorem iblk3_eq (t : Fin cfg0.N) : (iblk m c 3 t : Vec Ideal S32x16x64x2048 .fp8e4m3) = V m c main_v8 := by
  funext y
  show V m c main_v8 ((win0_3.rect t).emb y) = V m c main_v8 y
  refine congrArg (V m c main_v8) (funext fun a => Fin.ext ?_)
  exact Window.rect_emb_val_of_index_zero win0_3 t a (by fin_cases a <;> rfl) y

/-- Operand 4, whole. -/
theorem iblk4_eq (t : Fin cfg0.N) : (iblk m c 4 t : Vec Ideal S32x16x2048 .f32) = V m c main_arg3 := by
  funext y
  show V m c main_arg3 ((win0_4.rect t).emb y) = V m c main_arg3 y
  refine congrArg (V m c main_arg3) (funext fun a => Fin.ext ?_)
  exact Window.rect_emb_val_of_index_zero win0_4 t a (by fin_cases a <;> rfl) y

/-- Operand 5, whole. -/
theorem iblk5_eq (t : Fin cfg0.N) : (iblk m c 5 t : Vec Ideal S32x16x64x2048 .fp8e4m3) = V m c main_v9 := by
  funext y
  show V m c main_v9 ((win0_5.rect t).emb y) = V m c main_v9 y
  refine congrArg (V m c main_v9) (funext fun a => Fin.ext ?_)
  exact Window.rect_emb_val_of_index_zero win0_5 t a (by fin_cases a <;> rfl) y

/-- Operand 6, whole. -/
theorem iblk6_eq (t : Fin cfg0.N) : (iblk m c 6 t : Vec Ideal S32x16x2048 .f32) = V m c main_arg5 := by
  funext y
  show V m c main_arg5 ((win0_6.rect t).emb y) = V m c main_arg5 y
  refine congrArg (V m c main_arg5) (funext fun a => Fin.ext ?_)
  exact Window.rect_emb_val_of_index_zero win0_6 t a (by fin_cases a <;> rfl) y

/-! ## The store -/

/-- The body's store, whole. -/
theorem out0_7_eq (x0 x1 : Vec Ideal S32x8 .i32) (x2 : Vec Ideal S32x16x8x64 .bf16) (x3 : Vec Ideal S32x16x64x2048 .fp8e4m3) (x4 : Vec Ideal S32x16x2048 .f32) (x5 : Vec Ideal S32x16x64x2048 .fp8e4m3) (x6 : Vec Ideal S32x16x2048 .f32) :
    out0_7 x0 x1 x2 x3 x4 x5 x6 = k0_pay1 (k0_pay2 x5) (k0_pay3 x0 x1 x2 x3 x4) x6 := by
  unfold out0_7
  rw [View.canon_unit_zero (S := S32x8x1024) (off := ![0, 0, 0]) (by funext a; fin_cases a <;> rfl)]
  have h0 (x : Vec Ideal S32x8 .i32) : View.ld x r0_0 = x := View.ld_unit_zero (S := S32x8) (off := ![0, 0]) (by funext a; fin_cases a <;> rfl) _ _
  have h1 (x : Vec Ideal S32x16x8x64 .bf16) : View.ld x r0_1 = x := View.ld_unit_zero (S := S32x16x8x64) (off := ![0, 0, 0, 0]) (by funext a; fin_cases a <;> rfl) _ _
  have h2 (x : Vec Ideal S32x16x64x2048 .fp8e4m3) : View.ld x r0_2 = x := View.ld_unit_zero (S := S32x16x64x2048) (off := ![0, 0, 0, 0]) (by funext a; fin_cases a <;> rfl) _ _
  have h3 (x : Vec Ideal S32x16x2048 .f32) : View.ld x r0_3 = x := View.ld_unit_zero (S := S32x16x2048) (off := ![0, 0, 0]) (by funext a; fin_cases a <;> rfl) _ _
  rw [h0, h0, h1, h2, h2, h3, h3]

/-- The context of a device's arguments. -/
def aCtx : (⟨3, ![32, 8, 1024]⟩ : Shape).Idx → EReal :=
  valCtx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body computes of the arrays it finds is the context. -/
theorem body_ctx (A : IVec S32x9 32) (Q : FVec Ideal S256x1024 .bf16) (K V : FVec Ideal S32x1024x2048 .fp8e4m3) (G R : FVec Ideal S32x16x2048 .f32) (b : Fin 32) (p : Fin 8) (e : Fin 1024) :
    k0_pay1 (k0_pay2 (shapeCast S32x16x64x2048 V shapeCasts_S32x1024x2048_S32x16x64x2048)) (k0_pay3 (F := Ideal) (startW A) (stopW A)
      (transpose S32x16x8x64 [0, 2, 1, 3] (shapeCast S32x8x16x64 Q shapeCasts_S256x1024_S32x8x16x64) transposes_S32x8x16x64_S32x16x8x64_0_2_1_3 : FVec Ideal S32x16x8x64 .bf16)
      (shapeCast S32x16x64x2048 K shapeCasts_S32x1024x2048_S32x16x64x2048 : FVec Ideal S32x16x64x2048 .fp8e4m3) G) R (ix3 b p e) = valCtx A Q K G V R (ix3 b p e) := by
  rw [body_apply, startW_apply, stopW_apply]
  simp only [rowsByHead]
  exact congrArg (fun f : Fin 64 → EReal => mix (score f _ _ _) _ _ _) (funext fun d => byHead (φ := .bf16) Q b (Cert.KV.headOf e) p d)

/-- What the one point writes back. -/
theorem flushed7_at (t : Fin cfg0.N) (b : Fin 32) (p : Fin 8) (e : Fin 1024) : (dats m 0 c).flushed 7 t (ix3 b p e : S32x8x1024.Idx) = aCtx m c (ix3 b p e) := by
  have h : (dats m 0 c).flushed 7 t = out0_7 (iblk m c 0 t) (iblk m c 1 t) (iblk m c 2 t) (iblk m c 3 t) (iblk m c 4 t) (iblk m c 5 t) (iblk m c 6 t) := by
    rw [← after0_7]
  rw [h, out0_7_eq, iblk0_eq, iblk1_eq, iblk2_eq, iblk3_eq, iblk4_eq, iblk5_eq, iblk6_eq, V_main_v0, V_main_v5, V_main_v7, V_main_v8, V_main_v9, V_main_arg3, V_main_arg5]
  exact body_ctx _ _ _ _ _ _ b p e

/-- The only point. -/
def t0 : Fin cfg0.N := ⟨0, by decide⟩

/-- The result array is the context. -/
theorem arr7 : (dats m 0 c).arrAt 7 cfg0.N = aCtx m c := by
  refine funext fun (i : S32x8x1024.Idx) => ?_
  obtain ⟨b, p, e, rfl⟩ : ∃ (b : Fin 32) (p : Fin 8) (e : Fin 1024), i = ix3 b p e := ⟨i 0, i 1, i 2, by funext a; fin_cases a <;> rfl⟩
  have h : (ix3 b p e : S32x8x1024.Idx) = ((cfg0.win 7).blk t0).view.emb (ix3 b p e : S32x8x1024.Idx) := by
    show _ = (win0_7.rect t0).emb (ix3 b p e : S32x8x1024.Idx)
    funext a
    exact Fin.ext (Window.rect_emb_val_of_index_zero win0_7 t0 a (by fin_cases a <;> rfl) _).symm
  rw [h, (dats m 0 c).arrAt_emb_eq_flushed 7 Value.disjoint7 t0 (flush0_7 _), ← h]
  exact flushed7_at m c t0 b p e

end Cert.Attend.Ref

end
-- ==== Proof.Attn.Equal.lean ====
/- THE EQUATION for attention: from the same arguments the kernel and the reference both run, and their context is the same
   array. -/
module

public import proofs.«01_k».proof.Proof.Attn.Run
public import proofs.«01_k».proof.Proof.Attn.RefRun
public import proofs.«01_k».proof.Defs

@[expose] public section

noncomputable section

namespace Cert.Attend

open Idealize.ShloMosaic Idealize.ShloMosaic.TcCoe Idealize.SL.Sem

section kernel

open Cert.AttnIdeal Cert.AttnIdeal.Gen

variable (m : (ℓ : Loc nD τ sig) → Buf (Elt Ideal) ℓ) (g : Dev nD → PrngReg)

set_option maxHeartbeats 4000000 in
/-- The kernel runs, ends with the context as the mathematics of its arguments, and leaves the arguments as they were. -/
theorem kernel_run : θ_run (defs (F := Ideal)) (onTc (τ := τ) (main (F := Ideal))) ⟨m, fun _ => 0, g⟩ fun r => ∀ c : Dev nD,
    r.2.mem ((c : Thread nD τ).loc main_v1) = aCtx m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨((h c).1 6).trans (arr6 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m g)

end kernel

/-- The kernel and the reference, from the same arguments, end with the same context. -/
theorem algebraic : Cert.algebraic_AttnIdeal_AttnReferenceIdeal (hAttnIdeal := Cert.AttnIdeal.Gen.facts) (hAttnReferenceIdeal := Cert.AttnReferenceIdeal.Gen.facts) := by
  intro m g m' g' _ hargs
  refine ⟨fun c => aCtx m c, kernel_run m g, ?_⟩
  refine (θ_run Cert.AttnReferenceIdeal.defs _ _).mono (fun r h c => ?_) (Cert.AttnReferenceIdeal.Value.run_blocks m' g')
  obtain ⟨h7, hrest⟩ := h c
  obtain ⟨e0, e1, e2, e3, e4, e5⟩ := hargs c
  have e : Ref.aCtx m' c = aCtx m c := by
    unfold Ref.aCtx aCtx
    rw [e0, e1, e2, e3, e4, e5]
  rw [Ref.arr7, e] at h7
  exact ⟨h7, hrest⟩

end Cert.Attend

end
-- ==== Proof.lean ====
/- THE PROOF OF THE CLAIMS. The nine frames are the generated ones; no operation is rewritten by the idealization; the
   equations of the three kernels with their references are `Cert.KV.algebraic` (Proof/KV/Equal.lean),
   `Cert.FfnTail.algebraic` (Proof/FfnTail/Equal.lean) and `Cert.Attend.algebraic` (Proof/Attn/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailReferenceIdeal.Skeleton
public import proofs.«01_k».proof.Proof.Gen.TailReferenceIdeal.Launch
public import proofs.«01_k».proof.Proof.Gen.TailReferenceIdeal.Points
public import proofs.«01_k».proof.Proof.Gen.TailReferenceIdeal.Frame
public import proofs.«01_k».proof.Proof.Gen.TailReferenceIdeal.Value
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.AttnReferenceIdeal.Skeleton
public import proofs.«01_k».proof.Proof.Gen.AttnReferenceIdeal.Launch
public import proofs.«01_k».proof.Proof.Gen.AttnReferenceIdeal.Points
public import proofs.«01_k».proof.Proof.Gen.AttnReferenceIdeal.Frame
public import proofs.«01_k».proof.Proof.Gen.AttnReferenceIdeal.Value
public import proofs.«01_k».proof.Proof.KV.Equal
public import proofs.«01_k».proof.Proof.FfnTail.Equal
public import proofs.«01_k».proof.Proof.Attn.Equal
public import Idealize.ShloMosaic.Adequacy
public import Idealize.ShloMosaic.Init

@[expose] public section

noncomputable section

namespace Cert.Proof

open Idealize.ShloMosaic Idealize.SL.Sem Cert.Kernel

/-- Each of the three kernels and its reading over the extended reals run and leave their arguments as they were, so does
    each reference, and each kernel ends with the same results as its reference: six of the first, nine of the second, the
    context of the third. -/
theorem claim : Cert.Claim :=
  ⟨Cert.Kernel.Gen.facts, Cert.KernelIdeal.Gen.facts, Cert.ReferenceIdeal.Gen.facts,
    Cert.Tail.Gen.facts, Cert.TailIdeal.Gen.facts, Cert.TailReferenceIdeal.Gen.facts,
    Cert.Attn.Gen.facts, Cert.AttnIdeal.Gen.facts, Cert.AttnReferenceIdeal.Gen.facts,
    fun m ρ _ => Cert.Kernel.Gen.frame m ρ, fun m ρ _ => Cert.KernelIdeal.Gen.frame m ρ,
    fun m ρ _ => Cert.ReferenceIdeal.Gen.frame m ρ,
    fun m ρ _ => Cert.Tail.Gen.frame m ρ, fun m ρ _ => Cert.TailIdeal.Gen.frame m ρ,
    fun m ρ _ => Cert.TailReferenceIdeal.Gen.frame m ρ,
    fun m ρ _ => Cert.Attn.Gen.frame m ρ, fun m ρ _ => Cert.AttnIdeal.Gen.frame m ρ,
    fun m ρ _ => Cert.AttnReferenceIdeal.Gen.frame m ρ,
    trivial, Cert.KV.algebraic, trivial, Cert.FfnTail.algebraic, trivial, Cert.Attend.algebraic⟩

end Cert.Proof

end
